-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
-- ==== Pre_finite_inputs.lean ====
abbrev S12x4096x9728 : Shape := ⟨3, ![12, 4096, 9728]⟩
abbrev S2x64 : Shape := ⟨2, ![2, 64]⟩
abbrev S4x64 : Shape := ⟨2, ![4, 64]⟩
abbrev S1 : Shape := ⟨1, ![1]⟩
abbrev S128 : Shape := ⟨1, ![128]⟩
abbrev S12x4096x1536 : Shape := ⟨3, ![12, 4096, 1536]⟩
abbrev S_ : Shape := ⟨0, ![]⟩

class Facts : Prop where
  slices_S12x4096x9728_S12x4096x1536_0_0_7680 : S12x4096x9728.Slices ![0, 0, 7680] S12x4096x1536
  bitsLt_bf16_f32 : FTy.bits .bf16 < FTy.bits .f32
  bcast_S_S12x4096x1536 : S_.BroadcastsInDim S12x4096x1536 (![] : Fin 0 → Fin S12x4096x1536.rank)
  bcast_S_S2x64 : S_.BroadcastsInDim S2x64 (![] : Fin 0 → Fin S2x64.rank)
  bcast_S_S4x64 : S_.BroadcastsInDim S4x64 (![] : Fin 0 → Fin S4x64.rank)
  bcast_S_S1 : S_.BroadcastsInDim S1 (![] : Fin 0 → Fin S1.rank)

variable [Facts]

def fn {F : FTy → Type} [FloatOps F] (main_arg0 : FVec F S12x4096x9728 .bf16) (main_arg1 : FVec F S2x64 .f32) (main_arg2 : FVec F S2x64 .f32) (main_arg3 : FVec F S4x64 .f32) (main_arg4 : FVec F S1 .f32) (main_arg5 : FVec F S128 .f32) : IVec S12x4096x1536 1 × IVec S2x64 1 × IVec S2x64 1 × IVec S4x64 1 × IVec S1 1 :=
  let main_v0 : FVec F S12x4096x1536 .bf16 := (extractStridedSlice S12x4096x1536 ![0, 0, 7680] · slices_S12x4096x9728_S12x4096x1536_0_0_7680) main_arg0
  let main_v1 : FVec F S12x4096x1536 .f32 := (extf .f32 · bitsLt_bf16_f32) main_v0
  let main_v2 : FVec F S12x4096x1536 .f32 := Host.absf main_v1
  let main_cst : FVec F S_ .f32 := constant S_ .f32 0x7F800000#32
  let main_v3 : FVec F S12x4096x1536 .f32 := broadcastInDim S12x4096x1536 ![] bcast_S_S12x4096x1536 main_cst
  let main_v4 : IVec S12x4096x1536 1 := cmpf .olt main_v2 main_v3
  let main_v5 : FVec F S2x64 .f32 := Host.absf main_arg1
  let main_cst_0 : FVec F S_ .f32 := constant S_ .f32 0x7F800000#32
  let main_v6 : FVec F S2x64 .f32 := broadcastInDim S2x64 ![] bcast_S_S2x64 main_cst_0
  let main_v7 : IVec S2x64 1 := cmpf .olt main_v5 main_v6
  let main_v8 : FVec F S2x64 .f32 := Host.absf main_arg2
  let main_cst_1 : FVec F S_ .f32 := constant S_ .f32 0x7F800000#32
  let main_v9 : FVec F S2x64 .f32 := broadcastInDim S2x64 ![] bcast_S_S2x64 main_cst_1
  let main_v10 : IVec S2x64 1 := cmpf .olt main_v8 main_v9
  let main_v11 : FVec F S4x64 .f32 := Host.absf main_arg3
  let main_cst_2 : FVec F S_ .f32 := constant S_ .f32 0x7F800000#32
  let main_v12 : FVec F S4x64 .f32 := broadcastInDim S4x64 ![] bcast_S_S4x64 main_cst_2
  let main_v13 : IVec S4x64 1 := cmpf .olt main_v11 main_v12
  let main_v14 : FVec F S1 .f32 := Host.absf main_arg4
  let main_cst_3 : FVec F S_ .f32 := constant S_ .f32 0x7F800000#32
  let main_v15 : FVec F S1 .f32 := broadcastInDim S1 ![] bcast_S_S1 main_cst_3
  let main_v16 : IVec S1 1 := cmpf .olt main_v14 main_v15
  (main_v4, main_v7, main_v10, main_v13, main_v16)
-- ==== Kernel.lean ====
abbrev S12x4096x9728 : Shape := ⟨3, ![12, 4096, 9728]⟩
abbrev S2x64 : Shape := ⟨2, ![2, 64]⟩
abbrev S4x64 : Shape := ⟨2, ![4, 64]⟩
abbrev S1 : Shape := ⟨1, ![1]⟩
abbrev S128 : Shape := ⟨1, ![128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩
abbrev S1x64 : Shape := ⟨2, ![1, 64]⟩
abbrev S64 : Shape := ⟨1, ![64]⟩
abbrev S1x128 : Shape := ⟨2, ![1, 128]⟩
abbrev S12x4096x512 : Shape := ⟨3, ![12, 4096, 512]⟩
abbrev S1x1024x128 : Shape := ⟨3, ![1, 1024, 128]⟩
abbrev S1024x128 : Shape := ⟨2, ![1024, 128]⟩
abbrev S128x128 : Shape := ⟨2, ![128, 128]⟩
abbrev S2 : Shape := ⟨1, ![2]⟩
abbrev S1x2048x128 : Shape := ⟨3, ![1, 2048, 128]⟩
abbrev S1x4096x128 : Shape := ⟨3, ![1, 4096, 128]⟩
abbrev S1x256x128 : Shape := ⟨3, ![1, 256, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 74
  | .vmem => 27
  | .smem => 1
  | _ => 0

abbrev bufTy : (tb : Table) → Fin (tcTables nBuf tb) → BufTy
  | .hbm, ⟨0, _⟩ => ⟨S12x4096x9728, .bf16⟩
  | .hbm, ⟨1, _⟩ => ⟨S2x64, .f32⟩
  | .hbm, ⟨2, _⟩ => ⟨S2x64, .f32⟩
  | .hbm, ⟨3, _⟩ => ⟨S4x64, .f32⟩
  | .hbm, ⟨4, _⟩ => ⟨S1, .f32⟩
  | .hbm, ⟨5, _⟩ => ⟨S128, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S4096, .f32⟩
  | .hbm, ⟨23, _⟩ => ⟨S4096x1, .f32⟩
  | .hbm, ⟨24, _⟩ => ⟨S1x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S_, .f32⟩
  | .hbm, ⟨33, _⟩ => ⟨S4096x48, .f32⟩
  | .hbm, ⟨34, _⟩ => ⟨S_, .f32⟩
  | .hbm, ⟨35, _⟩ => ⟨S4096x8, .f32⟩
  | .hbm, ⟨36, _⟩ => ⟨S4096x64, .f32⟩
  | .hbm, ⟨37, _⟩ => ⟨S4096x64, .f32⟩
  | .hbm, ⟨38, _⟩ => ⟨S4096x8, .f32⟩
  | .hbm, ⟨39, _⟩ => ⟨S4096x64, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x64, .f32⟩
  | .hbm, ⟨52, _⟩ => ⟨S64, .f32⟩
  | .hbm, ⟨53, _⟩ => ⟨S1x64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S12x4096x512, .bf16⟩
  | .hbm, ⟨63, _⟩ => ⟨S12x4096x512, .bf16⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S1, .f32⟩
  | .hbm, ⟨71, _⟩ => ⟨S2, .f32⟩
  | .hbm, ⟨72, _⟩ => ⟨S1x128, .f32⟩
  | .hbm, ⟨73, _⟩ => ⟨S12x4096x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x128, .f32⟩
  | .local _ .vmem, ⟨25, _⟩ => ⟨S1x2048x128, .bf16⟩
  | .local _ .vmem, ⟨26, _⟩ => ⟨S1x2048x128, .bf16⟩
  | .local _ .smem, ⟨0, _⟩ => ⟨S2, .f32⟩
  | _, _ => ⟨S12x4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨3, ![12, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c60_i32 : BitVec 32 := 60#32
  let v0 : BitVec 32 := Scalar.addi c60_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg2
  let c0_i32 : BitVec 32 := 0#32
  ![arg0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev grid1 : Pipeline.Grid := ⟨3, ![12, 4, 2], ![false, false, false]⟩

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c68_i32 : BitVec 32 := 68#32
  let v0 : BitVec 32 := Scalar.addi c68_i32 arg1
  let c0_i32 : BitVec 32 := 0#32
  let c0_i32_0 : BitVec 32 := 0#32
  ![arg0.toNat, c0_i32.toNat, v0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c72_i32 : BitVec 32 := 72#32
  let v0 : BitVec 32 := Scalar.addi c72_i32 arg1
  let c0_i32 : BitVec 32 := 0#32
  ![arg0.toNat, arg2.toNat, v0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "q_scale" => some ((8⁻¹ * (Real.log 2)⁻¹ : ℝ) : EReal)
  | _ => none
-- ==== ReferenceIdeal.lean ====
abbrev S12x4096x9728 : Shape := ⟨3, ![12, 4096, 9728]⟩
abbrev S2x64 : Shape := ⟨2, ![2, 64]⟩
abbrev S4x64 : Shape := ⟨2, ![4, 64]⟩
abbrev S1 : Shape := ⟨1, ![1]⟩
abbrev S128 : Shape := ⟨1, ![128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S12x4096x512 : Shape := ⟨3, ![12, 4096, 512]⟩
abbrev S1x64 : Shape := ⟨2, ![1, 64]⟩
abbrev S64 : Shape := ⟨1, ![64]⟩
abbrev S12x4096x4x2x64 : Shape := ⟨5, ![12, 4096, 4, 2, 64]⟩
abbrev S12x4096x4x2 : Shape := ⟨4, ![12, 4096, 4, 2]⟩
abbrev S12x4096x4x2x1 : Shape := ⟨5, ![12, 4096, 4, 2, 1]⟩
abbrev S1x1x1x2x64 : Shape := ⟨5, ![1, 1, 1, 2, 64]⟩
abbrev S1x4096x1x1x8 : Shape := ⟨5, ![1, 4096, 1, 1, 8]⟩
abbrev S12x4096x4x2x8 : Shape := ⟨5, ![12, 4096, 4, 2, 8]⟩
abbrev S12x4096x4x2x48 : Shape := ⟨5, ![12, 4096, 4, 2, 48]⟩
abbrev S12x4096x4x128 : Shape := ⟨4, ![12, 4096, 4, 128]⟩
abbrev S12x4x2x4096x4096 : Shape := ⟨5, ![12, 4, 2, 4096, 4096]⟩
abbrev S12x4x2x4096 : Shape := ⟨4, ![12, 4, 2, 4096]⟩
abbrev S12x4x2x4096x1 : Shape := ⟨5, ![12, 4, 2, 4096, 1]⟩
abbrev S12x4x1x4096x4096 : Shape := ⟨5, ![12, 4, 1, 4096, 4096]⟩
abbrev S12x4x4096x4096 : Shape := ⟨4, ![12, 4, 4096, 4096]⟩
abbrev S12x4x128x4096 : Shape := ⟨4, ![12, 4, 128, 4096]⟩
abbrev S12x4096x4 : Shape := ⟨3, ![12, 4096, 4]⟩
abbrev S12x4096x4x1 : Shape := ⟨4, ![12, 4096, 4, 1]⟩
abbrev S1x1x1x128 : Shape := ⟨4, ![1, 1, 1, 128]⟩

abbrev nBuf : Space → Nat
  | .hbm => 184
  | .vmem => 0
  | .smem => 0
  | _ => 0

abbrev hbmTy0_0 (i : Nat) : BufTy := match i % 128 with
  | 0 => ⟨S12x4096x9728, .bf16⟩
  | 1 => ⟨S2x64, .f32⟩
  | 2 => ⟨S2x64, .f32⟩
  | 3 => ⟨S4x64, .f32⟩
  | 4 => ⟨S1, .f32⟩
  | 5 => ⟨S128, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S4096, .f32⟩
  | 23 => ⟨S4096x1, .f32⟩
  | 24 => ⟨S1x8, .f32⟩
  | 25 => ⟨S4096x8, .f32⟩
  | 26 => ⟨S4096x8, .f32⟩
  | 27 => ⟨S4096x8, .f32⟩
  | 28 => ⟨S4096x8, .f32⟩
  | 29 => ⟨S4096x8, .f32⟩
  | 30 => ⟨S12x4096x512, .bf16⟩
  | 31 => ⟨S12x4096x512, .f32⟩
  | 32 => ⟨S12x4096x512, .bf16⟩
  | 33 => ⟨S12x4096x512, .f32⟩
  | 34 => ⟨S12x4096x512, .bf16⟩
  | 35 => ⟨S12x4096x512, .f32⟩
  | 36 => ⟨S12x4096x512, .bf16⟩
  | 37 => ⟨S12x4096x512, .f32⟩
  | 38 => ⟨S1x64, .f32⟩
  | 39 => ⟨S64, .f32⟩
  | 40 => ⟨S1x64, .f32⟩
  | 41 => ⟨S64, .f32⟩
  | 42 => ⟨S64, .f32⟩
  | 43 => ⟨S_, .f32⟩
  | 44 => ⟨S_, .f32⟩
  | 45 => ⟨S_, .f32⟩
  | 46 => ⟨S1x64, .f32⟩
  | 47 => ⟨S64, .f32⟩
  | 48 => ⟨S1x64, .f32⟩
  | 49 => ⟨S64, .f32⟩
  | 50 => ⟨S64, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S12x4096x4x2x64, .f32⟩
  | 58 => ⟨S12x4096x4x2x64, .f32⟩
  | 59 => ⟨S_, .f32⟩
  | 60 => ⟨S12x4096x4x2, .f32⟩
  | 61 => ⟨S12x4096x4x2x1, .f32⟩
  | 62 => ⟨S_, .f32⟩
  | 63 => ⟨S12x4096x4x2x1, .f32⟩
  | 64 => ⟨S12x4096x4x2x1, .f32⟩
  | 65 => ⟨S_, .f32⟩
  | 66 => ⟨S12x4096x4x2x1, .f32⟩
  | 67 => ⟨S12x4096x4x2x1, .f32⟩
  | 68 => ⟨S12x4096x4x2x1, .f32⟩
  | 69 => ⟨S12x4096x4x2x64, .f32⟩
  | 70 => ⟨S12x4096x4x2x64, .f32⟩
  | 71 => ⟨S1x1x1x2x64, .f32⟩
  | 72 => ⟨S12x4096x4x2x64, .f32⟩
  | 73 => ⟨S12x4096x4x2x64, .f32⟩
  | 74 => ⟨S1x4096x1x1x8, .f32⟩
  | 75 => ⟨S1x4096x1x1x8, .f32⟩
  | 76 => ⟨S12x4096x4x2x8, .f32⟩
  | 77 => ⟨S12x4096x4x2x8, .f32⟩
  | 78 => ⟨S12x4096x4x2x8, .f32⟩
  | 79 => ⟨S12x4096x4x2x8, .f32⟩
  | 80 => ⟨S12x4096x4x2x8, .f32⟩
  | 81 => ⟨S12x4096x4x2x8, .f32⟩
  | 82 => ⟨S12x4096x4x2x8, .f32⟩
  | 83 => ⟨S12x4096x4x2x8, .f32⟩
  | 84 => ⟨S12x4096x4x2x8, .f32⟩
  | 85 => ⟨S12x4096x4x2x8, .f32⟩
  | 86 => ⟨S12x4096x4x2x8, .f32⟩
  | 87 => ⟨S12x4096x4x2x8, .f32⟩
  | 88 => ⟨S12x4096x4x2x48, .f32⟩
  | 89 => ⟨S12x4096x4x2x64, .f32⟩
  | 90 => ⟨S_, .f32⟩
  | 91 => ⟨S12x4096x4x2x64, .f32⟩
  | 92 => ⟨S12x4096x4x2x64, .f32⟩
  | 93 => ⟨S12x4096x4x2x64, .f32⟩
  | 94 => ⟨S12x4096x4x2x64, .f32⟩
  | 95 => ⟨S_, .f32⟩
  | 96 => ⟨S12x4096x4x2, .f32⟩
  | 97 => ⟨S12x4096x4x2x1, .f32⟩
  | 98 => ⟨S_, .f32⟩
  | 99 => ⟨S12x4096x4x2x1, .f32⟩
  | 100 => ⟨S12x4096x4x2x1, .f32⟩
  | 101 => ⟨S_, .f32⟩
  | 102 => ⟨S12x4096x4x2x1, .f32⟩
  | 103 => ⟨S12x4096x4x2x1, .f32⟩
  | 104 => ⟨S12x4096x4x2x1, .f32⟩
  | 105 => ⟨S12x4096x4x2x64, .f32⟩
  | 106 => ⟨S12x4096x4x2x64, .f32⟩
  | 107 => ⟨S1x1x1x2x64, .f32⟩
  | 108 => ⟨S12x4096x4x2x64, .f32⟩
  | 109 => ⟨S12x4096x4x2x64, .f32⟩
  | 110 => ⟨S1x4096x1x1x8, .f32⟩
  | 111 => ⟨S1x4096x1x1x8, .f32⟩
  | 112 => ⟨S12x4096x4x2x8, .f32⟩
  | 113 => ⟨S12x4096x4x2x8, .f32⟩
  | 114 => ⟨S12x4096x4x2x8, .f32⟩
  | 115 => ⟨S12x4096x4x2x8, .f32⟩
  | 116 => ⟨S12x4096x4x2x8, .f32⟩
  | 117 => ⟨S12x4096x4x2x8, .f32⟩
  | 118 => ⟨S12x4096x4x2x8, .f32⟩
  | 119 => ⟨S12x4096x4x2x8, .f32⟩
  | 120 => ⟨S12x4096x4x2x8, .f32⟩
  | 121 => ⟨S12x4096x4x2x8, .f32⟩
  | 122 => ⟨S12x4096x4x2x8, .f32⟩
  | 123 => ⟨S12x4096x4x2x8, .f32⟩
  | 124 => ⟨S12x4096x4x2x48, .f32⟩
  | 125 => ⟨S12x4096x4x2x64, .f32⟩
  | 126 => ⟨S12x4096x4x128, .f32⟩
  | 127 => ⟨S12x4x2x4096x4096, .f32⟩
  | _ => ⟨S12x4096x9728, .bf16⟩

abbrev hbmTy0_1 (i : Nat) : BufTy := match i % 128 with
  | 0 => ⟨S_, .f32⟩
  | 1 => ⟨S12x4x2x4096, .f32⟩
  | 2 => ⟨S_, .f32⟩
  | 3 => ⟨S12x4x2x4096, .f32⟩
  | 4 => ⟨S12x4x2x4096, .f32⟩
  | 5 => ⟨S12x4x2x4096x1, .f32⟩
  | 6 => ⟨S12x4x2x4096x4096, .f32⟩
  | 7 => ⟨S12x4x2x4096x4096, .f32⟩
  | 8 => ⟨S12x4x2x4096x4096, .f32⟩
  | 9 => ⟨S_, .f32⟩
  | 10 => ⟨S12x4x2x4096, .f32⟩
  | 11 => ⟨S12x4x2x4096x1, .f32⟩
  | 12 => ⟨S12x4x2x4096x4096, .f32⟩
  | 13 => ⟨S12x4x2x4096x4096, .f32⟩
  | 14 => ⟨S12x4x1x4096x4096, .f32⟩
  | 15 => ⟨S12x4x4096x4096, .f32⟩
  | 16 => ⟨S12x4x1x4096x4096, .f32⟩
  | 17 => ⟨S12x4x4096x4096, .f32⟩
  | 18 => ⟨S12x4x4096x4096, .f32⟩
  | 19 => ⟨S12x4x4096x4096, .f32⟩
  | 20 => ⟨S12x4x4096x4096, .f32⟩
  | 21 => ⟨S12x4x128x4096, .f32⟩
  | 22 => ⟨S12x4096x4x128, .f32⟩
  | 23 => ⟨S12x4096x4x128, .f32⟩
  | 24 => ⟨S_, .f32⟩
  | 25 => ⟨S12x4096x4, .f32⟩
  | 26 => ⟨S12x4096x4x1, .f32⟩
  | 27 => ⟨S_, .f32⟩
  | 28 => ⟨S12x4096x4x1, .f32⟩
  | 29 => ⟨S12x4096x4x1, .f32⟩
  | 30 => ⟨S_, .f32⟩
  | 31 => ⟨S12x4096x4x1, .f32⟩
  | 32 => ⟨S12x4096x4x1, .f32⟩
  | 33 => ⟨S12x4096x4x1, .f32⟩
  | 34 => ⟨S12x4096x4x128, .f32⟩
  | 35 => ⟨S12x4096x4x128, .f32⟩
  | 36 => ⟨S1x1x1x128, .f32⟩
  | 37 => ⟨S12x4096x4x128, .f32⟩
  | 38 => ⟨S12x4096x4x128, .f32⟩
  | 39 => ⟨S12x4096x512, .f32⟩
  | 40 => ⟨S_, .f32⟩
  | 41 => ⟨S_, .f32⟩
  | 42 => ⟨S_, .f32⟩
  | 43 => ⟨S12x4096x512, .f32⟩
  | 44 => ⟨S12x4096x512, .f32⟩
  | 45 => ⟨S12x4096x512, .f32⟩
  | 46 => ⟨S12x4096x512, .f32⟩
  | 47 => ⟨S_, .f32⟩
  | 48 => ⟨S12x4096x512, .f32⟩
  | 49 => ⟨S12x4096x512, .f32⟩
  | 50 => ⟨S_, .f32⟩
  | 51 => ⟨S12x4096x512, .f32⟩
  | 52 => ⟨S12x4096x512, .f32⟩
  | 53 => ⟨S12x4096x512, .f32⟩
  | 54 => ⟨S12x4096x512, .f32⟩
  | 55 => ⟨S12x4096x512, .bf16⟩
  | _ => ⟨S12x4096x9728, .bf16⟩

abbrev hbmTy (i : Nat) : BufTy := match i / 128 with
  | 0 => hbmTy0_0 i
  | 1 => hbmTy0_1 i
  | _ => ⟨S12x4096x9728, .bf16⟩

abbrev bufTy : (tb : Table) → Fin (tcTables nBuf tb) → BufTy
  | .hbm, ⟨i, _⟩ => hbmTy i
  | _, _ => ⟨S12x4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_10 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_13 : Ref sig .tc := ⟨.hbm, 128, rfl⟩
abbrev main_v108 : Ref sig .tc := ⟨.hbm, 129, rfl⟩
abbrev main_cst_14 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_15 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_16 : Ref sig .tc := ⟨.hbm, 152, rfl⟩
abbrev main_v129 : Ref sig .tc := ⟨.hbm, 153, rfl⟩
abbrev main_v130 : Ref sig .tc := ⟨.hbm, 154, rfl⟩
abbrev main_cst_17 : Ref sig .tc := ⟨.hbm, 155, rfl⟩
abbrev main_v131 : Ref sig .tc := ⟨.hbm, 156, rfl⟩
abbrev main_v132 : Ref sig .tc := ⟨.hbm, 157, rfl⟩
abbrev main_cst_18 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_19 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_call0_v0 : Ref sig .tc := ⟨.hbm, 173, rfl⟩
abbrev main_call0_v1 : Ref sig .tc := ⟨.hbm, 174, rfl⟩
abbrev main_call0_cst : Ref sig .tc := ⟨.hbm, 175, rfl⟩
abbrev main_call0_v2 : Ref sig .tc := ⟨.hbm, 176, rfl⟩
abbrev main_call0_v3 : Ref sig .tc := ⟨.hbm, 177, rfl⟩
abbrev main_call0_cst_0 : Ref sig .tc := ⟨.hbm, 178, rfl⟩
abbrev main_call0_v4 : Ref sig .tc := ⟨.hbm, 179, rfl⟩
abbrev main_call0_v5 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩

abbrev nD : Nat := 1
abbrev τ : Topo := Topo.v7x

variable {F : FTy → Type} [FloatOps F]
-- ==== Kernel2.lean ====
abbrev S49152x1024 : Shape := ⟨2, ![49152, 1024]⟩
abbrev S1024 : Shape := ⟨1, ![1024]⟩
abbrev S1024x9744 : Shape := ⟨2, ![1024, 9744]⟩
abbrev S1024x3072 : Shape := ⟨2, ![1024, 3072]⟩
abbrev S1024x2048 : Shape := ⟨2, ![1024, 2048]⟩
abbrev S1024x4608 : Shape := ⟨2, ![1024, 4608]⟩
abbrev S1024x9728 : Shape := ⟨2, ![1024, 9728]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S49152x9728 : Shape := ⟨2, ![49152, 9728]⟩
abbrev S49152x128 : Shape := ⟨2, ![49152, 128]⟩
abbrev S1024x1024 : Shape := ⟨2, ![1024, 1024]⟩
abbrev S1024x2432 : Shape := ⟨2, ![1024, 2432]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x9744, .f32⟩
  | .hbm, ⟨3, _⟩ => ⟨S1024x3072, .f32⟩
  | .hbm, ⟨4, _⟩ => ⟨S1024x2048, .f32⟩
  | .hbm, ⟨5, _⟩ => ⟨S1024x4608, .f32⟩
  | .hbm, ⟨6, _⟩ => ⟨S1024x9728, .f32⟩
  | .hbm, ⟨7, _⟩ => ⟨S1024x9728, .bf16⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S49152x9728, .bf16⟩
  | .hbm, ⟨15, _⟩ => ⟨S49152x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2432, .bf16⟩
  | .local _ .vmem, ⟨4, _⟩ => ⟨S1024x2432, .bf16⟩
  | .local _ .vmem, ⟨5, _⟩ => ⟨S1024x128, .bf16⟩
  | .local _ .vmem, ⟨6, _⟩ => ⟨S1024x2432, .bf16⟩
  | .local _ .vmem, ⟨7, _⟩ => ⟨S1024x2432, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![48, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S49152x1024 : Shape := ⟨2, ![49152, 1024]⟩
abbrev S1024 : Shape := ⟨1, ![1024]⟩
abbrev S1024x9744 : Shape := ⟨2, ![1024, 9744]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S49152x9744 : Shape := ⟨2, ![49152, 9744]⟩
abbrev S49152x3072 : Shape := ⟨2, ![49152, 3072]⟩
abbrev S49152x2048 : Shape := ⟨2, ![49152, 2048]⟩
abbrev S49152x4608 : Shape := ⟨2, ![49152, 4608]⟩
abbrev S49152x9728 : Shape := ⟨2, ![49152, 9728]⟩
abbrev S49152x16 : Shape := ⟨2, ![49152, 16]⟩
abbrev S49152x112 : Shape := ⟨2, ![49152, 112]⟩
abbrev S49152x128 : Shape := ⟨2, ![49152, 128]⟩

abbrev nBuf : Space → Nat
  | .hbm => 29
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x9744, .f32⟩
  | .hbm, ⟨3, _⟩ => ⟨S49152x1024, .f32⟩
  | .hbm, ⟨4, _⟩ => ⟨S_, .f32⟩
  | .hbm, ⟨5, _⟩ => ⟨S49152, .f32⟩
  | .hbm, ⟨6, _⟩ => ⟨S49152x1, .f32⟩
  | .hbm, ⟨7, _⟩ => ⟨S_, .f32⟩
  | .hbm, ⟨8, _⟩ => ⟨S49152x1, .f32⟩
  | .hbm, ⟨9, _⟩ => ⟨S49152x1, .f32⟩
  | .hbm, ⟨10, _⟩ => ⟨S_, .f32⟩
  | .hbm, ⟨11, _⟩ => ⟨S49152x1, .f32⟩
  | .hbm, ⟨12, _⟩ => ⟨S49152x1, .f32⟩
  | .hbm, ⟨13, _⟩ => ⟨S49152x1, .f32⟩
  | .hbm, ⟨14, _⟩ => ⟨S49152x1024, .f32⟩
  | .hbm, ⟨15, _⟩ => ⟨S49152x1024, .f32⟩
  | .hbm, ⟨16, _⟩ => ⟨S1x1024, .f32⟩
  | .hbm, ⟨17, _⟩ => ⟨S49152x1024, .f32⟩
  | .hbm, ⟨18, _⟩ => ⟨S49152x1024, .f32⟩
  | .hbm, ⟨19, _⟩ => ⟨S49152x9744, .f32⟩
  | .hbm, ⟨20, _⟩ => ⟨S49152x3072, .f32⟩
  | .hbm, ⟨21, _⟩ => ⟨S49152x2048, .f32⟩
  | .hbm, ⟨22, _⟩ => ⟨S49152x4608, .f32⟩
  | .hbm, ⟨23, _⟩ => ⟨S49152x9728, .f32⟩
  | .hbm, ⟨24, _⟩ => ⟨S49152x16, .f32⟩
  | .hbm, ⟨25, _⟩ => ⟨S_, .f32⟩
  | .hbm, ⟨26, _⟩ => ⟨S49152x112, .f32⟩
  | .hbm, ⟨27, _⟩ => ⟨S49152x128, .f32⟩
  | .hbm, ⟨28, _⟩ => ⟨S49152x9728, .bf16⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel3.lean ====
abbrev S49152x1024 : Shape := ⟨2, ![49152, 1024]⟩
abbrev S49152x512 : Shape := ⟨2, ![49152, 512]⟩
abbrev S49152x9728 : Shape := ⟨2, ![49152, 9728]⟩
abbrev S512x1024 : Shape := ⟨2, ![512, 1024]⟩
abbrev S1024x1024 : Shape := ⟨2, ![1024, 1024]⟩
abbrev S32768x1024 : Shape := ⟨2, ![32768, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S49152x1024, .f32⟩
  | .hbm, ⟨1, _⟩ => ⟨S49152x512, .bf16⟩
  | .hbm, ⟨2, _⟩ => ⟨S49152x512, .bf16⟩
  | .hbm, ⟨3, _⟩ => ⟨S49152x512, .bf16⟩
  | .hbm, ⟨4, _⟩ => ⟨S49152x9728, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S49152x1024 : Shape := ⟨2, ![49152, 1024]⟩
abbrev S49152x512 : Shape := ⟨2, ![49152, 512]⟩
abbrev S49152x9728 : Shape := ⟨2, ![49152, 9728]⟩
abbrev S512x1024 : Shape := ⟨2, ![512, 1024]⟩
abbrev S1024x1024 : Shape := ⟨2, ![1024, 1024]⟩
abbrev S49152x3072 : Shape := ⟨2, ![49152, 3072]⟩
abbrev S49152x3x1024 : Shape := ⟨3, ![49152, 3, 1024]⟩
abbrev S_ : Shape := ⟨0, ![]⟩
abbrev S49152x1x1024 : Shape := ⟨3, ![49152, 1, 1024]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x512, .bf16⟩
  | .hbm, ⟨2, _⟩ => ⟨S49152x512, .bf16⟩
  | .hbm, ⟨3, _⟩ => ⟨S49152x512, .bf16⟩
  | .hbm, ⟨4, _⟩ => ⟨S49152x9728, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S49152x3072, .bf16⟩
  | .hbm, ⟨10, _⟩ => ⟨S49152x3072, .f32⟩
  | .hbm, ⟨11, _⟩ => ⟨S49152x3x1024, .f32⟩
  | .hbm, ⟨12, _⟩ => ⟨S49152x3x1024, .f32⟩
  | .hbm, ⟨13, _⟩ => ⟨S49152x3x1024, .f32⟩
  | .hbm, ⟨14, _⟩ => ⟨S_, .f32⟩
  | .hbm, ⟨15, _⟩ => ⟨S49152x3x1024, .f32⟩
  | .hbm, ⟨16, _⟩ => ⟨S49152x3x1024, .f32⟩
  | .hbm, ⟨17, _⟩ => ⟨S_, .f32⟩
  | .hbm, ⟨18, _⟩ => ⟨S49152x3x1024, .f32⟩
  | .hbm, ⟨19, _⟩ => ⟨S49152x3x1024, .f32⟩
  | .hbm, ⟨20, _⟩ => ⟨S49152x1x1024, .f32⟩
  | .hbm, ⟨21, _⟩ => ⟨S49152x1024, .f32⟩
  | .hbm, ⟨22, _⟩ => ⟨S49152x512, .f32⟩
  | .hbm, ⟨23, _⟩ => ⟨S49152x1024, .f32⟩
  | .hbm, ⟨24, _⟩ => ⟨S49152x1024, .f32⟩
  | .hbm, ⟨25, _⟩ => ⟨S49152x1x1024, .f32⟩
  | .hbm, ⟨26, _⟩ => ⟨S49152x1024, .f32⟩
  | .hbm, ⟨27, _⟩ => ⟨S49152x512, .f32⟩
  | .hbm, ⟨28, _⟩ => ⟨S49152x1024, .f32⟩
  | .hbm, ⟨29, _⟩ => ⟨S49152x1024, .f32⟩
  | .hbm, ⟨30, _⟩ => ⟨S49152x1024, .f32⟩
  | .hbm, ⟨31, _⟩ => ⟨S49152x1x1024, .f32⟩
  | .hbm, ⟨32, _⟩ => ⟨S49152x1024, .f32⟩
  | .hbm, ⟨33, _⟩ => ⟨S49152x512, .f32⟩
  | .hbm, ⟨34, _⟩ => ⟨S49152x1024, .f32⟩
  | .hbm, ⟨35, _⟩ => ⟨S49152x1024, .f32⟩
  | .hbm, ⟨36, _⟩ => ⟨S49152x1024, .f32⟩
  | .hbm, ⟨37, _⟩ => ⟨S49152x1024, .f32⟩
  | .hbm, ⟨38, _⟩ => ⟨S49152x1024, .f32⟩
  | .hbm, ⟨39, _⟩ => ⟨S32768x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S49152x1024 : Shape := ⟨2, ![49152, 1024]⟩
abbrev S49152x512 : Shape := ⟨2, ![49152, 512]⟩
abbrev S49152x9728 : Shape := ⟨2, ![49152, 9728]⟩
abbrev S512x1024 : Shape := ⟨2, ![512, 1024]⟩
abbrev S1024x1024 : Shape := ⟨2, ![1024, 1024]⟩
abbrev S16384x1024 : Shape := ⟨2, ![16384, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S49152x1024, .f32⟩
  | .hbm, ⟨1, _⟩ => ⟨S49152x512, .bf16⟩
  | .hbm, ⟨2, _⟩ => ⟨S49152x512, .bf16⟩
  | .hbm, ⟨3, _⟩ => ⟨S49152x512, .bf16⟩
  | .hbm, ⟨4, _⟩ => ⟨S49152x9728, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.addi c64_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c64_i32 : BitVec 32 := 64#32
  let v0 : BitVec 32 := Scalar.addi c64_i32 arg0
  let c2_i32 : BitVec 32 := 2#32
  let c0_i32 : BitVec 32 := 0#32
  ![v0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S49152x1024 : Shape := ⟨2, ![49152, 1024]⟩
abbrev S49152x512 : Shape := ⟨2, ![49152, 512]⟩
abbrev S49152x9728 : Shape := ⟨2, ![49152, 9728]⟩
abbrev S512x1024 : Shape := ⟨2, ![512, 1024]⟩
abbrev S1024x1024 : Shape := ⟨2, ![1024, 1024]⟩
abbrev S49152x3072 : Shape := ⟨2, ![49152, 3072]⟩
abbrev S49152x3x1024 : Shape := ⟨3, ![49152, 3, 1024]⟩
abbrev S_ : Shape := ⟨0, ![]⟩
abbrev S49152x1x1024 : Shape := ⟨3, ![49152, 1, 1024]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x512, .bf16⟩
  | .hbm, ⟨2, _⟩ => ⟨S49152x512, .bf16⟩
  | .hbm, ⟨3, _⟩ => ⟨S49152x512, .bf16⟩
  | .hbm, ⟨4, _⟩ => ⟨S49152x9728, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S49152x3072, .bf16⟩
  | .hbm, ⟨10, _⟩ => ⟨S49152x3072, .f32⟩
  | .hbm, ⟨11, _⟩ => ⟨S49152x3x1024, .f32⟩
  | .hbm, ⟨12, _⟩ => ⟨S49152x3x1024, .f32⟩
  | .hbm, ⟨13, _⟩ => ⟨S49152x3x1024, .f32⟩
  | .hbm, ⟨14, _⟩ => ⟨S_, .f32⟩
  | .hbm, ⟨15, _⟩ => ⟨S49152x3x1024, .f32⟩
  | .hbm, ⟨16, _⟩ => ⟨S49152x3x1024, .f32⟩
  | .hbm, ⟨17, _⟩ => ⟨S_, .f32⟩
  | .hbm, ⟨18, _⟩ => ⟨S49152x3x1024, .f32⟩
  | .hbm, ⟨19, _⟩ => ⟨S49152x3x1024, .f32⟩
  | .hbm, ⟨20, _⟩ => ⟨S49152x1x1024, .f32⟩
  | .hbm, ⟨21, _⟩ => ⟨S49152x1024, .f32⟩
  | .hbm, ⟨22, _⟩ => ⟨S49152x512, .f32⟩
  | .hbm, ⟨23, _⟩ => ⟨S49152x1024, .f32⟩
  | .hbm, ⟨24, _⟩ => ⟨S49152x1024, .f32⟩
  | .hbm, ⟨25, _⟩ => ⟨S49152x1x1024, .f32⟩
  | .hbm, ⟨26, _⟩ => ⟨S49152x1024, .f32⟩
  | .hbm, ⟨27, _⟩ => ⟨S49152x512, .f32⟩
  | .hbm, ⟨28, _⟩ => ⟨S49152x1024, .f32⟩
  | .hbm, ⟨29, _⟩ => ⟨S49152x1024, .f32⟩
  | .hbm, ⟨30, _⟩ => ⟨S49152x1024, .f32⟩
  | .hbm, ⟨31, _⟩ => ⟨S49152x1x1024, .f32⟩
  | .hbm, ⟨32, _⟩ => ⟨S49152x1024, .f32⟩
  | .hbm, ⟨33, _⟩ => ⟨S49152x512, .f32⟩
  | .hbm, ⟨34, _⟩ => ⟨S49152x1024, .f32⟩
  | .hbm, ⟨35, _⟩ => ⟨S49152x1024, .f32⟩
  | .hbm, ⟨36, _⟩ => ⟨S49152x1024, .f32⟩
  | .hbm, ⟨37, _⟩ => ⟨S49152x1024, .f32⟩
  | .hbm, ⟨38, _⟩ => ⟨S49152x1024, .f32⟩
  | .hbm, ⟨39, _⟩ => ⟨S16384x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel5.lean ====
abbrev S12x4096x9728 : Shape := ⟨3, ![12, 4096, 9728]⟩
abbrev S2x512 : Shape := ⟨2, ![2, 512]⟩
abbrev S128 : Shape := ⟨1, ![128]⟩
abbrev S1x128 : Shape := ⟨2, ![1, 128]⟩
abbrev S12x4096x512 : Shape := ⟨3, ![12, 4096, 512]⟩
abbrev S1x4096x128 : Shape := ⟨3, ![1, 4096, 128]⟩
abbrev S2x128 : Shape := ⟨2, ![2, 128]⟩
abbrev S4096x128 : Shape := ⟨2, ![4096, 128]⟩
abbrev S2x4096x128 : Shape := ⟨3, ![2, 4096, 128]⟩
abbrev S256x256 : Shape := ⟨2, ![256, 256]⟩
abbrev S1x256x128 : Shape := ⟨3, ![1, 256, 128]⟩
abbrev S256x128 : Shape := ⟨2, ![256, 128]⟩
abbrev S16x128 : Shape := ⟨2, ![16, 128]⟩
abbrev S8x128 : Shape := ⟨2, ![8, 128]⟩
abbrev S128x128 : Shape := ⟨2, ![128, 128]⟩
abbrev S16x192 : Shape := ⟨2, ![16, 192]⟩
abbrev S16x384 : Shape := ⟨2, ![16, 384]⟩
abbrev S1x16x128 : Shape := ⟨3, ![1, 16, 128]⟩
abbrev S384x128 : Shape := ⟨2, ![384, 128]⟩
abbrev S1x1x128 : Shape := ⟨3, ![1, 1, 128]⟩
abbrev S256 : Shape := ⟨1, ![256]⟩
abbrev S256x1 : Shape := ⟨2, ![256, 1]⟩

abbrev nBuf : Space → Nat
  | .hbm => 5
  | .vmem => 24
  | .smem => 0
  | _ => 0

abbrev bufTy : (tb : Table) → Fin (tcTables nBuf tb) → BufTy
  | .hbm, ⟨0, _⟩ => ⟨S12x4096x9728, .bf16⟩
  | .hbm, ⟨1, _⟩ => ⟨S2x512, .f32⟩
  | .hbm, ⟨2, _⟩ => ⟨S128, .f32⟩
  | .hbm, ⟨3, _⟩ => ⟨S1x128, .f32⟩
  | .hbm, ⟨4, _⟩ => ⟨S12x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S2x128, .f32⟩
  | .local _ .vmem, ⟨11, _⟩ => ⟨S2x128, .f32⟩
  | .local _ .vmem, ⟨12, _⟩ => ⟨S1x128, .f32⟩
  | .local _ .vmem, ⟨13, _⟩ => ⟨S1x4096x128, .bf16⟩
  | .local _ .vmem, ⟨14, _⟩ => ⟨S1x4096x128, .bf16⟩
  | .local _ .vmem, ⟨15, _⟩ => ⟨S4096x128, .f32⟩
  | .local _ .vmem, ⟨16, _⟩ => ⟨S2x4096x128, .f32⟩
  | .local _ .vmem, ⟨17, _⟩ => ⟨S2x4096x128, .f32⟩
  | .local _ .vmem, ⟨18, _⟩ => ⟨S2x4096x128, .f32⟩
  | .local _ .vmem, ⟨19, _⟩ => ⟨S2x4096x128, .bf16⟩
  | .local _ .vmem, ⟨20, _⟩ => ⟨S2x4096x128, .bf16⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | _, _ => ⟨S12x4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![12, 4], ![false, false]⟩

@[reducible] def k0_t1_loop : Scf.Loop 32 :=
  let c0_i32_14 : BitVec 32 := 0#32
  let c16_i32_15 : BitVec 32 := 16#32
  let v63 : BitVec 32 := Scalar.addi c0_i32_14 c16_i32_15
  let c1_i32_16 : BitVec 32 := 1#32
  ⟨c0_i32_14, v63, c1_i32_16⟩
def k0_mult1 (k0_t1 : Fin k0_t1_loop.trips) : BitVec 32 :=
  let c0_i32_14 : BitVec 32 := 0#32
  let c1_i32_16 : BitVec 32 := 1#32
  let arg19 : BitVec 32 := Scf.iv c0_i32_14 c1_i32_16 k0_t1
  let c256_i32 : BitVec 32 := 256#32
  let v166 : BitVec 32 := Scalar.muli arg19 c256_i32
  v166
def k0_off1 (k0_t1 : Fin k0_t1_loop.trips) : Fin 3 → Nat :=
  let c0 : Index := 0#32
  let c0_i32_14 : BitVec 32 := 0#32
  let c1_i32_16 : BitVec 32 := 1#32
  let arg19 : BitVec 32 := Scf.iv c0_i32_14 c1_i32_16 k0_t1
  let c256_i32 : BitVec 32 := 256#32
  let v166 : BitVec 32 := Scalar.muli arg19 c256_i32
  let v167 : BitVec 32 := v166
  let v168 : Index := Scalar.indexCast v167
  let c0_56 : Index := 0#32
  ![0, v168.toNat, 0]
def k0_off2 (k0_t1 : Fin k0_t1_loop.trips) : Fin 2 → Nat :=
  let c0_i32_14 : BitVec 32 := 0#32
  let c1_i32_16 : BitVec 32 := 1#32
  let arg19 : BitVec 32 := Scf.iv c0_i32_14 c1_i32_16 k0_t1
  let c256_i32 : BitVec 32 := 256#32
  let v166 : BitVec 32 := Scalar.muli arg19 c256_i32
  let v167 : BitVec 32 := v166
  let v176 : Index := Scalar.indexCast v167
  let c0_58 : Index := 0#32
  ![v176.toNat, 0]
def k0_off3 (k0_t1 : Fin k0_t1_loop.trips) : Fin 3 → Nat :=
  let c0_71 : Index := 0#32
  let c0_i32_14 : BitVec 32 := 0#32
  let c1_i32_16 : BitVec 32 := 1#32
  let arg19 : BitVec 32 := Scf.iv c0_i32_14 c1_i32_16 k0_t1
  let c256_i32 : BitVec 32 := 256#32
  let v166 : BitVec 32 := Scalar.muli arg19 c256_i32
  let v167 : BitVec 32 := v166
  let v260 : Index := Scalar.indexCast v167
  let c0_72 : Index := 0#32
  ![0, v260.toNat, 0]
def k0_off4 (k0_t1 : Fin k0_t1_loop.trips) : Fin 3 → Nat :=
  let c1_93 : Index := 1#32
  let c0_i32_14 : BitVec 32 := 0#32
  let c1_i32_16 : BitVec 32 := 1#32
  let arg19 : BitVec 32 := Scf.iv c0_i32_14 c1_i32_16 k0_t1
  let c256_i32 : BitVec 32 := 256#32
  let v166 : BitVec 32 := Scalar.muli arg19 c256_i32
  let v167 : BitVec 32 := v166
  let v369 : Index := Scalar.indexCast v167
  let c0_94 : Index := 0#32
  ![1, v369.toNat, 0]
@[reducible] def k0_t2_loop : Scf.Loop 32 :=
  let c0_i32_48 : BitVec 32 := 0#32
  let c16_i32_49 : BitVec 32 := 16#32
  let v163 : BitVec 32 := Scalar.addi c0_i32_48 c16_i32_49
  let c1_i32_50 : BitVec 32 := 1#32
  ⟨c0_i32_48, v163, c1_i32_50⟩
def k0_mult2 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_56 : BitVec 32 := 16#32
  let v166 : BitVec 32 := Scalar.muli arg19 c16_i32_56
  let c0_i32_57 : BitVec 32 := 0#32
  let v167 : BitVec 32 := Scalar.addi v166 c0_i32_57
  let c16_i32_58 : BitVec 32 := 16#32
  let v168 : BitVec 32 := Scalar.muli v167 c16_i32_58
  v168
def k0_off5 (k0_t2 : Fin k0_t2_loop.trips) (c0_i32_57 : BitVec 32) : Fin 2 → Nat :=
  let c0_i32_48 : BitVec 32 := 0#32
  let c1_i32_50 : BitVec 32 := 1#32
  let arg19 : BitVec 32 := Scf.iv c0_i32_48 c1_i32_50 k0_t2
  let c16_i32_56 : BitVec 32 := 16#32
  let v166 : BitVec 32 := Scalar.muli arg19 c16_i32_56
  let v167 : BitVec 32 := Scalar.addi v166 c0_i32_57
  let c16_i32_58 : BitVec 32 := 16#32
  let v168 : BitVec 32 := Scalar.muli v167 c16_i32_58
  let v169 : BitVec 32 := v168
  let v170 : Index := Scalar.indexCast v169
  let c0 : Index := 0#32
  ![v170.toNat, 0]
def k0_off6 (k0_t2 : Fin k0_t2_loop.trips) (c0_i32_57 : BitVec 32) : Fin 3 → Nat :=
  let c0_59 : Index := 0#32
  let c0_i32_48 : BitVec 32 := 0#32
  let c1_i32_50 : BitVec 32 := 1#32
  let arg19 : BitVec 32 := Scf.iv c0_i32_48 c1_i32_50 k0_t2
  let c16_i32_56 : BitVec 32 := 16#32
  let v166 : BitVec 32 := Scalar.muli arg19 c16_i32_56
  let v167 : BitVec 32 := Scalar.addi v166 c0_i32_57
  let c16_i32_58 : BitVec 32 := 16#32
  let v168 : BitVec 32 := Scalar.muli v167 c16_i32_58
  let v169 : BitVec 32 := v168
  let v172 : Index := Scalar.indexCast v169
  let c0_60 : Index := 0#32
  ![0, v172.toNat, 0]
def k0_off7 (k0_t2 : Fin k0_t2_loop.trips) (c0_i32_57 : BitVec 32) : Fin 3 → Nat :=
  let c0_61 : Index := 0#32
  let c0_i32_48 : BitVec 32 := 0#32
  let c1_i32_50 : BitVec 32 := 1#32
  let arg19 : BitVec 32 := Scf.iv c0_i32_48 c1_i32_50 k0_t2
  let c16_i32_56 : BitVec 32 := 16#32
  let v166 : BitVec 32 := Scalar.muli arg19 c16_i32_56
  let v167 : BitVec 32 := Scalar.addi v166 c0_i32_57
  let c16_i32_58 : BitVec 32 := 16#32
  let v168 : BitVec 32 := Scalar.muli v167 c16_i32_58
  let v169 : BitVec 32 := v168
  let v176 : Index := Scalar.indexCast v169
  let c0_62 : Index := 0#32
  ![0, v176.toNat, 0]
def k0_off8 (k0_t2 : Fin k0_t2_loop.trips) (c0_i32_57 : BitVec 32) : Fin 3 → Nat :=
  let c1 : Index := 1#32
  let c0_i32_48 : BitVec 32 := 0#32
  let c1_i32_50 : BitVec 32 := 1#32
  let arg19 : BitVec 32 := Scf.iv c0_i32_48 c1_i32_50 k0_t2
  let c16_i32_56 : BitVec 32 := 16#32
  let v166 : BitVec 32 := Scalar.muli arg19 c16_i32_56
  let v167 : BitVec 32 := Scalar.addi v166 c0_i32_57
  let c16_i32_58 : BitVec 32 := 16#32
  let v168 : BitVec 32 := Scalar.muli v167 c16_i32_58
  let v169 : BitVec 32 := v168
  let v530 : Index := Scalar.indexCast v169
  let c0_97 : Index := 0#32
  ![1, v530.toNat, 0]
def k0_mult3 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_140 : BitVec 32 := 16#32
  let v887 : BitVec 32 := Scalar.muli arg19 c16_i32_140
  let c1_i32_141 : BitVec 32 := 1#32
  let v888 : BitVec 32 := Scalar.addi v887 c1_i32_141
  let c16_i32_142 : BitVec 32 := 16#32
  let v889 : BitVec 32 := Scalar.muli v888 c16_i32_142
  v889
def k0_mult4 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_238 : BitVec 32 := 16#32
  let v1608 : BitVec 32 := Scalar.muli arg19 c16_i32_238
  let c2_i32_239 : BitVec 32 := 2#32
  let v1609 : BitVec 32 := Scalar.addi v1608 c2_i32_239
  let c16_i32_240 : BitVec 32 := 16#32
  let v1610 : BitVec 32 := Scalar.muli v1609 c16_i32_240
  v1610
def k0_mult5 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_336 : BitVec 32 := 16#32
  let v2329 : BitVec 32 := Scalar.muli arg19 c16_i32_336
  let c3_i32_337 : BitVec 32 := 3#32
  let v2330 : BitVec 32 := Scalar.addi v2329 c3_i32_337
  let c16_i32_338 : BitVec 32 := 16#32
  let v2331 : BitVec 32 := Scalar.muli v2330 c16_i32_338
  v2331
def k0_mult6 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_434 : BitVec 32 := 16#32
  let v3050 : BitVec 32 := Scalar.muli arg19 c16_i32_434
  let c4_i32_435 : BitVec 32 := 4#32
  let v3051 : BitVec 32 := Scalar.addi v3050 c4_i32_435
  let c16_i32_436 : BitVec 32 := 16#32
  let v3052 : BitVec 32 := Scalar.muli v3051 c16_i32_436
  v3052
def k0_mult7 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_532 : BitVec 32 := 16#32
  let v3771 : BitVec 32 := Scalar.muli arg19 c16_i32_532
  let c5_i32_533 : BitVec 32 := 5#32
  let v3772 : BitVec 32 := Scalar.addi v3771 c5_i32_533
  let c16_i32_534 : BitVec 32 := 16#32
  let v3773 : BitVec 32 := Scalar.muli v3772 c16_i32_534
  v3773
def k0_mult8 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_630 : BitVec 32 := 16#32
  let v4492 : BitVec 32 := Scalar.muli arg19 c16_i32_630
  let c6_i32_631 : BitVec 32 := 6#32
  let v4493 : BitVec 32 := Scalar.addi v4492 c6_i32_631
  let c16_i32_632 : BitVec 32 := 16#32
  let v4494 : BitVec 32 := Scalar.muli v4493 c16_i32_632
  v4494
def k0_mult9 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_728 : BitVec 32 := 16#32
  let v5213 : BitVec 32 := Scalar.muli arg19 c16_i32_728
  let c7_i32_729 : BitVec 32 := 7#32
  let v5214 : BitVec 32 := Scalar.addi v5213 c7_i32_729
  let c16_i32_730 : BitVec 32 := 16#32
  let v5215 : BitVec 32 := Scalar.muli v5214 c16_i32_730
  v5215
def k0_mult10 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_826 : BitVec 32 := 16#32
  let v5934 : BitVec 32 := Scalar.muli arg19 c16_i32_826
  let c8_i32_827 : BitVec 32 := 8#32
  let v5935 : BitVec 32 := Scalar.addi v5934 c8_i32_827
  let c16_i32_828 : BitVec 32 := 16#32
  let v5936 : BitVec 32 := Scalar.muli v5935 c16_i32_828
  v5936
def k0_mult11 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_924 : BitVec 32 := 16#32
  let v6655 : BitVec 32 := Scalar.muli arg19 c16_i32_924
  let c9_i32_925 : BitVec 32 := 9#32
  let v6656 : BitVec 32 := Scalar.addi v6655 c9_i32_925
  let c16_i32_926 : BitVec 32 := 16#32
  let v6657 : BitVec 32 := Scalar.muli v6656 c16_i32_926
  v6657
def k0_mult12 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1022 : BitVec 32 := 16#32
  let v7376 : BitVec 32 := Scalar.muli arg19 c16_i32_1022
  let c10_i32_1023 : BitVec 32 := 10#32
  let v7377 : BitVec 32 := Scalar.addi v7376 c10_i32_1023
  let c16_i32_1024 : BitVec 32 := 16#32
  let v7378 : BitVec 32 := Scalar.muli v7377 c16_i32_1024
  v7378
def k0_mult13 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1120 : BitVec 32 := 16#32
  let v8097 : BitVec 32 := Scalar.muli arg19 c16_i32_1120
  let c11_i32_1121 : BitVec 32 := 11#32
  let v8098 : BitVec 32 := Scalar.addi v8097 c11_i32_1121
  let c16_i32_1122 : BitVec 32 := 16#32
  let v8099 : BitVec 32 := Scalar.muli v8098 c16_i32_1122
  v8099
def k0_mult14 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1218 : BitVec 32 := 16#32
  let v8818 : BitVec 32 := Scalar.muli arg19 c16_i32_1218
  let c12_i32_1219 : BitVec 32 := 12#32
  let v8819 : BitVec 32 := Scalar.addi v8818 c12_i32_1219
  let c16_i32_1220 : BitVec 32 := 16#32
  let v8820 : BitVec 32 := Scalar.muli v8819 c16_i32_1220
  v8820
def k0_mult15 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1316 : BitVec 32 := 16#32
  let v9539 : BitVec 32 := Scalar.muli arg19 c16_i32_1316
  let c13_i32_1317 : BitVec 32 := 13#32
  let v9540 : BitVec 32 := Scalar.addi v9539 c13_i32_1317
  let c16_i32_1318 : BitVec 32 := 16#32
  let v9541 : BitVec 32 := Scalar.muli v9540 c16_i32_1318
  v9541
def k0_mult16 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1414 : BitVec 32 := 16#32
  let v10260 : BitVec 32 := Scalar.muli arg19 c16_i32_1414
  let c14_i32_1415 : BitVec 32 := 14#32
  let v10261 : BitVec 32 := Scalar.addi v10260 c14_i32_1415
  let c16_i32_1416 : BitVec 32 := 16#32
  let v10262 : BitVec 32 := Scalar.muli v10261 c16_i32_1416
  v10262
def k0_mult17 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1512 : BitVec 32 := 16#32
  let v10981 : BitVec 32 := Scalar.muli arg19 c16_i32_1512
  let c15_i32_1513 : BitVec 32 := 15#32
  let v10982 : BitVec 32 := Scalar.addi v10981 c15_i32_1513
  let c16_i32_1514 : BitVec 32 := 16#32
  let v10983 : BitVec 32 := Scalar.muli v10982 c16_i32_1514
  v10983
def k0_mult18 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1626 : BitVec 32 := 16#32
  let v11718 : BitVec 32 := Scalar.muli arg19 c16_i32_1626
  let c0_i32_1627 : BitVec 32 := 0#32
  let v11719 : BitVec 32 := Scalar.addi v11718 c0_i32_1627
  let c16_i32_1628 : BitVec 32 := 16#32
  let v11720 : BitVec 32 := Scalar.muli v11719 c16_i32_1628
  v11720
def k0_mult19 (k0_t2 : Fin k0_t2_loop.trips) : BitVec 32 :=
  let c255_i32 : BitVec 32 := 255#32
  let c0_i32_48 : BitVec 32 := 0#32
  let c1_i32_50 : BitVec 32 := 1#32
  let arg19 : BitVec 32 := Scf.iv c0_i32_48 c1_i32_50 k0_t2
  let c16_i32_1634 : BitVec 32 := 16#32
  let v11729 : BitVec 32 := Scalar.muli arg19 c16_i32_1634
  let c0_i32_1635 : BitVec 32 := 0#32
  let v11730 : BitVec 32 := Scalar.addi v11729 c0_i32_1635
  let v11731 : BitVec 32 := Scalar.subi c255_i32 v11730
  let c16_i32_1636 : BitVec 32 := 16#32
  let v11732 : BitVec 32 := Scalar.muli v11731 c16_i32_1636
  v11732
def k0_off9 (k0_t2 : Fin k0_t2_loop.trips) (c0_i32_1635 : BitVec 32) : Fin 3 → Nat :=
  let c0_1637 : Index := 0#32
  let c255_i32 : BitVec 32 := 255#32
  let c0_i32_48 : BitVec 32 := 0#32
  let c1_i32_50 : BitVec 32 := 1#32
  let arg19 : BitVec 32 := Scf.iv c0_i32_48 c1_i32_50 k0_t2
  let c16_i32_1634 : BitVec 32 := 16#32
  let v11729 : BitVec 32 := Scalar.muli arg19 c16_i32_1634
  let v11730 : BitVec 32 := Scalar.addi v11729 c0_i32_1635
  let v11731 : BitVec 32 := Scalar.subi c255_i32 v11730
  let c16_i32_1636 : BitVec 32 := 16#32
  let v11732 : BitVec 32 := Scalar.muli v11731 c16_i32_1636
  let v11733 : BitVec 32 := v11732
  let v11734 : Index := Scalar.indexCast v11733
  let c0_1638 : Index := 0#32
  ![0, v11734.toNat, 0]
def k0_off10 (k0_t2 : Fin k0_t2_loop.trips) (c0_i32_1635 : BitVec 32) : Fin 3 → Nat :=
  let c1_1639 : Index := 1#32
  let c255_i32 : BitVec 32 := 255#32
  let c0_i32_48 : BitVec 32 := 0#32
  let c1_i32_50 : BitVec 32 := 1#32
  let arg19 : BitVec 32 := Scf.iv c0_i32_48 c1_i32_50 k0_t2
  let c16_i32_1634 : BitVec 32 := 16#32
  let v11729 : BitVec 32 := Scalar.muli arg19 c16_i32_1634
  let v11730 : BitVec 32 := Scalar.addi v11729 c0_i32_1635
  let v11731 : BitVec 32 := Scalar.subi c255_i32 v11730
  let c16_i32_1636 : BitVec 32 := 16#32
  let v11732 : BitVec 32 := Scalar.muli v11731 c16_i32_1636
  let v11733 : BitVec 32 := v11732
  let v11737 : Index := Scalar.indexCast v11733
  let c0_1640 : Index := 0#32
  ![1, v11737.toNat, 0]
def k0_mult20 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1642 : BitVec 32 := 16#32
  let v11741 : BitVec 32 := Scalar.muli arg19 c16_i32_1642
  let c1_i32_1643 : BitVec 32 := 1#32
  let v11742 : BitVec 32 := Scalar.addi v11741 c1_i32_1643
  let c16_i32_1644 : BitVec 32 := 16#32
  let v11743 : BitVec 32 := Scalar.muli v11742 c16_i32_1644
  v11743
def k0_mult21 (k0_t2 : Fin k0_t2_loop.trips) : BitVec 32 :=
  let c255_i32_1652 : BitVec 32 := 255#32
  let c0_i32_48 : BitVec 32 := 0#32
  let c1_i32_50 : BitVec 32 := 1#32
  let arg19 : BitVec 32 := Scf.iv c0_i32_48 c1_i32_50 k0_t2
  let c16_i32_1650 : BitVec 32 := 16#32
  let v11752 : BitVec 32 := Scalar.muli arg19 c16_i32_1650
  let c1_i32_1651 : BitVec 32 := 1#32
  let v11753 : BitVec 32 := Scalar.addi v11752 c1_i32_1651
  let v11754 : BitVec 32 := Scalar.subi c255_i32_1652 v11753
  let c16_i32_1653 : BitVec 32 := 16#32
  let v11755 : BitVec 32 := Scalar.muli v11754 c16_i32_1653
  v11755
def k0_mult22 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1659 : BitVec 32 := 16#32
  let v11764 : BitVec 32 := Scalar.muli arg19 c16_i32_1659
  let c2_i32_1660 : BitVec 32 := 2#32
  let v11765 : BitVec 32 := Scalar.addi v11764 c2_i32_1660
  let c16_i32_1661 : BitVec 32 := 16#32
  let v11766 : BitVec 32 := Scalar.muli v11765 c16_i32_1661
  v11766
def k0_mult23 (k0_t2 : Fin k0_t2_loop.trips) : BitVec 32 :=
  let c255_i32_1669 : BitVec 32 := 255#32
  let c0_i32_48 : BitVec 32 := 0#32
  let c1_i32_50 : BitVec 32 := 1#32
  let arg19 : BitVec 32 := Scf.iv c0_i32_48 c1_i32_50 k0_t2
  let c16_i32_1667 : BitVec 32 := 16#32
  let v11775 : BitVec 32 := Scalar.muli arg19 c16_i32_1667
  let c2_i32_1668 : BitVec 32 := 2#32
  let v11776 : BitVec 32 := Scalar.addi v11775 c2_i32_1668
  let v11777 : BitVec 32 := Scalar.subi c255_i32_1669 v11776
  let c16_i32_1670 : BitVec 32 := 16#32
  let v11778 : BitVec 32 := Scalar.muli v11777 c16_i32_1670
  v11778
def k0_mult24 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1676 : BitVec 32 := 16#32
  let v11787 : BitVec 32 := Scalar.muli arg19 c16_i32_1676
  let c3_i32_1677 : BitVec 32 := 3#32
  let v11788 : BitVec 32 := Scalar.addi v11787 c3_i32_1677
  let c16_i32_1678 : BitVec 32 := 16#32
  let v11789 : BitVec 32 := Scalar.muli v11788 c16_i32_1678
  v11789
def k0_mult25 (k0_t2 : Fin k0_t2_loop.trips) : BitVec 32 :=
  let c255_i32_1686 : BitVec 32 := 255#32
  let c0_i32_48 : BitVec 32 := 0#32
  let c1_i32_50 : BitVec 32 := 1#32
  let arg19 : BitVec 32 := Scf.iv c0_i32_48 c1_i32_50 k0_t2
  let c16_i32_1684 : BitVec 32 := 16#32
  let v11798 : BitVec 32 := Scalar.muli arg19 c16_i32_1684
  let c3_i32_1685 : BitVec 32 := 3#32
  let v11799 : BitVec 32 := Scalar.addi v11798 c3_i32_1685
  let v11800 : BitVec 32 := Scalar.subi c255_i32_1686 v11799
  let c16_i32_1687 : BitVec 32 := 16#32
  let v11801 : BitVec 32 := Scalar.muli v11800 c16_i32_1687
  v11801
def k0_mult26 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1693 : BitVec 32 := 16#32
  let v11810 : BitVec 32 := Scalar.muli arg19 c16_i32_1693
  let c4_i32_1694 : BitVec 32 := 4#32
  let v11811 : BitVec 32 := Scalar.addi v11810 c4_i32_1694
  let c16_i32_1695 : BitVec 32 := 16#32
  let v11812 : BitVec 32 := Scalar.muli v11811 c16_i32_1695
  v11812
def k0_mult27 (k0_t2 : Fin k0_t2_loop.trips) : BitVec 32 :=
  let c255_i32_1703 : BitVec 32 := 255#32
  let c0_i32_48 : BitVec 32 := 0#32
  let c1_i32_50 : BitVec 32 := 1#32
  let arg19 : BitVec 32 := Scf.iv c0_i32_48 c1_i32_50 k0_t2
  let c16_i32_1701 : BitVec 32 := 16#32
  let v11821 : BitVec 32 := Scalar.muli arg19 c16_i32_1701
  let c4_i32_1702 : BitVec 32 := 4#32
  let v11822 : BitVec 32 := Scalar.addi v11821 c4_i32_1702
  let v11823 : BitVec 32 := Scalar.subi c255_i32_1703 v11822
  let c16_i32_1704 : BitVec 32 := 16#32
  let v11824 : BitVec 32 := Scalar.muli v11823 c16_i32_1704
  v11824
def k0_mult28 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1710 : BitVec 32 := 16#32
  let v11833 : BitVec 32 := Scalar.muli arg19 c16_i32_1710
  let c5_i32_1711 : BitVec 32 := 5#32
  let v11834 : BitVec 32 := Scalar.addi v11833 c5_i32_1711
  let c16_i32_1712 : BitVec 32 := 16#32
  let v11835 : BitVec 32 := Scalar.muli v11834 c16_i32_1712
  v11835
def k0_mult29 (k0_t2 : Fin k0_t2_loop.trips) : BitVec 32 :=
  let c255_i32_1720 : BitVec 32 := 255#32
  let c0_i32_48 : BitVec 32 := 0#32
  let c1_i32_50 : BitVec 32 := 1#32
  let arg19 : BitVec 32 := Scf.iv c0_i32_48 c1_i32_50 k0_t2
  let c16_i32_1718 : BitVec 32 := 16#32
  let v11844 : BitVec 32 := Scalar.muli arg19 c16_i32_1718
  let c5_i32_1719 : BitVec 32 := 5#32
  let v11845 : BitVec 32 := Scalar.addi v11844 c5_i32_1719
  let v11846 : BitVec 32 := Scalar.subi c255_i32_1720 v11845
  let c16_i32_1721 : BitVec 32 := 16#32
  let v11847 : BitVec 32 := Scalar.muli v11846 c16_i32_1721
  v11847
def k0_mult30 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1727 : BitVec 32 := 16#32
  let v11856 : BitVec 32 := Scalar.muli arg19 c16_i32_1727
  let c6_i32_1728 : BitVec 32 := 6#32
  let v11857 : BitVec 32 := Scalar.addi v11856 c6_i32_1728
  let c16_i32_1729 : BitVec 32 := 16#32
  let v11858 : BitVec 32 := Scalar.muli v11857 c16_i32_1729
  v11858
def k0_mult31 (k0_t2 : Fin k0_t2_loop.trips) : BitVec 32 :=
  let c255_i32_1737 : BitVec 32 := 255#32
  let c0_i32_48 : BitVec 32 := 0#32
  let c1_i32_50 : BitVec 32 := 1#32
  let arg19 : BitVec 32 := Scf.iv c0_i32_48 c1_i32_50 k0_t2
  let c16_i32_1735 : BitVec 32 := 16#32
  let v11867 : BitVec 32 := Scalar.muli arg19 c16_i32_1735
  let c6_i32_1736 : BitVec 32 := 6#32
  let v11868 : BitVec 32 := Scalar.addi v11867 c6_i32_1736
  let v11869 : BitVec 32 := Scalar.subi c255_i32_1737 v11868
  let c16_i32_1738 : BitVec 32 := 16#32
  let v11870 : BitVec 32 := Scalar.muli v11869 c16_i32_1738
  v11870
def k0_mult32 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1744 : BitVec 32 := 16#32
  let v11879 : BitVec 32 := Scalar.muli arg19 c16_i32_1744
  let c7_i32_1745 : BitVec 32 := 7#32
  let v11880 : BitVec 32 := Scalar.addi v11879 c7_i32_1745
  let c16_i32_1746 : BitVec 32 := 16#32
  let v11881 : BitVec 32 := Scalar.muli v11880 c16_i32_1746
  v11881
def k0_mult33 (k0_t2 : Fin k0_t2_loop.trips) : BitVec 32 :=
  let c255_i32_1754 : BitVec 32 := 255#32
  let c0_i32_48 : BitVec 32 := 0#32
  let c1_i32_50 : BitVec 32 := 1#32
  let arg19 : BitVec 32 := Scf.iv c0_i32_48 c1_i32_50 k0_t2
  let c16_i32_1752 : BitVec 32 := 16#32
  let v11890 : BitVec 32 := Scalar.muli arg19 c16_i32_1752
  let c7_i32_1753 : BitVec 32 := 7#32
  let v11891 : BitVec 32 := Scalar.addi v11890 c7_i32_1753
  let v11892 : BitVec 32 := Scalar.subi c255_i32_1754 v11891
  let c16_i32_1755 : BitVec 32 := 16#32
  let v11893 : BitVec 32 := Scalar.muli v11892 c16_i32_1755
  v11893
def k0_mult34 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1761 : BitVec 32 := 16#32
  let v11902 : BitVec 32 := Scalar.muli arg19 c16_i32_1761
  let c8_i32_1762 : BitVec 32 := 8#32
  let v11903 : BitVec 32 := Scalar.addi v11902 c8_i32_1762
  let c16_i32_1763 : BitVec 32 := 16#32
  let v11904 : BitVec 32 := Scalar.muli v11903 c16_i32_1763
  v11904
def k0_mult35 (k0_t2 : Fin k0_t2_loop.trips) : BitVec 32 :=
  let c255_i32_1771 : BitVec 32 := 255#32
  let c0_i32_48 : BitVec 32 := 0#32
  let c1_i32_50 : BitVec 32 := 1#32
  let arg19 : BitVec 32 := Scf.iv c0_i32_48 c1_i32_50 k0_t2
  let c16_i32_1769 : BitVec 32 := 16#32
  let v11913 : BitVec 32 := Scalar.muli arg19 c16_i32_1769
  let c8_i32_1770 : BitVec 32 := 8#32
  let v11914 : BitVec 32 := Scalar.addi v11913 c8_i32_1770
  let v11915 : BitVec 32 := Scalar.subi c255_i32_1771 v11914
  let c16_i32_1772 : BitVec 32 := 16#32
  let v11916 : BitVec 32 := Scalar.muli v11915 c16_i32_1772
  v11916
def k0_mult36 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1778 : BitVec 32 := 16#32
  let v11925 : BitVec 32 := Scalar.muli arg19 c16_i32_1778
  let c9_i32_1779 : BitVec 32 := 9#32
  let v11926 : BitVec 32 := Scalar.addi v11925 c9_i32_1779
  let c16_i32_1780 : BitVec 32 := 16#32
  let v11927 : BitVec 32 := Scalar.muli v11926 c16_i32_1780
  v11927
def k0_mult37 (k0_t2 : Fin k0_t2_loop.trips) : BitVec 32 :=
  let c255_i32_1788 : BitVec 32 := 255#32
  let c0_i32_48 : BitVec 32 := 0#32
  let c1_i32_50 : BitVec 32 := 1#32
  let arg19 : BitVec 32 := Scf.iv c0_i32_48 c1_i32_50 k0_t2
  let c16_i32_1786 : BitVec 32 := 16#32
  let v11936 : BitVec 32 := Scalar.muli arg19 c16_i32_1786
  let c9_i32_1787 : BitVec 32 := 9#32
  let v11937 : BitVec 32 := Scalar.addi v11936 c9_i32_1787
  let v11938 : BitVec 32 := Scalar.subi c255_i32_1788 v11937
  let c16_i32_1789 : BitVec 32 := 16#32
  let v11939 : BitVec 32 := Scalar.muli v11938 c16_i32_1789
  v11939
def k0_mult38 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1795 : BitVec 32 := 16#32
  let v11948 : BitVec 32 := Scalar.muli arg19 c16_i32_1795
  let c10_i32_1796 : BitVec 32 := 10#32
  let v11949 : BitVec 32 := Scalar.addi v11948 c10_i32_1796
  let c16_i32_1797 : BitVec 32 := 16#32
  let v11950 : BitVec 32 := Scalar.muli v11949 c16_i32_1797
  v11950
def k0_mult39 (k0_t2 : Fin k0_t2_loop.trips) : BitVec 32 :=
  let c255_i32_1805 : BitVec 32 := 255#32
  let c0_i32_48 : BitVec 32 := 0#32
  let c1_i32_50 : BitVec 32 := 1#32
  let arg19 : BitVec 32 := Scf.iv c0_i32_48 c1_i32_50 k0_t2
  let c16_i32_1803 : BitVec 32 := 16#32
  let v11959 : BitVec 32 := Scalar.muli arg19 c16_i32_1803
  let c10_i32_1804 : BitVec 32 := 10#32
  let v11960 : BitVec 32 := Scalar.addi v11959 c10_i32_1804
  let v11961 : BitVec 32 := Scalar.subi c255_i32_1805 v11960
  let c16_i32_1806 : BitVec 32 := 16#32
  let v11962 : BitVec 32 := Scalar.muli v11961 c16_i32_1806
  v11962
def k0_mult40 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1812 : BitVec 32 := 16#32
  let v11971 : BitVec 32 := Scalar.muli arg19 c16_i32_1812
  let c11_i32_1813 : BitVec 32 := 11#32
  let v11972 : BitVec 32 := Scalar.addi v11971 c11_i32_1813
  let c16_i32_1814 : BitVec 32 := 16#32
  let v11973 : BitVec 32 := Scalar.muli v11972 c16_i32_1814
  v11973
def k0_mult41 (k0_t2 : Fin k0_t2_loop.trips) : BitVec 32 :=
  let c255_i32_1822 : BitVec 32 := 255#32
  let c0_i32_48 : BitVec 32 := 0#32
  let c1_i32_50 : BitVec 32 := 1#32
  let arg19 : BitVec 32 := Scf.iv c0_i32_48 c1_i32_50 k0_t2
  let c16_i32_1820 : BitVec 32 := 16#32
  let v11982 : BitVec 32 := Scalar.muli arg19 c16_i32_1820
  let c11_i32_1821 : BitVec 32 := 11#32
  let v11983 : BitVec 32 := Scalar.addi v11982 c11_i32_1821
  let v11984 : BitVec 32 := Scalar.subi c255_i32_1822 v11983
  let c16_i32_1823 : BitVec 32 := 16#32
  let v11985 : BitVec 32 := Scalar.muli v11984 c16_i32_1823
  v11985
def k0_mult42 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1829 : BitVec 32 := 16#32
  let v11994 : BitVec 32 := Scalar.muli arg19 c16_i32_1829
  let c12_i32_1830 : BitVec 32 := 12#32
  let v11995 : BitVec 32 := Scalar.addi v11994 c12_i32_1830
  let c16_i32_1831 : BitVec 32 := 16#32
  let v11996 : BitVec 32 := Scalar.muli v11995 c16_i32_1831
  v11996
def k0_mult43 (k0_t2 : Fin k0_t2_loop.trips) : BitVec 32 :=
  let c255_i32_1839 : BitVec 32 := 255#32
  let c0_i32_48 : BitVec 32 := 0#32
  let c1_i32_50 : BitVec 32 := 1#32
  let arg19 : BitVec 32 := Scf.iv c0_i32_48 c1_i32_50 k0_t2
  let c16_i32_1837 : BitVec 32 := 16#32
  let v12005 : BitVec 32 := Scalar.muli arg19 c16_i32_1837
  let c12_i32_1838 : BitVec 32 := 12#32
  let v12006 : BitVec 32 := Scalar.addi v12005 c12_i32_1838
  let v12007 : BitVec 32 := Scalar.subi c255_i32_1839 v12006
  let c16_i32_1840 : BitVec 32 := 16#32
  let v12008 : BitVec 32 := Scalar.muli v12007 c16_i32_1840
  v12008
def k0_mult44 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1846 : BitVec 32 := 16#32
  let v12017 : BitVec 32 := Scalar.muli arg19 c16_i32_1846
  let c13_i32_1847 : BitVec 32 := 13#32
  let v12018 : BitVec 32 := Scalar.addi v12017 c13_i32_1847
  let c16_i32_1848 : BitVec 32 := 16#32
  let v12019 : BitVec 32 := Scalar.muli v12018 c16_i32_1848
  v12019
def k0_mult45 (k0_t2 : Fin k0_t2_loop.trips) : BitVec 32 :=
  let c255_i32_1856 : BitVec 32 := 255#32
  let c0_i32_48 : BitVec 32 := 0#32
  let c1_i32_50 : BitVec 32 := 1#32
  let arg19 : BitVec 32 := Scf.iv c0_i32_48 c1_i32_50 k0_t2
  let c16_i32_1854 : BitVec 32 := 16#32
  let v12028 : BitVec 32 := Scalar.muli arg19 c16_i32_1854
  let c13_i32_1855 : BitVec 32 := 13#32
  let v12029 : BitVec 32 := Scalar.addi v12028 c13_i32_1855
  let v12030 : BitVec 32 := Scalar.subi c255_i32_1856 v12029
  let c16_i32_1857 : BitVec 32 := 16#32
  let v12031 : BitVec 32 := Scalar.muli v12030 c16_i32_1857
  v12031
def k0_mult46 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1863 : BitVec 32 := 16#32
  let v12040 : BitVec 32 := Scalar.muli arg19 c16_i32_1863
  let c14_i32_1864 : BitVec 32 := 14#32
  let v12041 : BitVec 32 := Scalar.addi v12040 c14_i32_1864
  let c16_i32_1865 : BitVec 32 := 16#32
  let v12042 : BitVec 32 := Scalar.muli v12041 c16_i32_1865
  v12042
def k0_mult47 (k0_t2 : Fin k0_t2_loop.trips) : BitVec 32 :=
  let c255_i32_1873 : BitVec 32 := 255#32
  let c0_i32_48 : BitVec 32 := 0#32
  let c1_i32_50 : BitVec 32 := 1#32
  let arg19 : BitVec 32 := Scf.iv c0_i32_48 c1_i32_50 k0_t2
  let c16_i32_1871 : BitVec 32 := 16#32
  let v12051 : BitVec 32 := Scalar.muli arg19 c16_i32_1871
  let c14_i32_1872 : BitVec 32 := 14#32
  let v12052 : BitVec 32 := Scalar.addi v12051 c14_i32_1872
  let v12053 : BitVec 32 := Scalar.subi c255_i32_1873 v12052
  let c16_i32_1874 : BitVec 32 := 16#32
  let v12054 : BitVec 32 := Scalar.muli v12053 c16_i32_1874
  v12054
def k0_mult48 (k0_t2 : Fin k0_t2_loop.trips) : BitVec 32 :=
  let c0_i32_48 : BitVec 32 := 0#32
  let c1_i32_50 : BitVec 32 := 1#32
  let arg19 : BitVec 32 := Scf.iv c0_i32_48 c1_i32_50 k0_t2
  let c16_i32_1880 : BitVec 32 := 16#32
  let v12063 : BitVec 32 := Scalar.muli arg19 c16_i32_1880
  let c15_i32_1881 : BitVec 32 := 15#32
  let v12064 : BitVec 32 := Scalar.addi v12063 c15_i32_1881
  let c16_i32_1882 : BitVec 32 := 16#32
  let v12065 : BitVec 32 := Scalar.muli v12064 c16_i32_1882
  v12065
def k0_mult49 (k0_t2 : Fin k0_t2_loop.trips) : BitVec 32 :=
  let c255_i32_1890 : BitVec 32 := 255#32
  let c0_i32_48 : BitVec 32 := 0#32
  let c1_i32_50 : BitVec 32 := 1#32
  let arg19 : BitVec 32 := Scf.iv c0_i32_48 c1_i32_50 k0_t2
  let c16_i32_1888 : BitVec 32 := 16#32
  let v12074 : BitVec 32 := Scalar.muli arg19 c16_i32_1888
  let c15_i32_1889 : BitVec 32 := 15#32
  let v12075 : BitVec 32 := Scalar.addi v12074 c15_i32_1889
  let v12076 : BitVec 32 := Scalar.subi c255_i32_1890 v12075
  let c16_i32_1891 : BitVec 32 := 16#32
  let v12077 : BitVec 32 := Scalar.muli v12076 c16_i32_1891
  v12077
def k0_off11 (k0_t2 : Fin k0_t2_loop.trips) (c0_i32_1627 : BitVec 32) : Fin 3 → Nat :=
  let c0_1933 : Index := 0#32
  let c0_i32_48 : BitVec 32 := 0#32
  let c1_i32_50 : BitVec 32 := 1#32
  let arg19 : BitVec 32 := Scf.iv c0_i32_48 c1_i32_50 k0_t2
  let c16_i32_1626 : BitVec 32 := 16#32
  let v11718 : BitVec 32 := Scalar.muli arg19 c16_i32_1626
  let v11719 : BitVec 32 := Scalar.addi v11718 c0_i32_1627
  let c16_i32_1628 : BitVec 32 := 16#32
  let v11720 : BitVec 32 := Scalar.muli v11719 c16_i32_1628
  let v11721 : BitVec 32 := v11720
  let v12207 : Index := Scalar.indexCast v11721
  let c0_1934 : Index := 0#32
  ![0, v12207.toNat, 0]
def k0_off12 (k0_t2 : Fin k0_t2_loop.trips) (c0_i32_1635 : BitVec 32) : Fin 2 → Nat :=
  let c255_i32 : BitVec 32 := 255#32
  let c0_i32_48 : BitVec 32 := 0#32
  let c1_i32_50 : BitVec 32 := 1#32
  let arg19 : BitVec 32 := Scf.iv c0_i32_48 c1_i32_50 k0_t2
  let c16_i32_1634 : BitVec 32 := 16#32
  let v11729 : BitVec 32 := Scalar.muli arg19 c16_i32_1634
  let v11730 : BitVec 32 := Scalar.addi v11729 c0_i32_1635
  let v11731 : BitVec 32 := Scalar.subi c255_i32 v11730
  let c16_i32_1636 : BitVec 32 := 16#32
  let v11732 : BitVec 32 := Scalar.muli v11731 c16_i32_1636
  let v11733 : BitVec 32 := v11732
  let v12219 : Index := Scalar.indexCast v11733
  let c0_1938 : Index := 0#32
  ![v12219.toNat, 0]
def k0_off13 (k0_t2 : Fin k0_t2_loop.trips) (c0_i32_1635 : BitVec 32) : Fin 3 → Nat :=
  let c1_1939 : Index := 1#32
  let c255_i32 : BitVec 32 := 255#32
  let c0_i32_48 : BitVec 32 := 0#32
  let c1_i32_50 : BitVec 32 := 1#32
  let arg19 : BitVec 32 := Scf.iv c0_i32_48 c1_i32_50 k0_t2
  let c16_i32_1634 : BitVec 32 := 16#32
  let v11729 : BitVec 32 := Scalar.muli arg19 c16_i32_1634
  let v11730 : BitVec 32 := Scalar.addi v11729 c0_i32_1635
  let v11731 : BitVec 32 := Scalar.subi c255_i32 v11730
  let c16_i32_1636 : BitVec 32 := 16#32
  let v11732 : BitVec 32 := Scalar.muli v11731 c16_i32_1636
  let v11733 : BitVec 32 := v11732
  let v12223 : Index := Scalar.indexCast v11733
  let c0_1940 : Index := 0#32
  ![1, v12223.toNat, 0]
@[reducible] def k0_t3_loop : Scf.Loop 32 :=
  let c0_i32_52 : BitVec 32 := 0#32
  let c16_i32_53 : BitVec 32 := 16#32
  let v165 : BitVec 32 := Scalar.addi c0_i32_52 c16_i32_53
  let c1_i32_54 : BitVec 32 := 1#32
  ⟨c0_i32_52, v165, c1_i32_54⟩
def k0_mult50 (k0_t3 : Fin k0_t3_loop.trips) : BitVec 32 :=
  let c0_i32_52 : BitVec 32 := 0#32
  let c1_i32_54 : BitVec 32 := 1#32
  let arg19 : BitVec 32 := Scf.iv c0_i32_52 c1_i32_54 k0_t3
  let c256_i32 : BitVec 32 := 256#32
  let v166 : BitVec 32 := Scalar.muli arg19 c256_i32
  v166
def k0_off14 (k0_t3 : Fin k0_t3_loop.trips) : Fin 2 → Nat :=
  let c0_i32_52 : BitVec 32 := 0#32
  let c1_i32_54 : BitVec 32 := 1#32
  let arg19 : BitVec 32 := Scf.iv c0_i32_52 c1_i32_54 k0_t3
  let c256_i32 : BitVec 32 := 256#32
  let v166 : BitVec 32 := Scalar.muli arg19 c256_i32
  let v167 : BitVec 32 := v166
  let v168 : Index := Scalar.indexCast v167
  let c0 : Index := 0#32
  ![v168.toNat, 0]
def k0_off15 (k0_t3 : Fin k0_t3_loop.trips) : Fin 3 → Nat :=
  let c0_63 : Index := 0#32
  let c0_i32_52 : BitVec 32 := 0#32
  let c1_i32_54 : BitVec 32 := 1#32
  let arg19 : BitVec 32 := Scf.iv c0_i32_52 c1_i32_54 k0_t3
  let c256_i32 : BitVec 32 := 256#32
  let v166 : BitVec 32 := Scalar.muli arg19 c256_i32
  let v167 : BitVec 32 := v166
  let v190 : Index := Scalar.indexCast v167
  let c0_64 : Index := 0#32
  ![0, v190.toNat, 0]
def cc0_transform_0 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel6.lean ====
abbrev S12x4096x9728 : Shape := ⟨3, ![12, 4096, 9728]⟩
abbrev S12x4096x128 : Shape := ⟨3, ![12, 4096, 128]⟩
abbrev S5x1536 : Shape := ⟨2, ![5, 1536]⟩
abbrev S2x4 : Shape := ⟨2, ![2, 4]⟩
abbrev S128 : Shape := ⟨1, ![128]⟩
abbrev S8 : Shape := ⟨1, ![8]⟩
abbrev S_ : Shape := ⟨0, ![]⟩
abbrev S1x128 : Shape := ⟨2, ![1, 128]⟩
abbrev S12x4096x16 : Shape := ⟨3, ![12, 4096, 16]⟩
abbrev S12x16x4096 : Shape := ⟨3, ![12, 16, 4096]⟩
abbrev S12x16x64x64 : Shape := ⟨4, ![12, 16, 64, 64]⟩
abbrev S12x4096x512 : Shape := ⟨3, ![12, 4096, 512]⟩
abbrev S1x4096x128 : Shape := ⟨3, ![1, 4096, 128]⟩
abbrev S5x128 : Shape := ⟨2, ![5, 128]⟩
abbrev S1x16x64x64 : Shape := ⟨4, ![1, 16, 64, 64]⟩
abbrev S4112x128 : Shape := ⟨2, ![4112, 128]⟩
abbrev S4096x128 : Shape := ⟨2, ![4096, 128]⟩
abbrev S2x4096x128 : Shape := ⟨3, ![2, 4096, 128]⟩
abbrev S2x64x64 : Shape := ⟨3, ![2, 64, 64]⟩
abbrev S2x64x192x128 : Shape := ⟨4, ![2, 64, 192, 128]⟩
abbrev S2x64x128x128 : Shape := ⟨4, ![2, 64, 128, 128]⟩
abbrev S2x64x128 : Shape := ⟨3, ![2, 64, 128]⟩
abbrev S256x256 : Shape := ⟨2, ![256, 256]⟩
abbrev S128x512 : Shape := ⟨2, ![128, 512]⟩
abbrev S1x256x128 : Shape := ⟨3, ![1, 256, 128]⟩
abbrev S256x128 : Shape := ⟨2, ![256, 128]⟩
abbrev S768x128 : Shape := ⟨2, ![768, 128]⟩
abbrev S768x512 : Shape := ⟨2, ![768, 512]⟩
abbrev S256x384 : Shape := ⟨2, ![256, 384]⟩
abbrev S64x64 : Shape := ⟨2, ![64, 64]⟩
abbrev S1x1 : Shape := ⟨2, ![1, 1]⟩
abbrev S1x1x64x64 : Shape := ⟨4, ![1, 1, 64, 64]⟩
abbrev S1x64x64 : Shape := ⟨3, ![1, 64, 64]⟩
abbrev S8x128 : Shape := ⟨2, ![8, 128]⟩
abbrev S64x128 : Shape := ⟨2, ![64, 128]⟩
abbrev S64 : Shape := ⟨1, ![64]⟩
abbrev S64x1 : Shape := ⟨2, ![64, 1]⟩
abbrev S128x128 : Shape := ⟨2, ![128, 128]⟩
abbrev S128x64 : Shape := ⟨2, ![128, 64]⟩
abbrev S1x64x128 : Shape := ⟨3, ![1, 64, 128]⟩
abbrev S1x1x64 : Shape := ⟨3, ![1, 1, 64]⟩
abbrev S1x64 : Shape := ⟨2, ![1, 64]⟩
abbrev S1x1x128 : Shape := ⟨3, ![1, 1, 128]⟩
abbrev S64x256 : Shape := ⟨2, ![64, 256]⟩
abbrev S128x256 : Shape := ⟨2, ![128, 256]⟩
abbrev S192x64 : Shape := ⟨2, ![192, 64]⟩
abbrev S192x256 : Shape := ⟨2, ![192, 256]⟩
abbrev S1x1x128x128 : Shape := ⟨4, ![1, 1, 128, 128]⟩
abbrev S1x1x64x128 : Shape := ⟨4, ![1, 1, 64, 128]⟩
abbrev S1x1x192x128 : Shape := ⟨4, ![1, 1, 192, 128]⟩
abbrev S192x128 : Shape := ⟨2, ![192, 128]⟩
abbrev S256 : Shape := ⟨1, ![256]⟩
abbrev S256x1 : Shape := ⟨2, ![256, 1]⟩

abbrev nBuf : Space → Nat
  | .hbm => 23
  | .vmem => 36
  | .smem => 2
  | _ => 0

abbrev bufTy : (tb : Table) → Fin (tcTables nBuf tb) → BufTy
  | .hbm, ⟨0, _⟩ => ⟨S12x4096x9728, .bf16⟩
  | .hbm, ⟨1, _⟩ => ⟨S12x4096x128, .f32⟩
  | .hbm, ⟨2, _⟩ => ⟨S5x1536, .f32⟩
  | .hbm, ⟨3, _⟩ => ⟨S2x4, .f32⟩
  | .hbm, ⟨4, _⟩ => ⟨S2x4, .f32⟩
  | .hbm, ⟨5, _⟩ => ⟨S128, .f32⟩
  | .hbm, ⟨6, _⟩ => ⟨S2x4, .f32⟩
  | .hbm, ⟨7, _⟩ => ⟨S8, .f32⟩
  | .hbm, ⟨8, _⟩ => ⟨S8, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S8, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S12x4096x16, .f32⟩
  | .hbm, ⟨19, _⟩ => ⟨S12x16x4096, .f32⟩
  | .hbm, ⟨20, _⟩ => ⟨S12x16x64x64, .f32⟩
  | .hbm, ⟨21, _⟩ => ⟨S1x128, .f32⟩
  | .hbm, ⟨22, _⟩ => ⟨S12x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S5x128, .f32⟩
  | .local _ .vmem, ⟨9, _⟩ => ⟨S5x128, .f32⟩
  | .local _ .vmem, ⟨10, _⟩ => ⟨S5x128, .f32⟩
  | .local _ .vmem, ⟨11, _⟩ => ⟨S5x128, .f32⟩
  | .local _ .vmem, ⟨12, _⟩ => ⟨S5x128, .f32⟩
  | .local _ .vmem, ⟨13, _⟩ => ⟨S5x128, .f32⟩
  | .local _ .vmem, ⟨14, _⟩ => ⟨S1x4096x128, .f32⟩
  | .local _ .vmem, ⟨15, _⟩ => ⟨S1x4096x128, .f32⟩
  | .local _ .vmem, ⟨16, _⟩ => ⟨S1x16x64x64, .f32⟩
  | .local _ .vmem, ⟨17, _⟩ => ⟨S1x16x64x64, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x4096x128, .bf16⟩
  | .local _ .vmem, ⟨22, _⟩ => ⟨S1x4096x128, .bf16⟩
  | .local _ .vmem, ⟨23, _⟩ => ⟨S4112x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S2x4096x128, .f32⟩
  | .local _ .vmem, ⟨28, _⟩ => ⟨S2x4096x128, .f32⟩
  | .local _ .vmem, ⟨29, _⟩ => ⟨S2x64x64, .f32⟩
  | .local _ .vmem, ⟨30, _⟩ => ⟨S2x64x64, .f32⟩
  | .local _ .vmem, ⟨31, _⟩ => ⟨S2x64x192x128, .bf16⟩
  | .local _ .vmem, ⟨32, _⟩ => ⟨S2x64x128x128, .bf16⟩
  | .local _ .vmem, ⟨33, _⟩ => ⟨S2x64x128, .f32⟩
  | .local _ .vmem, ⟨34, _⟩ => ⟨S4096x128, .f32⟩
  | .local _ .vmem, ⟨35, _⟩ => ⟨S4096x128, .f32⟩
  | .local _ .smem, ⟨0, _⟩ => ⟨S2x4, .f32⟩
  | .local _ .smem, ⟨1, _⟩ => ⟨S2x4, .f32⟩
  | _, _ => ⟨S12x4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_scratch10 : Ref sig .tc := ⟨.vmem, 33, rfl⟩
abbrev cc0_scratch11 : Ref sig .tc := ⟨.vmem, 34, rfl⟩
abbrev cc0_scratch12 : Ref sig .tc := ⟨.vmem, 35, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![12, 4], ![false, false]⟩

@[reducible] def k0_t1_loop : Scf.Loop 32 :=
  let c0_i32_24 : BitVec 32 := 0#32
  let c16_i32 : BitVec 32 := 16#32
  let v108 : BitVec 32 := Scalar.addi c0_i32_24 c16_i32
  let c1_i32_25 : BitVec 32 := 1#32
  ⟨c0_i32_24, v108, c1_i32_25⟩
def k0_mult1 (k0_t1 : Fin k0_t1_loop.trips) : BitVec 32 :=
  let c0_i32_24 : BitVec 32 := 0#32
  let c1_i32_25 : BitVec 32 := 1#32
  let arg30 : BitVec 32 := Scf.iv c0_i32_24 c1_i32_25 k0_t1
  let c256_i32 : BitVec 32 := 256#32
  let v271 : BitVec 32 := Scalar.muli arg30 c256_i32
  v271
def k0_off1 (k0_t1 : Fin k0_t1_loop.trips) : Fin 3 → Nat :=
  let c0_133 : Index := 0#32
  let c0_i32_24 : BitVec 32 := 0#32
  let c1_i32_25 : BitVec 32 := 1#32
  let arg30 : BitVec 32 := Scf.iv c0_i32_24 c1_i32_25 k0_t1
  let c256_i32 : BitVec 32 := 256#32
  let v271 : BitVec 32 := Scalar.muli arg30 c256_i32
  let v272 : BitVec 32 := v271
  let v273 : Index := Scalar.indexCast v272
  let c0_134 : Index := 0#32
  ![0, v273.toNat, 0]
def k0_off2 (k0_t1 : Fin k0_t1_loop.trips) : Fin 3 → Nat :=
  let c0_144 : Index := 0#32
  let c0_i32_24 : BitVec 32 := 0#32
  let c1_i32_25 : BitVec 32 := 1#32
  let arg30 : BitVec 32 := Scf.iv c0_i32_24 c1_i32_25 k0_t1
  let c256_i32 : BitVec 32 := 256#32
  let v271 : BitVec 32 := Scalar.muli arg30 c256_i32
  let v272 : BitVec 32 := v271
  let v318 : Index := Scalar.indexCast v272
  let c0_145 : Index := 0#32
  ![0, v318.toNat, 0]
def k0_off3 (k0_t1 : Fin k0_t1_loop.trips) : Fin 3 → Nat :=
  let c1_149 : Index := 1#32
  let c0_i32_24 : BitVec 32 := 0#32
  let c1_i32_25 : BitVec 32 := 1#32
  let arg30 : BitVec 32 := Scf.iv c0_i32_24 c1_i32_25 k0_t1
  let c256_i32 : BitVec 32 := 256#32
  let v271 : BitVec 32 := Scalar.muli arg30 c256_i32
  let v272 : BitVec 32 := v271
  let v342 : Index := Scalar.indexCast v272
  let c0_150 : Index := 0#32
  ![1, v342.toNat, 0]
def k0_off4 (i : grid0.Coords) : Fin 2 → Nat :=
  let c0 : Index := 0#32
  let arg1 : BitVec 32 := BitVec.ofNat 32 (i 1).val
  let v111 : Index := Scalar.indexCast arg1
  ![0, v111.toNat]
def k0_off5 (i : grid0.Coords) (c8_i32_28 : BitVec 32) : Fin 4 → Nat :=
  let c0_29 : Index := 0#32
  let arg1 : BitVec 32 := BitVec.ofNat 32 (i 1).val
  let v115 : BitVec 32 := Scalar.addi c8_i32_28 arg1
  let v116 : Index := Scalar.indexCast v115
  let c0_30 : Index := 0#32
  let c0_31 : Index := 0#32
  ![0, v116.toNat, 0, 0]
def k0_off6 (i : grid0.Coords) : Fin 2 → Nat :=
  let c1 : Index := 1#32
  let arg1 : BitVec 32 := BitVec.ofNat 32 (i 1).val
  let v163 : Index := Scalar.indexCast arg1
  ![1, v163.toNat]
@[reducible] def k0_t2_loop : Scf.Loop 32 :=
  let c0_i32_84 : BitVec 32 := 0#32
  let c64_i32_85 : BitVec 32 := 64#32
  let v229 : BitVec 32 := Scalar.addi c0_i32_84 c64_i32_85
  let c1_i32_86 : BitVec 32 := 1#32
  ⟨c0_i32_84, v229, c1_i32_86⟩
def k0_mult2 (k0_t2 : Fin k0_t2_loop.trips) : BitVec 32 :=
  let c0_i32_84 : BitVec 32 := 0#32
  let c1_i32_86 : BitVec 32 := 1#32
  let arg30 : BitVec 32 := Scf.iv c0_i32_84 c1_i32_86 k0_t2
  let c64_i32_133 : BitVec 32 := 64#32
  let v271 : BitVec 32 := Scalar.muli arg30 c64_i32_133
  v271
def k0_off7 (k0_t2 : Fin k0_t2_loop.trips) (c6_i32 : BitVec 32) : Fin 2 → Nat :=
  let c0_i32_84 : BitVec 32 := 0#32
  let c1_i32_86 : BitVec 32 := 1#32
  let arg30 : BitVec 32 := Scf.iv c0_i32_84 c1_i32_86 k0_t2
  let c64_i32_133 : BitVec 32 := 64#32
  let v271 : BitVec 32 := Scalar.muli arg30 c64_i32_133
  let v272 : BitVec 32 := v271
  let v274 : BitVec 32 := Scalar.addi v272 c6_i32
  let v275 : Index := Scalar.indexCast v274
  let c0_135 : Index := 0#32
  ![v275.toNat, 0]
def k0_off8 (k0_t2 : Fin k0_t2_loop.trips) : Fin 2 → Nat :=
  let c0_i32_84 : BitVec 32 := 0#32
  let c1_i32_86 : BitVec 32 := 1#32
  let arg30 : BitVec 32 := Scf.iv c0_i32_84 c1_i32_86 k0_t2
  let c64_i32_133 : BitVec 32 := 64#32
  let v271 : BitVec 32 := Scalar.muli arg30 c64_i32_133
  let v272 : BitVec 32 := v271
  let v321 : Index := Scalar.indexCast v272
  let c0_144 : Index := 0#32
  ![v321.toNat, 0]
@[reducible] def k0_t3_loop : Scf.Loop 32 :=
  let c0_i32_99 : BitVec 32 := 0#32
  let c64_i32_100 : BitVec 32 := 64#32
  let v243 : BitVec 32 := Scalar.addi c0_i32_99 c64_i32_100
  let c1_i32_101 : BitVec 32 := 1#32
  ⟨c0_i32_99, v243, c1_i32_101⟩
def k0_mult3 (k0_t3 : Fin k0_t3_loop.trips) : BitVec 32 :=
  let c0_i32_99 : BitVec 32 := 0#32
  let c1_i32_101 : BitVec 32 := 1#32
  let arg30 : BitVec 32 := Scf.iv c0_i32_99 c1_i32_101 k0_t3
  let c64_i32_133 : BitVec 32 := 64#32
  let v271 : BitVec 32 := Scalar.muli arg30 c64_i32_133
  v271
def k0_off9 (k0_t3 : Fin k0_t3_loop.trips) (c6_i32 : BitVec 32) : Fin 2 → Nat :=
  let c0_i32_99 : BitVec 32 := 0#32
  let c1_i32_101 : BitVec 32 := 1#32
  let arg30 : BitVec 32 := Scf.iv c0_i32_99 c1_i32_101 k0_t3
  let c64_i32_133 : BitVec 32 := 64#32
  let v271 : BitVec 32 := Scalar.muli arg30 c64_i32_133
  let v272 : BitVec 32 := v271
  let v274 : BitVec 32 := Scalar.addi v272 c6_i32
  let v275 : Index := Scalar.indexCast v274
  let c0_135 : Index := 0#32
  ![v275.toNat, 0]
def k0_off10 (k0_t3 : Fin k0_t3_loop.trips) : Fin 2 → Nat :=
  let c0_i32_99 : BitVec 32 := 0#32
  let c1_i32_101 : BitVec 32 := 1#32
  let arg30 : BitVec 32 := Scf.iv c0_i32_99 c1_i32_101 k0_t3
  let c64_i32_133 : BitVec 32 := 64#32
  let v271 : BitVec 32 := Scalar.muli arg30 c64_i32_133
  let v272 : BitVec 32 := v271
  let v319 : Index := Scalar.indexCast v272
  let c0_143 : Index := 0#32
  ![v319.toNat, 0]
@[reducible] def k0_t4_loop : Scf.Loop 32 :=
  let c0_i32_114 : BitVec 32 := 0#32
  let c64_i32_115 : BitVec 32 := 64#32
  let v257 : BitVec 32 := Scalar.addi c0_i32_114 c64_i32_115
  let c1_i32_116 : BitVec 32 := 1#32
  ⟨c0_i32_114, v257, c1_i32_116⟩
def k0_mult4 (k0_t4 : Fin k0_t4_loop.trips) : BitVec 32 :=
  let c0_i32_114 : BitVec 32 := 0#32
  let c1_i32_116 : BitVec 32 := 1#32
  let arg30 : BitVec 32 := Scf.iv c0_i32_114 c1_i32_116 k0_t4
  let c64_i32_133 : BitVec 32 := 64#32
  let v271 : BitVec 32 := Scalar.muli arg30 c64_i32_133
  v271
def k0_off11 (k0_t4 : Fin k0_t4_loop.trips) (c6_i32 : BitVec 32) : Fin 2 → Nat :=
  let c0_i32_114 : BitVec 32 := 0#32
  let c1_i32_116 : BitVec 32 := 1#32
  let arg30 : BitVec 32 := Scf.iv c0_i32_114 c1_i32_116 k0_t4
  let c64_i32_133 : BitVec 32 := 64#32
  let v271 : BitVec 32 := Scalar.muli arg30 c64_i32_133
  let v272 : BitVec 32 := v271
  let v274 : BitVec 32 := Scalar.addi v272 c6_i32
  let v275 : Index := Scalar.indexCast v274
  let c0_135 : Index := 0#32
  ![v275.toNat, 0]
def k0_off12 (k0_t4 : Fin k0_t4_loop.trips) : Fin 2 → Nat :=
  let c0_i32_114 : BitVec 32 := 0#32
  let c1_i32_116 : BitVec 32 := 1#32
  let arg30 : BitVec 32 := Scf.iv c0_i32_114 c1_i32_116 k0_t4
  let c64_i32_133 : BitVec 32 := 64#32
  let v271 : BitVec 32 := Scalar.muli arg30 c64_i32_133
  let v272 : BitVec 32 := v271
  let v311 : Index := Scalar.indexCast v272
  let c0_141 : Index := 0#32
  ![v311.toNat, 0]
@[reducible] def k0_t5_loop : Scf.Loop 32 :=
  let c0_i32_120 : BitVec 32 := 0#32
  let c4_i32_121 : BitVec 32 := 4#32
  let v266 : BitVec 32 := Scalar.addi c0_i32_120 c4_i32_121
  let c1_i32_122 : BitVec 32 := 1#32
  ⟨c0_i32_120, v266, c1_i32_122⟩
def k0_mult5 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let c0_i32_134 : BitVec 32 := 0#32
  let v272 : BitVec 32 := Scalar.addi v271 c0_i32_134
  let c64_i32_135 : BitVec 32 := 64#32
  let v273 : BitVec 32 := Scalar.muli v272 c64_i32_135
  v273
def k0_off13 (k0_t5 : Fin k0_t5_loop.trips) (c0_i32_134 : BitVec 32) : Fin 2 → Nat :=
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let c64_i32_135 : BitVec 32 := 64#32
  let v273 : BitVec 32 := Scalar.muli v272 c64_i32_135
  let v274 : BitVec 32 := v273
  let v275 : Index := Scalar.indexCast v274
  let c0_136 : Index := 0#32
  ![v275.toNat, 0]
def k0_off14 (k0_t5 : Fin k0_t5_loop.trips) (c0_i32_134 : BitVec 32) : Fin 3 → Nat :=
  let c0_140 : Index := 0#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let c64_i32_135 : BitVec 32 := 64#32
  let v273 : BitVec 32 := Scalar.muli v272 c64_i32_135
  let v274 : BitVec 32 := v273
  let v288 : Index := Scalar.indexCast v274
  let c0_141 : Index := 0#32
  ![0, v288.toNat, 0]
def k0_off15 (k0_t5 : Fin k0_t5_loop.trips) (c0_i32_134 : BitVec 32) : Fin 3 → Nat :=
  let c0_142 : Index := 0#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v291 : Index := Scalar.indexCast v272
  let c0_143 : Index := 0#32
  ![0, v291.toNat, 0]
def k0_off16 (k0_t5 : Fin k0_t5_loop.trips) (c0_i32_134 : BitVec 32) : Fin 3 → Nat :=
  let c0_150 : Index := 0#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v314 : Index := Scalar.indexCast v272
  let c0_151 : Index := 0#32
  ![0, v314.toNat, 0]
def k0_off17 (k0_t5 : Fin k0_t5_loop.trips) (c0_i32_134 : BitVec 32) : Fin 3 → Nat :=
  let c1_152 : Index := 1#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let c64_i32_135 : BitVec 32 := 64#32
  let v273 : BitVec 32 := Scalar.muli v272 c64_i32_135
  let v274 : BitVec 32 := v273
  let v328 : Index := Scalar.indexCast v274
  let c0_153 : Index := 0#32
  ![1, v328.toNat, 0]
def k0_off18 (k0_t5 : Fin k0_t5_loop.trips) (c0_i32_134 : BitVec 32) : Fin 3 → Nat :=
  let c1_154 : Index := 1#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v331 : Index := Scalar.indexCast v272
  let c0_155 : Index := 0#32
  ![1, v331.toNat, 0]
def k0_off19 (k0_t5 : Fin k0_t5_loop.trips) (c0_i32_134 : BitVec 32) : Fin 3 → Nat :=
  let c1_162 : Index := 1#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v354 : Index := Scalar.indexCast v272
  let c0_163 : Index := 0#32
  ![1, v354.toNat, 0]
def k0_mult6 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_164 : BitVec 32 := 16#32
  let v368 : BitVec 32 := Scalar.muli arg30 c16_i32_164
  let c1_i32_165 : BitVec 32 := 1#32
  let v369 : BitVec 32 := Scalar.addi v368 c1_i32_165
  let c64_i32_166 : BitVec 32 := 64#32
  let v370 : BitVec 32 := Scalar.muli v369 c64_i32_166
  v370
def k0_mult7 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_195 : BitVec 32 := 16#32
  let v465 : BitVec 32 := Scalar.muli arg30 c16_i32_195
  let c2_i32_196 : BitVec 32 := 2#32
  let v466 : BitVec 32 := Scalar.addi v465 c2_i32_196
  let c64_i32_197 : BitVec 32 := 64#32
  let v467 : BitVec 32 := Scalar.muli v466 c64_i32_197
  v467
def k0_mult8 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_226 : BitVec 32 := 16#32
  let v562 : BitVec 32 := Scalar.muli arg30 c16_i32_226
  let c3_i32 : BitVec 32 := 3#32
  let v563 : BitVec 32 := Scalar.addi v562 c3_i32
  let c64_i32_227 : BitVec 32 := 64#32
  let v564 : BitVec 32 := Scalar.muli v563 c64_i32_227
  v564
def k0_mult9 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_256 : BitVec 32 := 16#32
  let v659 : BitVec 32 := Scalar.muli arg30 c16_i32_256
  let c4_i32_257 : BitVec 32 := 4#32
  let v660 : BitVec 32 := Scalar.addi v659 c4_i32_257
  let c64_i32_258 : BitVec 32 := 64#32
  let v661 : BitVec 32 := Scalar.muli v660 c64_i32_258
  v661
def k0_mult10 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_287 : BitVec 32 := 16#32
  let v756 : BitVec 32 := Scalar.muli arg30 c16_i32_287
  let c5_i32 : BitVec 32 := 5#32
  let v757 : BitVec 32 := Scalar.addi v756 c5_i32
  let c64_i32_288 : BitVec 32 := 64#32
  let v758 : BitVec 32 := Scalar.muli v757 c64_i32_288
  v758
def k0_mult11 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_317 : BitVec 32 := 16#32
  let v853 : BitVec 32 := Scalar.muli arg30 c16_i32_317
  let c6_i32 : BitVec 32 := 6#32
  let v854 : BitVec 32 := Scalar.addi v853 c6_i32
  let c64_i32_318 : BitVec 32 := 64#32
  let v855 : BitVec 32 := Scalar.muli v854 c64_i32_318
  v855
def k0_mult12 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_347 : BitVec 32 := 16#32
  let v950 : BitVec 32 := Scalar.muli arg30 c16_i32_347
  let c7_i32 : BitVec 32 := 7#32
  let v951 : BitVec 32 := Scalar.addi v950 c7_i32
  let c64_i32_348 : BitVec 32 := 64#32
  let v952 : BitVec 32 := Scalar.muli v951 c64_i32_348
  v952
def k0_mult13 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_377 : BitVec 32 := 16#32
  let v1047 : BitVec 32 := Scalar.muli arg30 c16_i32_377
  let c8_i32_378 : BitVec 32 := 8#32
  let v1048 : BitVec 32 := Scalar.addi v1047 c8_i32_378
  let c64_i32_379 : BitVec 32 := 64#32
  let v1049 : BitVec 32 := Scalar.muli v1048 c64_i32_379
  v1049
def k0_mult14 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_408 : BitVec 32 := 16#32
  let v1144 : BitVec 32 := Scalar.muli arg30 c16_i32_408
  let c9_i32 : BitVec 32 := 9#32
  let v1145 : BitVec 32 := Scalar.addi v1144 c9_i32
  let c64_i32_409 : BitVec 32 := 64#32
  let v1146 : BitVec 32 := Scalar.muli v1145 c64_i32_409
  v1146
def k0_mult15 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_438 : BitVec 32 := 16#32
  let v1241 : BitVec 32 := Scalar.muli arg30 c16_i32_438
  let c10_i32 : BitVec 32 := 10#32
  let v1242 : BitVec 32 := Scalar.addi v1241 c10_i32
  let c64_i32_439 : BitVec 32 := 64#32
  let v1243 : BitVec 32 := Scalar.muli v1242 c64_i32_439
  v1243
def k0_mult16 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_468 : BitVec 32 := 16#32
  let v1338 : BitVec 32 := Scalar.muli arg30 c16_i32_468
  let c11_i32 : BitVec 32 := 11#32
  let v1339 : BitVec 32 := Scalar.addi v1338 c11_i32
  let c64_i32_469 : BitVec 32 := 64#32
  let v1340 : BitVec 32 := Scalar.muli v1339 c64_i32_469
  v1340
def k0_mult17 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_498 : BitVec 32 := 16#32
  let v1435 : BitVec 32 := Scalar.muli arg30 c16_i32_498
  let c12_i32_499 : BitVec 32 := 12#32
  let v1436 : BitVec 32 := Scalar.addi v1435 c12_i32_499
  let c64_i32_500 : BitVec 32 := 64#32
  let v1437 : BitVec 32 := Scalar.muli v1436 c64_i32_500
  v1437
def k0_mult18 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_529 : BitVec 32 := 16#32
  let v1532 : BitVec 32 := Scalar.muli arg30 c16_i32_529
  let c13_i32 : BitVec 32 := 13#32
  let v1533 : BitVec 32 := Scalar.addi v1532 c13_i32
  let c64_i32_530 : BitVec 32 := 64#32
  let v1534 : BitVec 32 := Scalar.muli v1533 c64_i32_530
  v1534
def k0_mult19 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_559 : BitVec 32 := 16#32
  let v1629 : BitVec 32 := Scalar.muli arg30 c16_i32_559
  let c14_i32 : BitVec 32 := 14#32
  let v1630 : BitVec 32 := Scalar.addi v1629 c14_i32
  let c64_i32_560 : BitVec 32 := 64#32
  let v1631 : BitVec 32 := Scalar.muli v1630 c64_i32_560
  v1631
def k0_mult20 (k0_t5 : Fin k0_t5_loop.trips) : BitVec 32 :=
  let c0_i32_120 : BitVec 32 := 0#32
  let c1_i32_122 : BitVec 32 := 1#32
  let arg30 : BitVec 32 := Scf.iv c0_i32_120 c1_i32_122 k0_t5
  let c16_i32_589 : BitVec 32 := 16#32
  let v1726 : BitVec 32 := Scalar.muli arg30 c16_i32_589
  let c15_i32 : BitVec 32 := 15#32
  let v1727 : BitVec 32 := Scalar.addi v1726 c15_i32
  let c64_i32_590 : BitVec 32 := 64#32
  let v1728 : BitVec 32 := Scalar.muli v1727 c64_i32_590
  v1728
def k0_off20 (k0_t5 : Fin k0_t5_loop.trips) (c0_i32_134 : BitVec 32) : Fin 4 → Nat :=
  let c0_908 : Index := 0#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v3491 : Index := Scalar.indexCast v272
  let c0_909 : Index := 0#32
  let c0_910 : Index := 0#32
  ![0, v3491.toNat, 0, 0]
def k0_off21 (k0_t5 : Fin k0_t5_loop.trips) (c0_i32_134 : BitVec 32) : Fin 4 → Nat :=
  let c0_911 : Index := 0#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v3498 : Index := Scalar.indexCast v272
  let c128 : Index := 128#32
  let c0_912 : Index := 0#32
  ![0, v3498.toNat, 128, 0]
def k0_off22 (k0_t5 : Fin k0_t5_loop.trips) (c0_i32_134 : BitVec 32) : Fin 4 → Nat :=
  let c0_913 : Index := 0#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v3504 : Index := Scalar.indexCast v272
  let c0_914 : Index := 0#32
  let c0_915 : Index := 0#32
  ![0, v3504.toNat, 0, 0]
def k0_off23 (k0_t5 : Fin k0_t5_loop.trips) (c0_i32_134 : BitVec 32) : Fin 4 → Nat :=
  let c1_918 : Index := 1#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v3517 : Index := Scalar.indexCast v272
  let c0_919 : Index := 0#32
  let c0_920 : Index := 0#32
  ![1, v3517.toNat, 0, 0]
def k0_off24 (k0_t5 : Fin k0_t5_loop.trips) (c0_i32_134 : BitVec 32) : Fin 4 → Nat :=
  let c1_921 : Index := 1#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v3524 : Index := Scalar.indexCast v272
  let c128_922 : Index := 128#32
  let c0_923 : Index := 0#32
  ![1, v3524.toNat, 128, 0]
def k0_off25 (k0_t5 : Fin k0_t5_loop.trips) (c0_i32_134 : BitVec 32) : Fin 4 → Nat :=
  let c1_924 : Index := 1#32
  let c0_i32_120 : BitVec 32 := 0#32
  let c1_i32_122 : BitVec 32 := 1#32
  let arg30 : BitVec 32 := Scf.iv c0_i32_120 c1_i32_122 k0_t5
  let c16_i32_133 : BitVec 32 := 16#32
  let v271 : BitVec 32 := Scalar.muli arg30 c16_i32_133
  let v272 : BitVec 32 := Scalar.addi v271 c0_i32_134
  let v3530 : Index := Scalar.indexCast v272
  let c0_925 : Index := 0#32
  let c0_926 : Index := 0#32
  ![1, v3530.toNat, 0, 0]
@[reducible] def k0_t6_loop : Scf.Loop 32 :=
  let c0_i32_125 : BitVec 32 := 0#32
  let c64_i32_126 : BitVec 32 := 64#32
  let v268 : BitVec 32 := Scalar.addi c0_i32_125 c64_i32_126
  let c1_i32_127 : BitVec 32 := 1#32
  ⟨c0_i32_125, v268, c1_i32_127⟩
def k0_mult21 (k0_t6 : Fin k0_t6_loop.trips) : BitVec 32 :=
  let c0_i32_125 : BitVec 32 := 0#32
  let c1_i32_127 : BitVec 32 := 1#32
  let arg30 : BitVec 32 := Scf.iv c0_i32_125 c1_i32_127 k0_t6
  let c64_i32_133 : BitVec 32 := 64#32
  let v271 : BitVec 32 := Scalar.muli arg30 c64_i32_133
  v271
def k0_off26 (k0_t6 : Fin k0_t6_loop.trips) : Fin 4 → Nat :=
  let c0_134 : Index := 0#32
  let c0_i32_125 : BitVec 32 := 0#32
  let c1_i32_127 : BitVec 32 := 1#32
  let arg30 : BitVec 32 := Scf.iv c0_i32_125 c1_i32_127 k0_t6
  let v273 : Index := Scalar.indexCast arg30
  let c0_135 : Index := 0#32
  let c0_136 : Index := 0#32
  ![0, v273.toNat, 0, 0]
def k0_off27 (k0_t6 : Fin k0_t6_loop.trips) : Fin 2 → Nat :=
  let c0_i32_125 : BitVec 32 := 0#32
  let c1_i32_127 : BitVec 32 := 1#32
  let arg30 : BitVec 32 := Scf.iv c0_i32_125 c1_i32_127 k0_t6
  let c64_i32_133 : BitVec 32 := 64#32
  let v271 : BitVec 32 := Scalar.muli arg30 c64_i32_133
  let v272 : BitVec 32 := v271
  let v278 : Index := Scalar.indexCast v272
  let c0_138 : Index := 0#32
  ![v278.toNat, 0]
def k0_off28 (k0_t6 : Fin k0_t6_loop.trips) : Fin 3 → Nat :=
  let c0_140 : Index := 0#32
  let c0_i32_125 : BitVec 32 := 0#32
  let c1_i32_127 : BitVec 32 := 1#32
  let arg30 : BitVec 32 := Scf.iv c0_i32_125 c1_i32_127 k0_t6
  let v286 : Index := Scalar.indexCast arg30
  let c0_141 : Index := 0#32
  ![0, v286.toNat, 0]
def k0_off29 (k0_t6 : Fin k0_t6_loop.trips) : Fin 4 → Nat :=
  let c0_142 : Index := 0#32
  let c0_i32_125 : BitVec 32 := 0#32
  let c1_i32_127 : BitVec 32 := 1#32
  let arg30 : BitVec 32 := Scf.iv c0_i32_125 c1_i32_127 k0_t6
  let v291 : Index := Scalar.indexCast arg30
  let c0_143 : Index := 0#32
  let c0_144 : Index := 0#32
  ![0, v291.toNat, 0, 0]
def k0_mult22 (k0_t6 : Fin k0_t6_loop.trips) : BitVec 32 :=
  let c63_i32 : BitVec 32 := 63#32
  let c0_i32_125 : BitVec 32 := 0#32
  let c1_i32_127 : BitVec 32 := 1#32
  let arg30 : BitVec 32 := Scf.iv c0_i32_125 c1_i32_127 k0_t6
  let v298 : BitVec 32 := Scalar.subi c63_i32 arg30
  let c64_i32_145 : BitVec 32 := 64#32
  let v299 : BitVec 32 := Scalar.muli v298 c64_i32_145
  v299
def k0_off30 (k0_t6 : Fin k0_t6_loop.trips) : Fin 4 → Nat :=
  let c1_146 : Index := 1#32
  let c63_i32 : BitVec 32 := 63#32
  let c0_i32_125 : BitVec 32 := 0#32
  let c1_i32_127 : BitVec 32 := 1#32
  let arg30 : BitVec 32 := Scf.iv c0_i32_125 c1_i32_127 k0_t6
  let v298 : BitVec 32 := Scalar.subi c63_i32 arg30
  let v301 : Index := Scalar.indexCast v298
  let c0_147 : Index := 0#32
  let c0_148 : Index := 0#32
  ![1, v301.toNat, 0, 0]
def k0_off31 (k0_t6 : Fin k0_t6_loop.trips) : Fin 2 → Nat :=
  let c63_i32 : BitVec 32 := 63#32
  let c0_i32_125 : BitVec 32 := 0#32
  let c1_i32_127 : BitVec 32 := 1#32
  let arg30 : BitVec 32 := Scf.iv c0_i32_125 c1_i32_127 k0_t6
  let v298 : BitVec 32 := Scalar.subi c63_i32 arg30
  let c64_i32_145 : BitVec 32 := 64#32
  let v299 : BitVec 32 := Scalar.muli v298 c64_i32_145
  let v300 : BitVec 32 := v299
  let v306 : Index := Scalar.indexCast v300
  let c0_150 : Index := 0#32
  ![v306.toNat, 0]
def k0_off32 (k0_t6 : Fin k0_t6_loop.trips) : Fin 3 → Nat :=
  let c1_152 : Index := 1#32
  let c63_i32 : BitVec 32 := 63#32
  let c0_i32_125 : BitVec 32 := 0#32
  let c1_i32_127 : BitVec 32 := 1#32
  let arg30 : BitVec 32 := Scf.iv c0_i32_125 c1_i32_127 k0_t6
  let v298 : BitVec 32 := Scalar.subi c63_i32 arg30
  let v314 : Index := Scalar.indexCast v298
  let c0_153 : Index := 0#32
  ![1, v314.toNat, 0]
def k0_off33 (k0_t6 : Fin k0_t6_loop.trips) : Fin 4 → Nat :=
  let c1_154 : Index := 1#32
  let c63_i32 : BitVec 32 := 63#32
  let c0_i32_125 : BitVec 32 := 0#32
  let c1_i32_127 : BitVec 32 := 1#32
  let arg30 : BitVec 32 := Scf.iv c0_i32_125 c1_i32_127 k0_t6
  let v298 : BitVec 32 := Scalar.subi c63_i32 arg30
  let v319 : Index := Scalar.indexCast v298
  let c0_155 : Index := 0#32
  let c0_156 : Index := 0#32
  ![1, v319.toNat, 0, 0]
@[reducible] def k0_t7_loop : Scf.Loop 32 :=
  let c0_i32_129 : BitVec 32 := 0#32
  let c16_i32_130 : BitVec 32 := 16#32
  let v270 : BitVec 32 := Scalar.addi c0_i32_129 c16_i32_130
  let c1_i32_131 : BitVec 32 := 1#32
  ⟨c0_i32_129, v270, c1_i32_131⟩
def k0_mult23 (k0_t7 : Fin k0_t7_loop.trips) : BitVec 32 :=
  let c0_i32_129 : BitVec 32 := 0#32
  let c1_i32_131 : BitVec 32 := 1#32
  let arg30 : BitVec 32 := Scf.iv c0_i32_129 c1_i32_131 k0_t7
  let c256_i32 : BitVec 32 := 256#32
  let v271 : BitVec 32 := Scalar.muli arg30 c256_i32
  v271
def k0_off34 (k0_t7 : Fin k0_t7_loop.trips) : Fin 2 → Nat :=
  let c0_i32_129 : BitVec 32 := 0#32
  let c1_i32_131 : BitVec 32 := 1#32
  let arg30 : BitVec 32 := Scf.iv c0_i32_129 c1_i32_131 k0_t7
  let c256_i32 : BitVec 32 := 256#32
  let v271 : BitVec 32 := Scalar.muli arg30 c256_i32
  let v272 : BitVec 32 := v271
  let v273 : Index := Scalar.indexCast v272
  let c0_133 : Index := 0#32
  ![v273.toNat, 0]
def k0_off35 (k0_t7 : Fin k0_t7_loop.trips) : Fin 3 → Nat :=
  let c0_140 : Index := 0#32
  let c0_i32_129 : BitVec 32 := 0#32
  let c1_i32_131 : BitVec 32 := 1#32
  let arg30 : BitVec 32 := Scf.iv c0_i32_129 c1_i32_131 k0_t7
  let c256_i32 : BitVec 32 := 256#32
  let v271 : BitVec 32 := Scalar.muli arg30 c256_i32
  let v272 : BitVec 32 := v271
  let v292 : Index := Scalar.indexCast v272
  let c0_141 : Index := 0#32
  ![0, v292.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S5x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S5x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S5x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x4096x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.Frames.lean ====
/-
  The frames of the attention program and of its reference, and what the attention program's one
  rewritten constant keeps.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Frames

/-- The attention program terminates, leaves its arguments as they were and its counters at zero. -/
theorem frame_p : Cert.quiescent_Kernel := fun m ρ _ => Cert.Kernel.Gen.frame m ρ
/-- So does its idealization. -/
theorem frame_pi : Cert.quiescent_KernelIdeal := fun m ρ _ => Cert.KernelIdeal.Gen.frame m ρ
/-- So does its reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The attention program's scale constant is the word of the real number it is named for. -/
theorem preserves : Cert.preserves_Kernel_KernelIdeal :=
  IdealRules.named_const.statement Cert.KernelIdeal.κ "q_scale" .f32 0x3E38AA3B#32 _ rfl

end Cert.Proof.Frames

end
-- ==== Proof.AttnMath.lean ====
/-
  The real-number facts two-softmax attention rests on: which of the exact operations keep a value a real number, the
  softmax's weighted mean in the two forms the two programs compute it in, and the rotated, normalized row.
-/
module

public import Idealize.ShloMosaic.PureOps.Ideal.Laws
public import Idealize.ShloMosaic.Lib.ValueIdx
public import Idealize.ShloMosaic.Lib.IdealHost

@[expose] public section

noncomputable section

open Idealize.ShloMosaic Idealize.ShloMosaic.ValueIdx
open scoped BigOperators

namespace Cert.Attn

/-- The value is a real number, neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.exp {x : EReal} (hx : IsReal x) : IsReal (Ideal.exp x) := by
  obtain ⟨a, rfl⟩ := hx; exact ⟨Real.exp a, Ideal.exp_coe a⟩
theorem IsReal.cos {x : EReal} (hx : IsReal x) : IsReal (Ideal.cos x) := by
  obtain ⟨a, rfl⟩ := hx; exact ⟨Real.cos a, Ideal.cos_coe a⟩
theorem IsReal.sin {x : EReal} (hx : IsReal x) : IsReal (Ideal.sin x) := by
  obtain ⟨a, rfl⟩ := hx; exact ⟨Real.sin a, Ideal.sin_coe a⟩
theorem IsReal.div {x : EReal} (hx : IsReal x) {r : ℝ} (hr : r ≠ 0) : IsReal (Ideal.div x (r : EReal)) := by
  rw [Ideal.div_coe hr]; exact hx.mul ⟨_, rfl⟩
theorem isReal_sum {ι : Type} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

/-- A sum of real numbers, summed as extended reals, is their sum. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- The maximum of finitely many real numbers, at least one, taken from minus infinity, is one of the real numbers. -/
theorem isReal_fold_max {n : ℕ} (h0 : 0 < n) (f : Fin n → EReal) (hf : ∀ i, IsReal (f i)) :
    IsReal (Finset.univ.fold max ⊥ f) := by
  have key : ∀ s : Finset (Fin n), s.fold max ⊥ f = ⊥ ∧ s = ∅ ∨ IsReal (s.fold max ⊥ f) := by
    intro s
    classical
    induction s using Finset.induction_on with
    | empty => exact .inl ⟨rfl, rfl⟩
    | insert a s ha ih =>
      refine .inr ?_
      rw [Finset.fold_insert ha]
      rcases ih with ⟨h, -⟩ | h
      · rw [h, max_bot_right]; exact hf a
      · rcases max_choice (f a) (s.fold max ⊥ f) with e | e <;> rw [e]
        · exact hf a
        · exact h
  rcases key Finset.univ with ⟨-, h⟩ | h
  · exact absurd (Finset.mem_univ (⟨0, h0⟩ : Fin n)) (by rw [h]; exact Finset.notMem_empty _)
  · exact h

/-! ## The softmax's weighted mean -/

/-- The mean of `v` weighted by the exponentials of the scores `s`. -/
def W {n : ℕ} (s v : Fin n → ℝ) : ℝ := (∑ j, Real.exp (s j) * v j) / ∑ j, Real.exp (s j)

theorem sum_exp_pos {n : ℕ} (h0 : 0 < n) (s : Fin n → ℝ) : 0 < ∑ j, Real.exp (s j) :=
  Finset.sum_pos (fun j _ => Real.exp_pos _) ⟨⟨0, h0⟩, Finset.mem_univ _⟩

/-- The weights shifted by any real number give the same mean. -/
theorem W_shift {n : ℕ} (h0 : 0 < n) (s v : Fin n → ℝ) (M : ℝ) :
    (∑ j, Real.exp (s j - M) * v j) / (∑ j, Real.exp (s j - M)) = W s v := by
  have e1 : ∑ j, Real.exp (s j - M) * v j = Real.exp (-M) * ∑ j, Real.exp (s j) * v j := by
    rw [Finset.mul_sum]; refine Finset.sum_congr rfl fun j _ => ?_
    rw [sub_eq_add_neg, Real.exp_add]; ring
  have e2 : ∑ j, Real.exp (s j - M) = Real.exp (-M) * ∑ j, Real.exp (s j) := by
    rw [Finset.mul_sum]; refine Finset.sum_congr rfl fun j _ => ?_
    rw [sub_eq_add_neg, Real.exp_add]; ring
  rw [e1, e2, W, mul_div_mul_left _ _ (Real.exp_ne_zero _)]

/-- `2 ^ (x / log 2) = e ^ x`. -/
theorem rpow_two_div_log (x : ℝ) : Real.rpow 2 ((Real.log 2)⁻¹ * x) = Real.exp x := by
  have h : Real.log 2 ≠ 0 := (Real.log_pos one_lt_two).ne'
  show (2 : ℝ) ^ ((Real.log 2)⁻¹ * x) = _
  rw [Real.rpow_def_of_pos two_pos, ← mul_assoc, mul_inv_cancel₀ h, one_mul]

/-- The kernel's form: powers of two of scores carrying the factor `1 / log 2`, shifted by a real number, weight the values;
    the sum is divided by the sum of the powers. -/
theorem mean_exp2 {n : ℕ} (h0 : 0 < n) (s v : Fin n → ℝ) {M : EReal} (hM : IsReal M) :
    Ideal.div (∑ j, Ideal.exp2 ((((Real.log 2)⁻¹ * s j : ℝ) : EReal) - M) * (v j : EReal))
      (∑ j, Ideal.exp2 ((((Real.log 2)⁻¹ * s j : ℝ) : EReal) - M)) = ((W s v : ℝ) : EReal) := by
  obtain ⟨m, rfl⟩ := hM
  have h2 : Real.log 2 ≠ 0 := (Real.log_pos one_lt_two).ne'
  have e : ∀ j, Ideal.exp2 ((((Real.log 2)⁻¹ * s j : ℝ) : EReal) - (m : EReal)) = ((Real.exp (s j - Real.log 2 * m) : ℝ) : EReal) := fun j => by
    rw [← EReal.coe_sub, Ideal.exp2_coe, ← rpow_two_div_log, mul_sub, inv_mul_cancel_left₀ h2]
  simp only [e, ← EReal.coe_mul, coe_sum]
  rw [Ideal.div_coe (sum_exp_pos h0 _).ne', ← EReal.coe_mul, mul_one_div, W_shift h0]

/-- The reference's form: the difference of two softmaxes, the second scaled, each by division inside the sum. -/
theorem mean_diff {n : ℕ} (h0 : 0 < n) (s t v : Fin n → ℝ) {M N : EReal} (hM : IsReal M) (hN : IsReal N) {l : EReal} (hl : IsReal l) :
    ∑ j, (v j : EReal) * (Ideal.div (Ideal.exp ((s j : EReal) - M)) (∑ i, Ideal.exp ((s i : EReal) - M))
      - l * Ideal.div (Ideal.exp ((t j : EReal) - N)) (∑ i, Ideal.exp ((t i : EReal) - N)))
      = ((W s v : ℝ) : EReal) - l * ((W t v : ℝ) : EReal) := by
  obtain ⟨m, rfl⟩ := hM
  obtain ⟨n', rfl⟩ := hN
  obtain ⟨l, rfl⟩ := hl
  simp only [← EReal.coe_sub, Ideal.exp_coe, coe_sum]
  simp only [Ideal.div_coe (sum_exp_pos h0 _).ne', ← EReal.coe_mul, ← EReal.coe_sub, coe_sum]
  congr 1
  rw [← W_shift h0 s v m, ← W_shift h0 t v n', Finset.sum_div, Finset.sum_div, Finset.mul_sum, ← Finset.sum_sub_distrib]
  refine Finset.sum_congr rfl fun j _ => ?_
  ring

/-- The greatest of some scores. -/
def top {n : ℕ} (s : Fin n → EReal) : EReal := Finset.univ.fold max ⊥ s

/-- The mean weighted by powers of two of the scores less the greatest, as the kernel computes it. -/
def mean2 {n : ℕ} (s v : Fin n → EReal) : EReal :=
  Ideal.div (∑ j, Ideal.exp2 (s j - top s) * v j) (∑ j, Ideal.exp2 (s j - top s))

theorem mean2_coe {n : ℕ} (h0 : 0 < n) (s v : Fin n → ℝ) :
    mean2 (fun j => (((Real.log 2)⁻¹ * s j : ℝ) : EReal)) (fun j => (v j : EReal)) = ((W s v : ℝ) : EReal) :=
  mean_exp2 h0 s v (isReal_fold_max h0 _ fun _ => ⟨_, rfl⟩)

/-! ## The constants -/

/-- The small number both programs add under the square root. -/
def eps : EReal := Ideal.ofBits .f32 0x358637BD#32
theorem eps_pos : ∃ r : ℝ, 0 < r ∧ eps = (r : EReal) := by
  refine ⟨(8796093 : ℝ) * (2 : ℝ) ^ (-43 : ℤ), by positivity, ?_⟩
  simp [eps, Ideal.ofBits, Ideal.ieee, -EReal.coe_mul]
theorem ofBits_inv64 : Ideal.ofBits .f32 0x3C800000#32 = ((1 / 64 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_eighth : Ideal.ofBits .f32 0x3E000000#32 = ((8⁻¹ : ℝ) : EReal) := by
  simp [Ideal.ofBits, Ideal.ieee, -EReal.coe_mul]; norm_num
theorem ofBits_neg_inf : Ideal.ofBits .f32 0xFF800000#32 = ⊥ := by
  simp [Ideal.ofBits, Ideal.ieee]
theorem ofBits_inf : Ideal.ofBits .f32 0x7F800000#32 = ⊤ := by
  simp [Ideal.ofBits, Ideal.ieee]

/-! ## The normalized, rotated row -/

/-- A row of 64 lanes over the root of its mean square, times the gains. -/
def nrm (x g : Fin 64 → EReal) (d : Fin 64) : EReal :=
  x d * Ideal.rsqrt (Ideal.div (∑ e, x e * x e) ((64 : ℝ) : EReal) + eps) * g d

/-- Lanes 0 to 7 and 8 to 15 of a row rotated pairwise by eight angles, the other lanes kept. -/
def rope (y : Fin 64 → EReal) (c s : Fin 8 → EReal) (d : Fin 64) : EReal :=
  if h : d.val < 8 then y d * c ⟨d.val, h⟩ - y ⟨d.val + 8, by omega⟩ * s ⟨d.val, h⟩
  else if h' : d.val < 16 then y d * c ⟨d.val - 8, by omega⟩ + y ⟨d.val - 8, by omega⟩ * s ⟨d.val - 8, by omega⟩
  else y d

theorem isReal_nrm {x g : Fin 64 → EReal} (hx : ∀ d, IsReal (x d)) (hg : ∀ d, IsReal (g d)) (d : Fin 64) : IsReal (nrm x g d) := by
  refine ((hx d).mul ?_).mul (hg d)
  choose x' hx' using hx
  obtain ⟨e, he, he'⟩ := eps_pos
  have h : ∑ e, x e * x e = ((∑ e, x' e * x' e : ℝ) : EReal) := by simp only [hx', ← EReal.coe_mul, coe_sum]
  have hn : 0 < (∑ e, x' e * x' e) * (1 / 64) + e :=
    add_pos_of_nonneg_of_pos (mul_nonneg (Finset.sum_nonneg fun i _ => mul_self_nonneg _) (by norm_num)) he
  rw [h, Ideal.div_coe (by norm_num), he', ← EReal.coe_mul, ← EReal.coe_add, Ideal.rsqrt_coe, if_neg hn.not_gt, if_neg hn.ne']
  exact ⟨_, rfl⟩

theorem isReal_rope {y : Fin 64 → EReal} {c s : Fin 8 → EReal} (hy : ∀ d, IsReal (y d)) (hc : ∀ d, IsReal (c d)) (hs : ∀ d, IsReal (s d))
    (d : Fin 64) : IsReal (rope y c s d) := by
  unfold rope
  split
  · exact ((hy _).mul (hc _)).sub ((hy _).mul (hs _))
  · split
    · exact ((hy _).mul (hc _)).add ((hy _).mul (hs _))
    · exact hy d

/-- A row's score against another: the queries carry `scale`. -/
def score (scale : EReal) (q k : Fin 64 → EReal) : EReal := ∑ d, q d * scale * k d

/-- The real number a score with the scale one eighth is. -/
def scoreR (q k : Fin 64 → EReal) : ℝ := ∑ d, (q d).toReal * 8⁻¹ * (k d).toReal

theorem coe_toReal {x : EReal} (h : IsReal x) : ((x.toReal : ℝ) : EReal) = x := by
  obtain ⟨r, rfl⟩ := h; rfl

theorem score_eighth {q k : Fin 64 → EReal} (hq : ∀ d, IsReal (q d)) (hk : ∀ d, IsReal (k d)) :
    score ((8⁻¹ : ℝ) : EReal) q k = ((scoreR q k : ℝ) : EReal) := by
  unfold score scoreR
  rw [← coe_sum]
  refine Finset.sum_congr rfl fun d _ => ?_
  rw [EReal.coe_mul, EReal.coe_mul, coe_toReal (hq d), coe_toReal (hk d)]

theorem score_named {q k : Fin 64 → EReal} (hq : ∀ d, IsReal (q d)) (hk : ∀ d, IsReal (k d)) :
    score ((8⁻¹ * (Real.log 2)⁻¹ : ℝ) : EReal) q k = (((Real.log 2)⁻¹ * scoreR q k : ℝ) : EReal) := by
  unfold score scoreR
  rw [Finset.mul_sum, ← coe_sum]
  refine Finset.sum_congr rfl fun d _ => ?_
  rw [show (Real.log 2)⁻¹ * ((q d).toReal * 8⁻¹ * (k d).toReal) = (q d).toReal * (8⁻¹ * (Real.log 2)⁻¹) * (k d).toReal by ring,
    EReal.coe_mul ((q d).toReal * _), EReal.coe_mul (q d).toReal, coe_toReal (hq d), coe_toReal (hk d)]

/-- What follows the weighted means: `o` the difference of the two, normalized over its 128 lanes, times the gains, the scale
    and the gate `z` by its own logistic. -/
def gated (o g : Fin 128 → EReal) (scale z : EReal) (l : Fin 128) : EReal :=
  o l * Ideal.rsqrt (Ideal.div (∑ e, o e * o e) ((128 : ℝ) : EReal) + eps) * g l * scale * (z * Ideal.logistic z)

end Cert.Attn

end
-- ==== Proof.AttnBody.lean ====
/-
  The attention body's payloads read at an index: the scores of one half of the lanes, the softmax's weighted mean, and the
  normalization, gains and gate after them.
-/
module

public import proofs.«01_k».proof.Proof.Gen.KernelIdeal.Skeleton
public import proofs.«01_k».proof.Proof.AttnMath
public import Idealize.ShloMosaic.Lib.ValueLayout
public import Idealize.ShloMosaic.Lib.ValueLayoutCasts
public import Idealize.ShloMosaic.Lib.MatmulPlain

@[expose] public section

noncomputable section

open Idealize.ShloMosaic Idealize.ShloMosaic.TcCoe Idealize.SL.Sem Idealize.ShloMosaic.ValueIdx
open scoped BigOperators

namespace Cert.KernelIdeal.Attend

open Cert.KernelIdeal Cert.KernelIdeal.Gen

/-- A column broadcast over many columns reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane's number. -/
def lanes : IVec S1x128 32 := iota .tc S1x128 32 [1] iota_S1x128_d1_w32

/-- The lanes below 64, and the lanes from 64 on. -/
theorem lanes_lt (l : Fin 128) : cmpi .slt lanes (broadcast S1x128 64#32) (ix2 0 l) = if l.val < 64 then 1#1 else 0#1 := by
  show IntOp.cmpi .slt (BitVec.ofNat 32 (0 * 128 + l.val)) 64#32 = _
  revert l
  decide +kernel
theorem lanes_ge (l : Fin 128) : cmpi .sge lanes (broadcast S1x128 64#32) (ix2 0 l) = if l.val < 64 then 0#1 else 1#1 := by
  show IntOp.cmpi .sge (BitVec.ofNat 32 (0 * 128 + l.val)) 64#32 = _
  revert l
  decide +kernel

/-- The scores of the lanes below 64. -/
def scoreLo (K : FVec Ideal S4096x128 .bf16) (q : Vec Ideal S1x256x128 .bf16) : FVec Ideal S256x4096 .f32 :=
  matmul dot_S256x128_S4096x128_S256x4096_1_1_0_0_n_n none
    (select (broadcastTo S256x128 (shapeCast S1x128 (cmpi .slt lanes (broadcast S1x128 64#32)) shapeCasts_S1x128_S1x128) broadcasts_S1x128_S256x128)
      (shapeCast S256x128 q shapeCasts_S1x256x128_S256x128) (broadcast S256x128 (Scalar.ofBits .bf16 0x0000#16 : Ideal .bf16)) : FVec Ideal S256x128 .bf16)
    K (constant S256x4096 .f32 0x00000000#32)

/-- The scores of the lanes from 64 on. -/
def scoreHi (K : FVec Ideal S4096x128 .bf16) (q : Vec Ideal S1x256x128 .bf16) : FVec Ideal S256x4096 .f32 :=
  k1_pay10 (F := Ideal) K lanes q

theorem pay11_eq (K V : FVec Ideal S4096x128 .bf16) (q : Vec Ideal S1x256x128 .bf16) :
    k1_pay11 (F := Ideal) K V lanes q = k1_pay9 (F := Ideal) V (scoreLo K q) := rfl

/-- A sum over 128 lanes whose terms from 64 on vanish. -/
theorem sum_lo (f : Fin 128 → EReal) (h : ∀ l : Fin 128, 64 ≤ l.val → f l = 0) : ∑ l, f l = ∑ d : Fin 64, f ⟨d.val, by omega⟩ := by
  rw [show (∑ l, f l) = ∑ l : Fin (64 + 64), f l from rfl, Fin.sum_univ_add,
    Finset.sum_eq_zero (s := Finset.univ) (f := fun i : Fin 64 => f (Fin.natAdd 64 i)) (fun i _ => h _ (by simp)), add_zero]
  rfl
/-- A sum over 128 lanes whose terms below 64 vanish. -/
theorem sum_hi (f : Fin 128 → EReal) (h : ∀ l : Fin 128, l.val < 64 → f l = 0) : ∑ l, f l = ∑ d : Fin 64, f ⟨64 + d.val, by omega⟩ := by
  rw [show (∑ l, f l) = ∑ l : Fin (64 + 64), f l from rfl, Fin.sum_univ_add,
    Finset.sum_eq_zero (s := Finset.univ) (f := fun i : Fin 64 => f (Fin.castAdd 64 i)) (fun i _ => h _ (by simp)), zero_add]
  rfl

theorem scoreLo_apply (K : FVec Ideal S4096x128 .bf16) (q : Vec Ideal S1x256x128 .bf16) (a : Fin 256) (j : Fin 4096) :
    scoreLo K q (ix2 a j) = ∑ d : Fin 64, q (ix3 0 a ⟨d.val, by omega⟩) * K (ix2 j ⟨d.val, by omega⟩) := by
  unfold scoreLo
  have e1 : dot_S256x128_S4096x128_S256x4096_1_1_0_0_n_n = DotDims.transposedRhs 256 128 4096 := rfl
  rw [e1]
  refine (Ideal.matmul_transposedRhs_apply ..).trans ?_
  rw [constant_apply, Ideal.ofBits_zero_f32, zero_add, sum_lo]
  · refine Finset.sum_congr rfl fun d _ => ?_
    rw [select_apply, broadcastTo_1b_ab_apply, shapeCast_self, lanes_lt, if_pos (show d.val < 64 from d.isLt), select_one, shapeCast_1ab_ab_apply]
  · intro l hl
    rw [select_apply, broadcastTo_1b_ab_apply, shapeCast_self, lanes_lt, if_neg (by omega), select_zero, broadcast_apply]
    show Ideal.ofBits .bf16 0x0000#16 * _ = 0
    rw [Ideal.ofBits_zero_bf16, zero_mul]

theorem scoreHi_apply (K : FVec Ideal S4096x128 .bf16) (q : Vec Ideal S1x256x128 .bf16) (a : Fin 256) (j : Fin 4096) :
    scoreHi K q (ix2 a j) = ∑ d : Fin 64, q (ix3 0 a ⟨64 + d.val, by omega⟩) * K (ix2 j ⟨64 + d.val, by omega⟩) := by
  unfold scoreHi k1_pay10
  have e1 : dot_S256x128_S4096x128_S256x4096_1_1_0_0_n_n = DotDims.transposedRhs 256 128 4096 := rfl
  rw [e1]
  refine (Ideal.matmul_transposedRhs_apply ..).trans ?_
  rw [constant_apply, Ideal.ofBits_zero_f32, zero_add, sum_hi]
  · refine Finset.sum_congr rfl fun d _ => ?_
    rw [select_apply, broadcastTo_1b_ab_apply, shapeCast_self, lanes_ge, if_neg (show ¬ 64 + d.val < 64 by omega), select_one, shapeCast_1ab_ab_apply]
  · intro l hl
    rw [select_apply, broadcastTo_1b_ab_apply, shapeCast_self, lanes_ge, if_pos hl, select_zero, broadcast_apply]
    show Ideal.ofBits .bf16 0x0000#16 * _ = 0
    rw [Ideal.ofBits_zero_bf16, zero_mul]

/-- A row's greatest score. -/
def rowMax (s : FVec Ideal S256x4096 .f32) (a : Fin 256) : EReal := Cert.Attn.top (fun j : Fin 4096 => s (ix2 a j))

theorem max_apply (s : FVec Ideal S256x4096 .f32) (a : Fin 256) :
    multiReduction .maximumf [1] S256 s 0xFF800000#32 reduces_S256x4096_S256 (.inl rfl) rfl (ix1 a) = rowMax s a := by
  refine (Ideal.multiReduction_maximumf_single ..).trans ?_
  unfold rowMax Cert.Attn.top
  rw [Ideal.ofBits_def, Cert.Attn.ofBits_neg_inf]
  refine congrArg (fun f => Finset.fold max ⊥ f (Finset.univ : Finset (Fin 4096))) (funext fun k => ?_)
  show s (reduces_S256x4096_S256.lift (ix1 a) k) = _
  exact congrArg s ((eq_ix2 _).trans rfl)

theorem sum_apply {N : ℕ} (s : FVec Ideal ⟨2, ![256, N]⟩ .f32) (h : (⟨2, ![256, N]⟩ : Shape).Reduces [1] S256) (a : Fin 256) :
    multiReduction .add [1] S256 s 0x00000000#32 h (.inl rfl) rfl (ix1 a) = ∑ j : Fin N, s (ix2 a j) := by
  refine (Ideal.multiReduction_add_single ..).trans ?_
  refine Finset.sum_congr rfl fun k _ => ?_
  exact congrArg s ((eq_ix2 _).trans rfl)

/-- The softmax's weighted mean at row `a` and lane `l`. -/
theorem pay9_apply (V : FVec Ideal S4096x128 .bf16) (s : FVec Ideal S256x4096 .f32) (a : Fin 256) (l : Fin 128) :
    k1_pay9 (F := Ideal) V s (ix2 a l)
      = Ideal.div (∑ j : Fin 4096, Ideal.exp2 (s (ix2 a j) - rowMax s a) * V (ix2 j l)) (∑ j : Fin 4096, Ideal.exp2 (s (ix2 a j) - rowMax s a)) := by
  unfold k1_pay9
  have e1 : dot_S256x4096_S4096x128_S256x128_1_0_0_1_n_n = DotDims.plain 256 4096 128 := rfl
  rw [e1]
  dsimp only
  have ex : ∀ j : Fin 4096, (exp2 (subf s (broadcastTo S256x4096 (shapeCast S256x1 (multiReduction .maximumf [1] S256 s 0xFF800000#32 reduces_S256x4096_S256 (.inl rfl) rfl)
      shapeCasts_S256_S256x1) broadcasts_S256x1_S256x4096)) : FVec Ideal S256x4096 .f32) (ix2 a j) = Ideal.exp2 (s (ix2 a j) - rowMax s a) := by
    intro j
    show Ideal.exp2 (subf s _ (ix2 a j)) = _
    rw [subf_apply, broadcastTo_a1_ab_apply, shapeCast_a_a1_apply, max_apply]
  rw [divf_apply, broadcastTo_a1_ab_apply, shapeCast_a_a1_apply, sum_apply]
  refine congrArg₂ _ ((Ideal.matmul_plain_apply ..).trans ?_) (Finset.sum_congr rfl fun j _ => ex j)
  rw [constant_apply, Ideal.ofBits_zero_f32, zero_add]
  refine Finset.sum_congr rfl fun j _ => ?_
  rw [truncf_apply, ex]

/-- What follows the two means, at row `a` and lane `l`. -/
theorem pay39_apply (lam sc : Ideal .f32) (A B : FVec Ideal S256x128 .f32) (g : Vec Ideal S1x128 .f32) (z : Vec Ideal S1x256x128 .bf16) (a : Fin 256) (l : Fin 128) :
    k1_pay39 (F := Ideal) lam sc A B g z (ix3 0 a l)
      = Cert.Attn.gated (fun e => A (ix2 a e) - lam * B (ix2 a e)) (fun e => g (ix2 0 e)) sc (z (ix3 0 a l)) l := by
  unfold k1_pay39
  dsimp only
  rw [shapeCast_ab_1ab_apply]
  simp only [truncf_apply, mulf_apply, subf_apply, broadcast_apply, extf_apply, broadcastTo_1b_ab_apply, shapeCast_self, broadcastTo_a1_ab_apply, shapeCast_1ab_ab_apply]
  unfold Cert.Attn.gated
  have er : ∀ (x : FVec Ideal S256x1 .f32) i, rsqrt x i = Ideal.rsqrt (x i) := fun _ _ => rfl
  have el : ∀ (x : FVec Ideal S256x128 .f32) i, logistic x i = Ideal.logistic (x i) := fun _ _ => rfl
  rw [er, el, addf_apply, divf_apply, shapeCast_a_a1_apply, sum_apply, extf_apply, shapeCast_1ab_ab_apply]
  simp only [mulf_apply, subf_apply, broadcast_apply]
  have e128 : (Scalar.ofBits .f32 0x43000000#32 : Ideal .f32) = ((128 : ℝ) : EReal) := Cert.Attn.ofBits_128
  rw [e128]
  rfl

/-- One sub-block of 256 query rows: both halves' means, and what follows them. -/
def unitPay (lam sc : Ideal .f32) (K V : FVec Ideal S4096x128 .bf16) (q : Vec Ideal S1x256x128 .bf16) (g : Vec Ideal S1x128 .f32)
    (z : Vec Ideal S1x256x128 .bf16) : FVec Ideal S1x256x128 .bf16 :=
  k1_pay39 (F := Ideal) lam sc (k1_pay11 (F := Ideal) K V lanes q) (k1_pay9 (F := Ideal) V (scoreHi K q)) g z

/-- What the body leaves at row `s` and lane `l` of its block, from its windows' blocks. -/
def bodyAt (x0 : Vec Ideal S2 .f32) (x1 : Vec Ideal S1x2048x128 .bf16) (x2 x3 : Vec Ideal S1x4096x128 .bf16)
    (x4 : Vec Ideal S1x2048x128 .bf16) (x5 : Vec Ideal S1x128 .f32) (s : Fin 2048) (l : Fin 128) : EReal :=
  Cert.Attn.gated
    (fun e => Cert.Attn.mean2 (fun j : Fin 4096 => ∑ d : Fin 64, x1 (ix3 0 s ⟨d.val, by omega⟩) * x2 (ix3 0 j ⟨d.val, by omega⟩)) (fun j => x3 (ix3 0 j e))
      - x0 (ix1 0) * Cert.Attn.mean2 (fun j : Fin 4096 => ∑ d : Fin 64, x1 (ix3 0 s ⟨64 + d.val, by omega⟩) * x2 (ix3 0 j ⟨64 + d.val, by omega⟩)) (fun j => x3 (ix3 0 j e)))
    (fun e => x5 (ix2 0 e)) (x0 (ix1 1)) (x4 (ix3 0 s l)) l

/-- A sub-block's payload is the body's function at the sub-block's rows. -/
theorem unitPay_apply (x0 : Vec Ideal S2 .f32) (x1 : Vec Ideal S1x2048x128 .bf16) (x2 x3 : Vec Ideal S1x4096x128 .bf16)
    (x4 : Vec Ideal S1x2048x128 .bf16) (x5 : Vec Ideal S1x128 .f32) (q z : Vec Ideal S1x256x128 .bf16) (o : ℕ) (ho : o + 256 ≤ 2048)
    (hq : ∀ (a : Fin 256) (l : Fin 128), q (ix3 0 a l) = x1 (ix3 0 ⟨o + a.val, by omega⟩ l))
    (hz : ∀ (a : Fin 256) (l : Fin 128), z (ix3 0 a l) = x4 (ix3 0 ⟨o + a.val, by omega⟩ l)) (a : Fin 256) (l : Fin 128) :
    unitPay (x0 (ix1 0)) (x0 (ix1 1)) (k1_pay2 (F := Ideal) x2) (k1_pay3 (F := Ideal) x3) q x5 z (ix3 0 a l)
      = bodyAt x0 x1 x2 x3 x4 x5 ⟨o + a.val, by omega⟩ l := by
  unfold unitPay bodyAt
  rw [pay39_apply, hz]
  refine congrArg (fun f => Cert.Attn.gated f _ _ _ l) (funext fun e => ?_)
  have h2 : ∀ (j : Fin 4096) (l : Fin 128), k1_pay2 (F := Ideal) x2 (ix2 j l) = x2 (ix3 0 j l) := fun j l => by
    unfold k1_pay2; exact shapeCast_1ab_ab_apply ..
  have h3 : ∀ (j : Fin 4096) (l : Fin 128), k1_pay3 (F := Ideal) x3 (ix2 j l) = x3 (ix3 0 j l) := fun j l => by
    unfold k1_pay3; exact shapeCast_1ab_ab_apply ..
  rw [pay11_eq, pay9_apply, pay9_apply]
  unfold rowMax
  simp only [scoreLo_apply, scoreHi_apply, hq, h2, h3]
  rfl

end Cert.KernelIdeal.Attend

end
-- ==== Proof.AttnPrep.lean ====
/-
  The body that prepares queries and keys, read at an index: each half of 64 lanes is divided by the root of its mean
  square, multiplied by the gains, and its first 16 lanes are rotated; the queries carry the softmax scale.
-/
module

public import proofs.«01_k».proof.Proof.AttnBody
public import Idealize.ShloMosaic.Lib.KernelVsHost

@[expose] public section

noncomputable section

open Idealize.ShloMosaic Idealize.ShloMosaic.TcCoe Idealize.SL.Sem Idealize.ShloMosaic.ValueIdx
open scoped BigOperators
open Cert.Attn

namespace Cert.KernelIdeal.Prep

open Cert.KernelIdeal Cert.KernelIdeal.Gen

/-- Lane `d` of half `m`. -/
def lane (m : Fin 2) (d : Fin 64) : Fin 128 := ⟨64 * m.val + d.val, by omega⟩

/-- Every lane is a lane of a half. -/
theorem exists_lane (l : Fin 128) : ∃ m d, l = lane m d :=
  ⟨⟨l.val / 64, by omega⟩, ⟨l.val % 64, by omega⟩, Fin.ext (show l.val = 64 * (l.val / 64) + l.val % 64 by omega)⟩

/-- A sum over the lanes of terms that vanish off half `m` is the sum over that half. -/
theorem sum_half (m : Fin 2) (f : Fin 128 → EReal) :
    (∑ k : Fin 128, if k.val / 64 = m.val then f k else 0) = ∑ e : Fin 64, f (lane m e) := by
  rw [← Finset.sum_filter]
  refine (Finset.sum_nbij' (fun e : Fin 64 => lane m e) (fun k : Fin 128 => (⟨k.val % 64, by omega⟩ : Fin 64)) ?_ ?_ ?_ ?_ ?_).symm
  · intro e _
    refine Finset.mem_filter.mpr ⟨Finset.mem_univ _, ?_⟩
    show (64 * m.val + e.val) / 64 = m.val
    omega
  · intro k _; exact Finset.mem_univ _
  · intro e _
    exact Fin.ext (show (64 * m.val + e.val) % 64 = e.val by omega)
  · intro k hk
    have := (Finset.mem_filter.mp hk).2
    exact Fin.ext (show 64 * m.val + k.val % 64 = k.val by omega)
  · intro e _; rfl

/-- The column's number, as the body spells it. -/
def cols : IVec S128x128 32 := iota .tc S128x128 32 [1] iota_S128x128_d1_w32

/-- The half a column is in, from the words `k0_pay8` computes with. -/
def colHalf : IVec S128x128 32 :=
  select (andi (cmpi .ne k0_pay7 (broadcast S128x128 (Scalar.subi (Scalar.extui (Scalar.cmpi .sgt 64#32 0#32)) (Scalar.extui (Scalar.cmpi .slt 64#32 0#32)))))
      (cmpi .ne (remsi cols (broadcast S128x128 64#32)) (broadcast S128x128 0#32)))
    (subi k0_pay6 (broadcast S128x128 1#32)) k0_pay6

theorem rowHalf_apply (k l : Fin 128) : k0_pay5 (ix2 k l) = BitVec.ofNat 32 (k.val / 64) := by
  show k0_pay5 (ix2 k 0) = _
  revert k
  decide +kernel

theorem colHalf_apply (k l : Fin 128) : colHalf (ix2 k l) = BitVec.ofNat 32 (l.val / 64) := by
  show colHalf (ix2 0 l) = _
  revert l
  decide +kernel

theorem halves_eq (k : Fin 128) (m : Fin 2) (d : Fin 64) :
    IntOp.cmpi .eq (BitVec.ofNat 32 (k.val / 64)) (BitVec.ofNat 32 ((lane m d).val / 64)) = if k.val / 64 = m.val then 1#1 else 0#1 := by
  rw [show (lane m d).val / 64 = m.val from by show (64 * m.val + d.val) / 64 = m.val; omega]
  revert k m
  decide +kernel

/-- The matrix that adds up a half: one where row and column are in one half. -/
theorem same_apply (k : Fin 128) (m : Fin 2) (d : Fin 64) :
    k0_pay8 (F := Ideal) k0_pay5 cols 64#32 k0_pay6 k0_pay7 (ix2 k (lane m d)) = if k.val / 64 = m.val then (1 : EReal) else 0 := by
  have e : k0_pay8 (F := Ideal) k0_pay5 cols 64#32 k0_pay6 k0_pay7 (ix2 k (lane m d))
      = Scalar.select (IntOp.cmpi .eq (k0_pay5 (ix2 k (lane m d))) (colHalf (ix2 k (lane m d))))
          (Ideal.ofBits .f32 0x3F800000#32) (Ideal.ofBits .f32 0x00000000#32) := rfl
  rw [e, rowHalf_apply, colHalf_apply, halves_eq, Ideal.ofBits_one_f32, Ideal.ofBits_zero_f32]
  by_cases h : k.val / 64 = m.val
  · rw [if_pos h, if_pos h]; rfl
  · rw [if_neg h, if_neg h]; rfl

/-- The normalized block: `k0_pay9` at the words the body passes. -/
abbrev normed (x : Vec Ideal S1x1024x128 .bf16) (g : Vec Ideal S1x128 .f32) : FVec Ideal S1024x128 .f32 :=
  k0_pay9 (F := Ideal) k0_pay5 cols 64#32 k0_pay6 k0_pay7 x g

theorem sub_self_real {x : EReal} (h : IsReal x) : x - x = 0 := by
  obtain ⟨r, rfl⟩ := h
  rw [← EReal.coe_sub, sub_self, EReal.coe_zero]

theorem normed_apply (x : Vec Ideal S1x1024x128 .bf16) (g : Vec Ideal S1x128 .f32) (a : Fin 1024)
    (hx : ∀ l, IsReal (x (ix3 0 a l))) (m : Fin 2) (d : Fin 64) :
    normed x g (ix2 a (lane m d)) = nrm (fun e => x (ix3 0 a (lane m e))) (fun e => g (ix2 0 (lane m e))) d := by
  have hcast : ∀ l, shapeCast S1024x128 x shapeCasts_S1x1024x128_S1024x128 (ix2 a l) = x (ix3 0 a l) := fun l =>
    shapeCast_1ab_ab_apply ..
  have e1 : dot_S1024x128_S128x128_S1024x128_1_0_0_1_n_n = DotDims.plain 1024 128 128 := rfl
  unfold normed k0_pay9
  simp only [e1, matmul, mulf_apply, addf_apply, broadcast_apply, shapeCast_self]
  rw [broadcastTo_1b_ab_apply]
  show shapeCast S1024x128 x shapeCasts_S1x1024x128_S1024x128 (ix2 a (lane m d))
      * Ideal.rsqrt ((_ + _) * Ideal.ofBits .f32 0x3C800000#32 + eps) * g (ix2 0 (lane m d)) = _
  rw [hcast, Ideal.matmul_plain_apply, Ideal.matmul_plain_apply, ofBits_inv64]
  unfold nrm
  rw [Ideal.div_coe (by norm_num : (64 : ℝ) ≠ 0)]
  congr 5
  have z : ∀ y : EReal, Ideal.ofBits .f32 0x00000000#32 + y = y := fun y => by rw [Ideal.ofBits_zero_f32, zero_add]
  have hi : ∀ k : Fin 128, (x (ix3 0 a k) * x (ix3 0 a k) : EReal) * (if k.val / 64 = m.val then (1 : EReal) else 0)
      = if k.val / 64 = m.val then x (ix3 0 a k) * x (ix3 0 a k) else 0 := fun k => by
    split
    · exact mul_one _
    · exact mul_zero _
  have lo : ∀ k : Fin 128, (x (ix3 0 a k) * x (ix3 0 a k) - x (ix3 0 a k) * x (ix3 0 a k) : EReal) * (if k.val / 64 = m.val then (1 : EReal) else 0) = 0 :=
    fun k => by rw [sub_self_real ((hx k).mul (hx k)), zero_mul]
  simp only [same_apply, constant_apply, truncf_apply, extf_apply, subf_apply, mulf_apply, hcast]
  refine (congrArg₂ (· + ·) ((z _).trans ((Finset.sum_congr rfl fun k _ => hi k).trans (sum_half m fun k => x (ix3 0 a k) * x (ix3 0 a k))))
    ((z _).trans (Finset.sum_eq_zero fun k _ => lo k))).trans ?_
  exact add_zero _

/-! ## The rotation -/

/-- The factor of the lane itself, of the lane eight below and of the lane eight above, by the eight angles' cosines and sines. -/
def tabC (c : Fin 8 → EReal) (d : Fin 64) : EReal :=
  if h : d.val < 8 then c ⟨d.val, h⟩ else if h' : d.val < 16 then c ⟨d.val - 8, by omega⟩ else 1
def tabLo (s : Fin 8 → EReal) (d : Fin 64) : EReal :=
  if d.val < 8 then 0 else if h' : d.val < 16 then s ⟨d.val - 8, by omega⟩ else 0
def tabHi (s : Fin 8 → EReal) (d : Fin 64) : EReal :=
  if h : d.val < 8 then -s ⟨d.val, h⟩ else 0

/-- The three products of one lane, added. -/
def turn (y : Fin 128 → EReal) (c s1 s2 : Fin 128 → EReal) (l : Fin 128) : EReal :=
  y l * c l + y ⟨(l.val + 128 - 8) % 128, by omega⟩ * s1 l + y ⟨(l.val + 128 - 120) % 128, by omega⟩ * s2 l

theorem turn_lane (y : Fin 128 → EReal) (c s1 s2 : Fin 128 → EReal) (co si : Fin 8 → EReal)
    (hc : ∀ m d, c (lane m d) = tabC co d) (h1 : ∀ m d, s1 (lane m d) = tabLo si d) (h2 : ∀ m d, s2 (lane m d) = tabHi si d)
    (m : Fin 2) (d : Fin 64) : turn y c s1 s2 (lane m d) = rope (fun e => y (lane m e)) co si d := by
  unfold turn rope
  rw [hc, h1, h2]
  unfold tabC tabLo tabHi
  by_cases h : d.val < 8
  · rw [dif_pos h, if_pos h, dif_pos h, dif_pos h, mul_zero, add_zero, mul_neg, ← sub_eq_add_neg]
    refine congrArg (fun l => y (lane m d) * co ⟨d.val, h⟩ - y l * si ⟨d.val, h⟩) (Fin.ext ?_)
    show (64 * m.val + d.val + 128 - 120) % 128 = 64 * m.val + (d.val + 8)
    omega
  · rw [dif_neg h, if_neg h, dif_neg h, dif_neg h, mul_zero, add_zero]
    by_cases h' : d.val < 16
    · rw [dif_pos h', dif_pos h', dif_pos h']
      refine congrArg (fun l => y (lane m d) * co ⟨d.val - 8, by omega⟩ + y l * si ⟨d.val - 8, by omega⟩) (Fin.ext ?_)
      show (64 * m.val + d.val + 128 - 8) % 128 = 64 * m.val + (d.val - 8)
      omega
    · rw [dif_neg h', dif_neg h', dif_neg h', mul_zero, add_zero, mul_one]

theorem rotate_apply (sb : BitVec 32) (y : FVec Ideal S1024x128 .f32) (a : Fin 1024) (l k : Fin 128)
    (hk : k.val = (l.val + 128 - sb.toNat % 128) % 128) :
    dynamicRotate 1 sb none y rotates_S1024x128_d1 (ix2 a l) = y (ix2 a k) :=
  dynamicRotate_apply 1 sb y _ _ _ fun b => match b with
    | ⟨0, _⟩ => rfl
    | ⟨1, _⟩ => hk

/-- The scale the queries carry. -/
def qScale : EReal := ((8⁻¹ * (Real.log 2)⁻¹ : ℝ) : EReal)

theorem qScale_eq : (Named.named (F := Ideal) κ "q_scale" (0x3E38AA3B#32 : BitVec (FTy.bits .f32)) : Ideal .f32) = qScale :=
  IdealRules.named_const.ideal_named_scalar _ _ _ _ rfl

/-- The three products added, as the body spells them. -/
theorem turn_apply (y c s1 s2 : FVec Ideal S1024x128 .f32) (a : Fin 1024) (l : Fin 128) :
    addf (addf (mulf y c) (mulf (dynamicRotate 1 8#32 none y rotates_S1024x128_d1) s1))
        (mulf (dynamicRotate 1 120#32 none y rotates_S1024x128_d1) s2) (ix2 a l)
      = turn (fun l => y (ix2 a l)) (fun l => c (ix2 a l)) (fun l => s1 (ix2 a l)) (fun l => s2 (ix2 a l)) l := by
  unfold turn
  simp only [addf_apply, mulf_apply]
  rw [rotate_apply 8#32 y a l ⟨(l.val + 128 - 8) % 128, by omega⟩ rfl, rotate_apply 120#32 y a l ⟨(l.val + 128 - 120) % 128, by omega⟩ rfl]

variable (x0 x1 : Vec Ideal S1x1024x128 .bf16) (x2 x3 x4 : Vec Ideal S1024x128 .f32) (x5 x6 : Vec Ideal S1x128 .f32)

/-- The queries' block. -/
theorem queries_apply (a : Fin 1024) (co si : Fin 8 → EReal) (hx : ∀ l, IsReal (x0 (ix3 0 a l)))
    (hc : ∀ m d, x2 (ix2 a (lane m d)) = tabC co d) (h1 : ∀ m d, x3 (ix2 a (lane m d)) = tabLo si d)
    (h2 : ∀ m d, x4 (ix2 a (lane m d)) = tabHi si d) (m : Fin 2) (d : Fin 64) :
    k0_pay12 (F := Ideal) (k0_pay4 x4) (normed x0 x5) (k0_pay10 (k0_pay2 x2) k0_pay5 cols 64#32 k0_pay6 k0_pay7 x0 x5)
        (k0_pay11 (k0_pay3 x3) k0_pay5 cols 64#32 k0_pay6 k0_pay7 x0 x5) (ix3 0 a (lane m d))
      = rope (nrm (fun e => x0 (ix3 0 a (lane m e))) (fun e => x5 (ix2 0 (lane m e)))) co si d * qScale := by
  unfold k0_pay12 k0_pay10 k0_pay11 k0_pay2 k0_pay3 k0_pay4
  simp only [shapeCast_self]
  refine (shapeCast_ab_1ab_apply ..).trans ?_
  show addf (F := Ideal) _ _ (ix2 a (lane m d)) * (Named.named (F := Ideal) κ "q_scale" (0x3E38AA3B#32 : BitVec (FTy.bits .f32)) : Ideal .f32) = _
  rw [qScale_eq]
  refine congrArg (· * qScale) ((turn_apply (normed x0 x5) x2 x3 x4 a (lane m d)).trans ?_)
  rw [turn_lane _ _ _ _ co si hc h1 h2]
  exact congrArg (fun y => rope y co si d) (funext fun e => normed_apply x0 x5 a hx m e)

/-- The keys' block: the same without the scale. -/
theorem keys_apply (a : Fin 1024) (co si : Fin 8 → EReal) (hx : ∀ l, IsReal (x1 (ix3 0 a l)))
    (hc : ∀ m d, x2 (ix2 a (lane m d)) = tabC co d) (h1 : ∀ m d, x3 (ix2 a (lane m d)) = tabLo si d)
    (h2 : ∀ m d, x4 (ix2 a (lane m d)) = tabHi si d) (m : Fin 2) (d : Fin 64) :
    k0_pay1 (F := Ideal) (k0_pay13 (k0_pay2 x2) (k0_pay3 x3) (k0_pay4 x4) (k0_pay8 (F := Ideal) k0_pay5 cols 64#32 k0_pay6 k0_pay7) x1 x6)
        (ix3 0 a (lane m d))
      = rope (nrm (fun e => x1 (ix3 0 a (lane m e))) (fun e => x6 (ix2 0 (lane m e)))) co si d := by
  unfold k0_pay1 k0_pay2 k0_pay3 k0_pay4
  simp only [shapeCast_self]
  refine (shapeCast_ab_1ab_apply ..).trans ?_
  refine Eq.trans ?_ (((turn_apply (normed x1 x6) x2 x3 x4 a (lane m d)).trans
    (turn_lane _ _ _ _ co si hc h1 h2 m d)).trans (congrArg (fun y => rope y co si d) (funext fun e => normed_apply x1 x6 a hx m e)))
  rfl

end Cert.KernelIdeal.Prep

end
-- ==== Proof.AttnOut.lean ====
/-
  The attention body's output block read at an index: the eight stores of one grid point together hold the body's function
  of the point's input blocks.
-/
module

public import proofs.«01_k».proof.Proof.Gen.KernelIdeal.Frame
public import proofs.«01_k».proof.Proof.AttnBody
public import Idealize.ShloMosaic.Lib.Pipeline.Value

@[expose] public section

noncomputable section

open Idealize.ShloMosaic Idealize.ShloMosaic.TcCoe Idealize.SL.Sem Idealize.ShloMosaic.ValueIdx

namespace Cert.KernelIdeal.Attend

open Cert.KernelIdeal Cert.KernelIdeal.Gen

/-- All offsets of a whole rectangle are zero. -/
theorem hz3 : (![0, 0, 0] : Fin 3 → Nat) = fun _ => 0 := funext fun a => by fin_cases a <;> rfl
theorem hz2 : (![0, 0] : Fin 2 → Nat) = fun _ => 0 := funext fun a => by fin_cases a <;> rfl

/-- One store: the payload of the sub-block at row `o` is the body's function at the store's rows. -/
theorem piece (x0 : Vec Ideal S2 .f32) (x1 : Vec Ideal S1x2048x128 .bf16) (x2 x3 : Vec Ideal S1x4096x128 .bf16)
    (x4 : Vec Ideal S1x2048x128 .bf16) (x5 : Vec Ideal S1x128 .f32) (o : ℕ) (ho : o + 256 ≤ 2048)
    (inb : ∀ a, (![0, o, 0] : Fin 3 → ℕ) a + S1x256x128.size a ≤ S1x2048x128.size a) (s0 s1 : Ideal .f32) (h0 : s0 = x0 (ix1 0)) (h1 : s1 = x0 (ix1 1)) (j : S1x256x128.Idx) :
    unitPay s0 s1 (k1_pay2 (F := Ideal) x2) (k1_pay3 (F := Ideal) x3)
        (View.ld x1 (Rect.unit (s := S1x2048x128) ![0, o, 0] S1x256x128.size inb)) x5 (View.ld x4 (Rect.unit (s := S1x2048x128) ![0, o, 0] S1x256x128.size inb)) j
      = bodyAt x0 x1 x2 x3 x4 x5 ((Rect.unit (s := S1x2048x128) ![0, o, 0] S1x256x128.size inb).idx j 1)
          ((Rect.unit (s := S1x2048x128) ![0, o, 0] S1x256x128.size inb).idx j 2) := by
  subst h0 h1
  obtain ⟨u, a, l, rfl⟩ : ∃ (u : Fin 1) (a : Fin 256) (l : Fin 128), j = ix3 u a l := ⟨j 0, j 1, j 2, eq_ix3 j⟩
  obtain rfl : u = 0 := Fin.ext (by omega)
  have e : ∀ (x : Vec Ideal S1x2048x128 .bf16) (a : Fin 256) (l : Fin 128),
      View.ld x (Rect.unit (s := S1x2048x128) ![0, o, 0] S1x256x128.size inb) (ix3 0 a l) = x (ix3 0 ⟨o + a.val, by omega⟩ l) := fun x a l => by
    refine congrArg x (funext fun b => Fin.ext ?_)
    match b with
    | ⟨0, _⟩ => rfl
    | ⟨1, _⟩ => show o + 1 * a.val = o + a.val; omega
    | ⟨2, _⟩ => show 0 + 1 * l.val = l.val; omega
  rw [unitPay_apply x0 x1 x2 x3 x4 x5 _ _ o ho (e x1) (e x4)]
  congr 1
  · exact Fin.ext (show o + a.val = o + 1 * a.val by omega)
  · exact Fin.ext (show l.val = 0 + 1 * l.val by omega)

/-- The body's scalars, read from their block. -/
theorem scal0 (x : Vec Ideal S2 .f32) (inb : ∀ a, (![0] : Fin 1 → ℕ) a + S1.size a ≤ S2.size a) (h : 0 < S1.numel) :
    View.ld x (Rect.unit (s := S2) ![0] S1.size inb) (Shape.Idx.first h) = x (ix1 0) :=
  congrArg x (funext fun b => Fin.ext (by match b with | ⟨0, _⟩ => rfl))
theorem scal1 (x : Vec Ideal S2 .f32) (inb : ∀ a, (![1] : Fin 1 → ℕ) a + S1.size a ≤ S2.size a) (h : 0 < S1.numel) :
    View.ld x (Rect.unit (s := S2) ![1] S1.size inb) (Shape.Idx.first h) = x (ix1 1) :=
  congrArg x (funext fun b => Fin.ext (by match b with | ⟨0, _⟩ => rfl))

/-- What the body leaves at point `t`, read at an index: its function of the point's blocks. -/
theorem outsAt1_apply (V : (c : Dev nD) → (b : Ref sig .tc) → Buf (Elt Ideal) ((c : Thread nD τ).loc b)) (c : Dev nD) (t : Fin cfg1.N) (y : S1x2048x128.Idx) : outsAt1 V c t y
    = bodyAt (iblk1 V c 0 t) (iblk1 V c 1 t) (iblk1 V c 2 t) (iblk1 V c 3 t) (iblk1 V c 4 t) (iblk1 V c 5 t) (y 1) (y 2) := by
  unfold outsAt1 out1_A_6
  rw [View.read_writes_eq_canon _ _ _ (fun y => cover1_A_6 (y := y) ..)]
  have hcov := fun y => cover1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) y
  revert hcov
  unfold kernelRun1_A
  dsimp only
  sl_unfold_words
  intro hcov
  refine View.canon_apply_of_pieces (fun y => bodyAt (iblk1 V c 0 t) (iblk1 V c 1 t) (iblk1 V c 2 t) (iblk1 V c 3 t) (iblk1 V c 4 t) (iblk1 V c 5 t) (y 1) (y 2)) _ (fun p hp j => ?_) y (hcov y)
  simp only [List.mem_cons, List.mem_nil_iff, or_false] at hp
  simp only [View.readAt_eq_ld, (hs1_0 t).read_unread, (hs1_1 t).read_unread, (hs1_2 t).read_unread, (hs1_3 t).read_unread,
    (hs1_4 t).read_unread, (hs1_5 t).read_unread] at hp
  repeat rw [View.ld_unit_zero hz3] at hp
  repeat rw [View.ld_unit_zero hz2] at hp
  rcases hp with rfl | rfl | rfl | rfl | rfl | rfl | rfl | rfl
  · exact piece _ _ _ _ _ _ 1792 (by omega) _ _ _ (scal0 _ _ _) (scal1 _ _ _) j
  · exact piece _ _ _ _ _ _ 1536 (by omega) _ _ _ (scal0 _ _ _) (scal1 _ _ _) j
  · exact piece _ _ _ _ _ _ 1280 (by omega) _ _ _ (scal0 _ _ _) (scal1 _ _ _) j
  · exact piece _ _ _ _ _ _ 1024 (by omega) _ _ _ (scal0 _ _ _) (scal1 _ _ _) j
  · exact piece _ _ _ _ _ _ 768 (by omega) _ _ _ (scal0 _ _ _) (scal1 _ _ _) j
  · exact piece _ _ _ _ _ _ 512 (by omega) _ _ _ (scal0 _ _ _) (scal1 _ _ _) j
  · exact piece _ _ _ _ _ _ 256 (by omega) _ _ _ (scal0 _ _ _) (scal1 _ _ _) j
  · exact piece _ _ _ _ _ _ 0 (by omega) _ _ _ (scal0 _ _ _) (scal1 _ _ _) j

end Cert.KernelIdeal.Attend

end
-- ==== Proof.AttnBlocks.lean ====
/-
  The arrays the two attention regions leave, read at an index from the arrays they find: where each block of each window
  sits, and that the blocks written back fill the results.
-/
module

public import proofs.«01_k».proof.Proof.AttnPrep
public import proofs.«01_k».proof.Proof.AttnOut

@[expose] public section

noncomputable section

open Idealize.ShloMosaic Idealize.ShloMosaic.TcCoe Idealize.SL.Sem Idealize.ShloMosaic.ValueIdx
open scoped BigOperators
open Cert.Attn

namespace Cert.KernelIdeal.Blocks

open Cert.KernelIdeal Cert.KernelIdeal.Gen Cert.KernelIdeal.Prep Cert.KernelIdeal.Attend

variable (V : (c : Dev nD) → (b : Ref sig .tc) → Buf (Elt Ideal) ((c : Thread nD τ).loc b))

/-! ## Where the blocks sit -/

theorem idx0_0 : ∀ t : Fin cfg0.N, win0_0.index t 0 = t.val / 16 ∧ win0_0.index t 1 = t.val / 4 % 4 ∧ win0_0.index t 2 = 60 + t.val % 4 :=
  (by decide +kernel : ∀ t : Fin grid0.N, win0_0.index t 0 = t.val / 16 ∧ win0_0.index t 1 = t.val / 4 % 4 ∧ win0_0.index t 2 = 60 + t.val % 4)
theorem idx0_1 : ∀ t : Fin cfg0.N, win0_1.index t 0 = t.val / 16 ∧ win0_1.index t 1 = t.val / 4 % 4 ∧ win0_1.index t 2 = 64 + t.val % 4 :=
  (by decide +kernel : ∀ t : Fin grid0.N, win0_1.index t 0 = t.val / 16 ∧ win0_1.index t 1 = t.val / 4 % 4 ∧ win0_1.index t 2 = 64 + t.val % 4)
theorem idx0_2 : ∀ t : Fin cfg0.N, win0_2.index t 0 = t.val / 4 % 4 ∧ win0_2.index t 1 = 0 :=
  (by decide +kernel : ∀ t : Fin grid0.N, win0_2.index t 0 = t.val / 4 % 4 ∧ win0_2.index t 1 = 0)
theorem idx0_3 : ∀ t : Fin cfg0.N, win0_3.index t 0 = t.val / 4 % 4 ∧ win0_3.index t 1 = 0 :=
  (by decide +kernel : ∀ t : Fin grid0.N, win0_3.index t 0 = t.val / 4 % 4 ∧ win0_3.index t 1 = 0)
theorem idx0_4 : ∀ t : Fin cfg0.N, win0_4.index t 0 = t.val / 4 % 4 ∧ win0_4.index t 1 = 0 :=
  (by decide +kernel : ∀ t : Fin grid0.N, win0_4.index t 0 = t.val / 4 % 4 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = 0 ∧ win0_6.index t 1 = 0 :=
  (by decide +kernel : ∀ t : Fin grid0.N, win0_6.index t 0 = 0 ∧ win0_6.index t 1 = 0)
theorem idx0_7 : ∀ t : Fin cfg0.N, win0_7.index t 0 = t.val / 16 ∧ win0_7.index t 1 = t.val / 4 % 4 ∧ win0_7.index t 2 = t.val % 4 :=
  (by decide +kernel : ∀ t : Fin grid0.N, win0_7.index t 0 = t.val / 16 ∧ win0_7.index t 1 = t.val / 4 % 4 ∧ win0_7.index t 2 = t.val % 4)
theorem idx0_8 : ∀ t : Fin cfg0.N, win0_8.index t 0 = t.val / 16 ∧ win0_8.index t 1 = t.val / 4 % 4 ∧ win0_8.index t 2 = t.val % 4 :=
  (by decide +kernel : ∀ t : Fin grid0.N, win0_8.index t 0 = t.val / 16 ∧ win0_8.index t 1 = t.val / 4 % 4 ∧ win0_8.index t 2 = t.val % 4)

theorem idx1_0 : ∀ t : Fin cfg1.N, win1_0.index t 0 = 0 :=
  (by decide +kernel : ∀ t : Fin grid1.N, win1_0.index t 0 = 0)
theorem idx1_1 : ∀ t : Fin cfg1.N, win1_1.index t 0 = t.val / 8 ∧ win1_1.index t 1 = t.val % 2 ∧ win1_1.index t 2 = t.val / 2 % 4 :=
  (by decide +kernel : ∀ t : Fin grid1.N, win1_1.index t 0 = t.val / 8 ∧ win1_1.index t 1 = t.val % 2 ∧ win1_1.index t 2 = t.val / 2 % 4)
theorem idx1_2 : ∀ t : Fin cfg1.N, win1_2.index t 0 = t.val / 8 ∧ win1_2.index t 1 = 0 ∧ win1_2.index t 2 = t.val / 2 % 4 :=
  (by decide +kernel : ∀ t : Fin grid1.N, win1_2.index t 0 = t.val / 8 ∧ win1_2.index t 1 = 0 ∧ win1_2.index t 2 = t.val / 2 % 4)
theorem idx1_3 : ∀ t : Fin cfg1.N, win1_3.index t 0 = t.val / 8 ∧ win1_3.index t 1 = 0 ∧ win1_3.index t 2 = 68 + t.val / 2 % 4 :=
  (by decide +kernel : ∀ t : Fin grid1.N, win1_3.index t 0 = t.val / 8 ∧ win1_3.index t 1 = 0 ∧ win1_3.index t 2 = 68 + t.val / 2 % 4)
theorem idx1_4 : ∀ t : Fin cfg1.N, win1_4.index t 0 = t.val / 8 ∧ win1_4.index t 1 = t.val % 2 ∧ win1_4.index t 2 = 72 + t.val / 2 % 4 :=
  (by decide +kernel : ∀ t : Fin grid1.N, win1_4.index t 0 = t.val / 8 ∧ win1_4.index t 1 = t.val % 2 ∧ win1_4.index t 2 = 72 + t.val / 2 % 4)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = t.val / 8 ∧ win1_6.index t 1 = t.val % 2 ∧ win1_6.index t 2 = t.val / 2 % 4 :=
  (by decide +kernel : ∀ t : Fin grid1.N, win1_6.index t 0 = t.val / 8 ∧ win1_6.index t 1 = t.val % 2 ∧ win1_6.index t 2 = t.val / 2 % 4)

theorem t0_lt (t : Fin cfg0.N) : t.val < 192 := lt_of_lt_of_eq t.isLt N_0
theorem t1_lt (t : Fin cfg1.N) : t.val < 96 := lt_of_lt_of_eq t.isLt N_1

/-- Batch, row and head of point `t` of the preparation, and of the attention. -/
def bat0 (t : Fin cfg0.N) : Fin 12 := ⟨t.val / 16, by have := t0_lt t; omega⟩
def row0 (t : Fin cfg0.N) (a : Fin 1024) : Fin 4096 := ⟨t.val / 4 % 4 * 1024 + a.val, by omega⟩
def head0 (t : Fin cfg0.N) : Fin 4 := ⟨t.val % 4, by omega⟩
def bat1 (t : Fin cfg1.N) : Fin 12 := ⟨t.val / 8, by have := t1_lt t; omega⟩
def row1 (t : Fin cfg1.N) (a : Fin 2048) : Fin 4096 := ⟨t.val % 2 * 2048 + a.val, by omega⟩
def head1 (t : Fin cfg1.N) : Fin 4 := ⟨t.val / 2 % 4, by omega⟩

/-- Column `l` of head `h`, in an array of the four heads alone, and in the projection from column `o` on. -/
def hcol (h : Fin 4) (l : Fin 128) : Fin 512 := ⟨h.val * 128 + l.val, by omega⟩
def xcol (o : ℕ) (ho : o ≤ 9216) (h : Fin 4) (l : Fin 128) : Fin 9728 := ⟨o + (h.val * 128 + l.val), by omega⟩

/-! ## The preparation's blocks -/

theorem blk0_0 (c : Dev nD) (t : Fin cfg0.N) (a : Fin 1024) (l : Fin 128) :
    (iblk0 V c 0 t : Vec Ideal S1x1024x128 .bf16) (ix3 0 a l)
      = (V c main_arg0 : Vec Ideal S12x4096x9728 .bf16) (ix3 (bat0 t) (row0 t a) (xcol 7680 (by omega) (head0 t) l)) := by
  show V c main_arg0 (((cfg0.win 0).blk t).view.emb (ix3 0 a l)) = _
  refine congrArg _ (funext fun x => Fin.ext ?_)
  match x with
  | ⟨0, _⟩ => show win0_0.index t 0 * 1 + 1 * 0 = t.val / 16; rw [(idx0_0 t).1]; omega
  | ⟨1, _⟩ => show win0_0.index t 1 * 1024 + 1 * a.val = t.val / 4 % 4 * 1024 + a.val; rw [(idx0_0 t).2.1]; omega
  | ⟨2, _⟩ => show win0_0.index t 2 * 128 + 1 * l.val = 7680 + (t.val % 4 * 128 + l.val); rw [(idx0_0 t).2.2]; omega
theorem blk0_1 (c : Dev nD) (t : Fin cfg0.N) (a : Fin 1024) (l : Fin 128) :
    (iblk0 V c 1 t : Vec Ideal S1x1024x128 .bf16) (ix3 0 a l)
      = (V c main_arg0 : Vec Ideal S12x4096x9728 .bf16) (ix3 (bat0 t) (row0 t a) (xcol 8192 (by omega) (head0 t) l)) := by
  show V c main_arg0 (((cfg0.win 1).blk t).view.emb (ix3 0 a l)) = _
  refine congrArg _ (funext fun x => Fin.ext ?_)
  match x with
  | ⟨0, _⟩ => show win0_1.index t 0 * 1 + 1 * 0 = t.val / 16; rw [(idx0_1 t).1]; omega
  | ⟨1, _⟩ => show win0_1.index t 1 * 1024 + 1 * a.val = t.val / 4 % 4 * 1024 + a.val; rw [(idx0_1 t).2.1]; omega
  | ⟨2, _⟩ => show win0_1.index t 2 * 128 + 1 * l.val = 8192 + (t.val % 4 * 128 + l.val); rw [(idx0_1 t).2.2]; omega
theorem blk0_2 (c : Dev nD) (t : Fin cfg0.N) (a : Fin 1024) (l : Fin 128) :
    (iblk0 V c 2 t : Vec Ideal S1024x128 .f32) (ix2 a l) = (V c main_v26 : Vec Ideal S4096x128 .f32) (ix2 (row0 t a) l) := by
  show V c main_v26 (((cfg0.win 2).blk t).view.emb (ix2 a l)) = _
  refine congrArg _ (funext fun x => Fin.ext ?_)
  match x with
  | ⟨0, _⟩ => show win0_2.index t 0 * 1024 + 1 * a.val = t.val / 4 % 4 * 1024 + a.val; rw [(idx0_2 t).1]; omega
  | ⟨1, _⟩ => show win0_2.index t 1 * 128 + 1 * l.val = l.val; rw [(idx0_2 t).2]; omega
theorem blk0_3 (c : Dev nD) (t : Fin cfg0.N) (a : Fin 1024) (l : Fin 128) :
    (iblk0 V c 3 t : Vec Ideal S1024x128 .f32) (ix2 a l) = (V c main_v27 : Vec Ideal S4096x128 .f32) (ix2 (row0 t a) l) := by
  show V c main_v27 (((cfg0.win 3).blk t).view.emb (ix2 a l)) = _
  refine congrArg _ (funext fun x => Fin.ext ?_)
  match x with
  | ⟨0, _⟩ => show win0_3.index t 0 * 1024 + 1 * a.val = t.val / 4 % 4 * 1024 + a.val; rw [(idx0_3 t).1]; omega
  | ⟨1, _⟩ => show win0_3.index t 1 * 128 + 1 * l.val = l.val; rw [(idx0_3 t).2]; omega
theorem blk0_4 (c : Dev nD) (t : Fin cfg0.N) (a : Fin 1024) (l : Fin 128) :
    (iblk0 V c 4 t : Vec Ideal S1024x128 .f32) (ix2 a l) = (V c main_v28 : Vec Ideal S4096x128 .f32) (ix2 (row0 t a) l) := by
  show V c main_v28 (((cfg0.win 4).blk t).view.emb (ix2 a l)) = _
  refine congrArg _ (funext fun x => Fin.ext ?_)
  match x with
  | ⟨0, _⟩ => show win0_4.index t 0 * 1024 + 1 * a.val = t.val / 4 % 4 * 1024 + a.val; rw [(idx0_4 t).1]; omega
  | ⟨1, _⟩ => show win0_4.index t 1 * 128 + 1 * l.val = l.val; rw [(idx0_4 t).2]; omega
theorem blk0_5 (c : Dev nD) (t : Fin cfg0.N) (l : Fin 128) :
    (iblk0 V c 5 t : Vec Ideal S1x128 .f32) (ix2 0 l) = (V c main_v44 : Vec Ideal S1x128 .f32) (ix2 0 l) := by
  show V c main_v44 (((cfg0.win 5).blk t).view.emb (ix2 0 l)) = _
  refine congrArg _ (funext fun x => Fin.ext ?_)
  match x with
  | ⟨0, _⟩ => show win0_5.index t 0 * 1 + 1 * 0 = 0; rw [(idx0_5 t).1]
  | ⟨1, _⟩ => show win0_5.index t 1 * 128 + 1 * l.val = l.val; rw [(idx0_5 t).2]; omega
theorem blk0_6 (c : Dev nD) (t : Fin cfg0.N) (l : Fin 128) :
    (iblk0 V c 6 t : Vec Ideal S1x128 .f32) (ix2 0 l) = (V c main_v45 : Vec Ideal S1x128 .f32) (ix2 0 l) := by
  show V c main_v45 (((cfg0.win 6).blk t).view.emb (ix2 0 l)) = _
  refine congrArg _ (funext fun x => Fin.ext ?_)
  match x with
  | ⟨0, _⟩ => show win0_6.index t 0 * 1 + 1 * 0 = 0; rw [(idx0_6 t).1]
  | ⟨1, _⟩ => show win0_6.index t 1 * 128 + 1 * l.val = l.val; rw [(idx0_6 t).2]; omega

/-! ## What the preparation leaves -/

/-- The cosines and sines of the eight angles at each row, and what the region's tables hold of them. -/
structure Tables (c : Dev nD) (co si : Fin 4096 → Fin 8 → EReal) : Prop where
  cos : ∀ s m d, (V c main_v26 : Vec Ideal S4096x128 .f32) (ix2 s (lane m d)) = tabC (co s) d
  lo : ∀ s m d, (V c main_v27 : Vec Ideal S4096x128 .f32) (ix2 s (lane m d)) = tabLo (si s) d
  hi : ∀ s m d, (V c main_v28 : Vec Ideal S4096x128 .f32) (ix2 s (lane m d)) = tabHi (si s) d

/-- A row of 64 lanes of the projection from column `o` on: batch `b`, row `s`, head `h`, half `m`. -/
def xrow (x : Vec Ideal S12x4096x9728 .bf16) (o : ℕ) (ho : o ≤ 9216) (b : Fin 12) (s : Fin 4096) (h : Fin 4) (m : Fin 2) (d : Fin 64) : EReal :=
  x (ix3 b s (xcol o ho h (lane m d)))

/-- The prepared row of queries without its scale, or of keys. -/
def prep (x : Vec Ideal S12x4096x9728 .bf16) (g : Vec Ideal S1x128 .f32) (co si : Fin 4096 → Fin 8 → EReal) (o : ℕ) (ho : o ≤ 9216)
    (b : Fin 12) (s : Fin 4096) (h : Fin 4) (m : Fin 2) (d : Fin 64) : EReal :=
  rope (nrm (xrow x o ho b s h m) (fun e => g (ix2 0 (lane m e)))) (co s) (si s) d

/-- Batch, row, head, half and lane of an index of the prepared arrays. -/
def headOf (k : Fin 512) : Fin 4 := ⟨k.val / 128, by omega⟩
def halfOf (k : Fin 512) : Fin 2 := ⟨k.val / 64 % 2, by omega⟩
def laneOf (k : Fin 512) : Fin 64 := ⟨k.val % 64, by omega⟩

theorem headOf_hcol (h : Fin 4) (m : Fin 2) (d : Fin 64) : headOf (hcol h (lane m d)) = h :=
  Fin.ext (show (h.val * 128 + (64 * m.val + d.val)) / 128 = h.val by omega)
theorem halfOf_hcol (h : Fin 4) (m : Fin 2) (d : Fin 64) : halfOf (hcol h (lane m d)) = m :=
  Fin.ext (show (h.val * 128 + (64 * m.val + d.val)) / 64 % 2 = m.val by omega)
theorem laneOf_hcol (h : Fin 4) (m : Fin 2) (d : Fin 64) : laneOf (hcol h (lane m d)) = d :=
  Fin.ext (show (h.val * 128 + (64 * m.val + d.val)) % 64 = d.val by omega)

/-- The queries' array, and the keys'. -/
def GQ (c : Dev nD) (co si : Fin 4096 → Fin 8 → EReal) : Buf (Elt Ideal) ((c : Thread nD τ).loc main_v46_0) := fun (i : S12x4096x512.Idx) =>
  prep (V c main_arg0) (V c main_v44) co si 7680 (by omega) (i 0) (i 1) (headOf (i 2)) (halfOf (i 2)) (laneOf (i 2)) * qScale
def GK (c : Dev nD) (co si : Fin 4096 → Fin 8 → EReal) : Buf (Elt Ideal) ((c : Thread nD τ).loc main_v46_1) := fun (i : S12x4096x512.Idx) =>
  prep (V c main_arg0) (V c main_v45) co si 8192 (by omega) (i 0) (i 1) (headOf (i 2)) (halfOf (i 2)) (laneOf (i 2))

/-- The columns of queries, keys and values hold real numbers. -/
def RealCols (x : Vec Ideal S12x4096x9728 .bf16) : Prop :=
  ∀ (o : ℕ) (ho : o ≤ 9216), 7680 ≤ o → o ≤ 8704 → ∀ b s h l, IsReal (x (ix3 b s (xcol o ho h l)))

/-- The two blocks the body stores, the words it computes with written as the payload lemmas have them. -/
theorem out0_7_eq (x0 x1 : Vec Ideal S1x1024x128 .bf16) (x2 x3 x4 : Vec Ideal S1024x128 .f32) (x5 x6 : Vec Ideal S1x128 .f32) :
    out0_7 (F := Ideal) x0 x1 x2 x3 x4 x5 x6
      = k0_pay12 (F := Ideal) (k0_pay4 x4) (normed x0 x5) (k0_pay10 (k0_pay2 x2) k0_pay5 cols 64#32 k0_pay6 k0_pay7 x0 x5)
        (k0_pay11 (k0_pay3 x3) k0_pay5 cols 64#32 k0_pay6 k0_pay7 x0 x5) := by
  unfold out0_7
  rw [View.canon_unit_zero hz3, View.ld_unit_zero hz3, View.ld_unit_zero hz2]
  unfold k0_pay17 k0_pay16 k0_pay15 k0_pay14 k0_pay18 k0_pay19 k0_pay20
  rw [View.ld_unit_zero hz2, View.ld_unit_zero hz2, View.ld_unit_zero hz2]
  rfl
theorem out0_8_eq (x0 x1 : Vec Ideal S1x1024x128 .bf16) (x2 x3 x4 : Vec Ideal S1024x128 .f32) (x5 x6 : Vec Ideal S1x128 .f32) :
    out0_8 (F := Ideal) x0 x1 x2 x3 x4 x5 x6
      = k0_pay1 (F := Ideal) (k0_pay13 (k0_pay2 x2) (k0_pay3 x3) (k0_pay4 x4) (k0_pay8 (F := Ideal) k0_pay5 cols 64#32 k0_pay6 k0_pay7) x1 x6) := by
  unfold out0_8
  rw [View.canon_unit_zero hz3, View.ld_unit_zero hz3, View.ld_unit_zero hz2]
  unfold k0_pay17 k0_pay16 k0_pay15 k0_pay14 k0_pay18 k0_pay19 k0_pay20
  rw [View.ld_unit_zero hz2, View.ld_unit_zero hz2, View.ld_unit_zero hz2]
  rfl

theorem out0_7_apply (c : Dev nD) (co si : Fin 4096 → Fin 8 → EReal) (hT : Tables V c co si) (hx : RealCols (V c main_arg0))
    (t : Fin cfg0.N) (a : Fin 1024) (m : Fin 2) (d : Fin 64) :
    out0_7 (iblk0 V c 0 t) (iblk0 V c 1 t) (iblk0 V c 2 t) (iblk0 V c 3 t) (iblk0 V c 4 t) (iblk0 V c 5 t) (iblk0 V c 6 t) (ix3 0 a (lane m d))
      = prep (V c main_arg0) (V c main_v44) co si 7680 (by omega) (bat0 t) (row0 t a) (head0 t) m d * qScale := by
  refine (congrFun (out0_7_eq _ _ _ _ _ _ _) _).trans ?_
  refine (queries_apply _ _ _ _ _ a (co (row0 t a)) (si (row0 t a))
    (fun l => ?_) (fun m d => ?_) (fun m d => ?_) (fun m d => ?_) m d).trans ?_
  · exact (congrArg IsReal (blk0_0 V c t a l)).mpr (hx 7680 (by omega) (by omega) (by omega) _ _ _ _)
  · exact (blk0_2 V c t a _).trans (hT.cos _ m d)
  · exact (blk0_3 V c t a _).trans (hT.lo _ m d)
  · exact (blk0_4 V c t a _).trans (hT.hi _ m d)
  · have e1 : (fun e => (iblk0 V c 0 t : Vec Ideal S1x1024x128 .bf16) (ix3 0 a (lane m e))) = xrow (V c main_arg0) 7680 (by omega) (bat0 t) (row0 t a) (head0 t) m :=
      funext fun e => blk0_0 V c t a _
    have e2 : (fun e => (iblk0 V c 5 t : Vec Ideal S1x128 .f32) (ix2 0 (lane m e))) = fun e => (V c main_v44 : Vec Ideal S1x128 .f32) (ix2 0 (lane m e)) :=
      funext fun e => blk0_5 V c t _
    unfold prep
    rw [← e1, ← e2]

theorem out0_8_apply (c : Dev nD) (co si : Fin 4096 → Fin 8 → EReal) (hT : Tables V c co si) (hx : RealCols (V c main_arg0))
    (t : Fin cfg0.N) (a : Fin 1024) (m : Fin 2) (d : Fin 64) :
    out0_8 (iblk0 V c 0 t) (iblk0 V c 1 t) (iblk0 V c 2 t) (iblk0 V c 3 t) (iblk0 V c 4 t) (iblk0 V c 5 t) (iblk0 V c 6 t) (ix3 0 a (lane m d))
      = prep (V c main_arg0) (V c main_v45) co si 8192 (by omega) (bat0 t) (row0 t a) (head0 t) m d := by
  refine (congrFun (out0_8_eq _ _ _ _ _ _ _) _).trans ?_
  refine (keys_apply _ _ _ _ _ a (co (row0 t a)) (si (row0 t a))
    (fun l => ?_) (fun m d => ?_) (fun m d => ?_) (fun m d => ?_) m d).trans ?_
  · exact (congrArg IsReal (blk0_1 V c t a l)).mpr (hx 8192 (by omega) (by omega) (by omega) _ _ _ _)
  · exact (blk0_2 V c t a _).trans (hT.cos _ m d)
  · exact (blk0_3 V c t a _).trans (hT.lo _ m d)
  · exact (blk0_4 V c t a _).trans (hT.hi _ m d)
  · have e1 : (fun e => (iblk0 V c 1 t : Vec Ideal S1x1024x128 .bf16) (ix3 0 a (lane m e))) = xrow (V c main_arg0) 8192 (by omega) (bat0 t) (row0 t a) (head0 t) m :=
      funext fun e => blk0_1 V c t a _
    have e2 : (fun e => (iblk0 V c 6 t : Vec Ideal S1x128 .f32) (ix2 0 (lane m e))) = fun e => (V c main_v45 : Vec Ideal S1x128 .f32) (ix2 0 (lane m e)) :=
      funext fun e => blk0_6 V c t _
    unfold prep
    rw [← e1, ← e2]

/-- An index of a prepared array, by batch, row, head, half and lane. -/
theorem hcol_of (k : Fin 512) : hcol (headOf k) (lane (halfOf k) (laneOf k)) = k :=
  Fin.ext (show k.val / 128 * 128 + (64 * (k.val / 64 % 2) + k.val % 64) = k.val by omega)

theorem flushed0_7 (c : Dev nD) (co si : Fin 4096 → Fin 8 → EReal) (hT : Tables V c co si) (hx : RealCols (V c main_arg0)) (t : Fin cfg0.N) :
    (dat0 V c).flushed 7 t = ((cfg0.win 7).blk t).view.read (Elt Ideal) (GQ V c co si) := by
  show (cfg0.win 7).cut (grid0.coords t) ((dat0 V c).after 7 t) = _
  rw [after0_7]
  funext j
  obtain ⟨u, a, l, rfl⟩ : ∃ (u : Fin 1) (a : Fin 1024) (l : Fin 128), j = ix3 u a l := ⟨j 0, j 1, j 2, eq_ix3 j⟩
  obtain rfl : u = 0 := Fin.ext (by omega)
  obtain ⟨m, d, rfl⟩ := exists_lane l
  refine (out0_7_apply V c co si hT hx t a m d).trans ?_
  have e : ((cfg0.win 7).blk t).view.emb (ix3 0 a (lane m d)) = (ix3 (bat0 t) (row0 t a) (hcol (head0 t) (lane m d)) : S12x4096x512.Idx) := by
    refine funext fun x => Fin.ext ?_
    match x with
    | ⟨0, _⟩ => show win0_7.index t 0 * 1 + 1 * 0 = t.val / 16; rw [(idx0_7 t).1]; omega
    | ⟨1, _⟩ => show win0_7.index t 1 * 1024 + 1 * a.val = t.val / 4 % 4 * 1024 + a.val; rw [(idx0_7 t).2.1]; omega
    | ⟨2, _⟩ => show win0_7.index t 2 * 128 + 1 * (64 * m.val + d.val) = t.val % 4 * 128 + (64 * m.val + d.val); rw [(idx0_7 t).2.2]; omega
  show _ = GQ V c co si (((cfg0.win 7).blk t).view.emb (ix3 0 a (lane m d)))
  rw [e]
  show _ = prep (V c main_arg0) (V c main_v44) co si 7680 (by omega) (bat0 t) (row0 t a) (headOf (hcol (head0 t) (lane m d)))
    (halfOf (hcol (head0 t) (lane m d))) (laneOf (hcol (head0 t) (lane m d))) * qScale
  rw [headOf_hcol, halfOf_hcol, laneOf_hcol]

theorem flushed0_8 (c : Dev nD) (co si : Fin 4096 → Fin 8 → EReal) (hT : Tables V c co si) (hx : RealCols (V c main_arg0)) (t : Fin cfg0.N) :
    (dat0 V c).flushed 8 t = ((cfg0.win 8).blk t).view.read (Elt Ideal) (GK V c co si) := by
  show (cfg0.win 8).cut (grid0.coords t) ((dat0 V c).after 8 t) = _
  rw [after0_8]
  funext j
  obtain ⟨u, a, l, rfl⟩ : ∃ (u : Fin 1) (a : Fin 1024) (l : Fin 128), j = ix3 u a l := ⟨j 0, j 1, j 2, eq_ix3 j⟩
  obtain rfl : u = 0 := Fin.ext (by omega)
  obtain ⟨m, d, rfl⟩ := exists_lane l
  refine (out0_8_apply V c co si hT hx t a m d).trans ?_
  have e : ((cfg0.win 8).blk t).view.emb (ix3 0 a (lane m d)) = (ix3 (bat0 t) (row0 t a) (hcol (head0 t) (lane m d)) : S12x4096x512.Idx) := by
    refine funext fun x => Fin.ext ?_
    match x with
    | ⟨0, _⟩ => show win0_8.index t 0 * 1 + 1 * 0 = t.val / 16; rw [(idx0_8 t).1]; omega
    | ⟨1, _⟩ => show win0_8.index t 1 * 1024 + 1 * a.val = t.val / 4 % 4 * 1024 + a.val; rw [(idx0_8 t).2.1]; omega
    | ⟨2, _⟩ => show win0_8.index t 2 * 128 + 1 * (64 * m.val + d.val) = t.val % 4 * 128 + (64 * m.val + d.val); rw [(idx0_8 t).2.2]; omega
  show _ = GK V c co si (((cfg0.win 8).blk t).view.emb (ix3 0 a (lane m d)))
  rw [e]
  show _ = prep (V c main_arg0) (V c main_v45) co si 8192 (by omega) (bat0 t) (row0 t a) (headOf (hcol (head0 t) (lane m d)))
    (halfOf (hcol (head0 t) (lane m d))) (laneOf (hcol (head0 t) (lane m d)))
  rw [headOf_hcol, halfOf_hcol, laneOf_hcol]

theorem cover0_7 (i : S12x4096x512.Idx) : ∃ t : Fin cfg0.N, (cfg0.win 7).flush t = true ∧ i ∈ ((cfg0.win 7).blk t).view.set := by
  have h0 : (i 0).val < 12 := (i 0).isLt
  have h1 : (i 1).val < 4096 := (i 1).isLt
  have h2 : (i 2).val < 512 := (i 2).isLt
  have hN : cfg0.N = 192 := N_0
  obtain ⟨t, ht⟩ : ∃ t : Fin cfg0.N, t.val = (i 0).val * 16 + (i 1).val / 1024 * 4 + (i 2).val / 128 :=
    ⟨⟨(i 0).val * 16 + (i 1).val / 1024 * 4 + (i 2).val / 128, by omega⟩, rfl⟩
  refine ⟨t, flush0_7 _, ?_⟩
  show i ∈ ((View.whole main_v46_0).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [(idx0_7 t).1]; omega
  | ⟨1, _⟩ =>
    show win0_7.index t 1 * 1024 ≤ (i 1).val ∧ (i 1).val < win0_7.index t 1 * 1024 + 1024
    rw [(idx0_7 t).2.1]; omega
  | ⟨2, _⟩ =>
    show win0_7.index t 2 * 128 ≤ (i 2).val ∧ (i 2).val < win0_7.index t 2 * 128 + 128
    rw [(idx0_7 t).2.2]; omega

theorem cover0_8 (i : S12x4096x512.Idx) : ∃ t : Fin cfg0.N, (cfg0.win 8).flush t = true ∧ i ∈ ((cfg0.win 8).blk t).view.set := by
  have h0 : (i 0).val < 12 := (i 0).isLt
  have h1 : (i 1).val < 4096 := (i 1).isLt
  have h2 : (i 2).val < 512 := (i 2).isLt
  have hN : cfg0.N = 192 := N_0
  obtain ⟨t, ht⟩ : ∃ t : Fin cfg0.N, t.val = (i 0).val * 16 + (i 1).val / 1024 * 4 + (i 2).val / 128 :=
    ⟨⟨(i 0).val * 16 + (i 1).val / 1024 * 4 + (i 2).val / 128, by omega⟩, rfl⟩
  refine ⟨t, flush0_8 _, ?_⟩
  show i ∈ ((View.whole main_v46_1).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    rw [(idx0_8 t).1]; omega
  | ⟨1, _⟩ =>
    show win0_8.index t 1 * 1024 ≤ (i 1).val ∧ (i 1).val < win0_8.index t 1 * 1024 + 1024
    rw [(idx0_8 t).2.1]; omega
  | ⟨2, _⟩ =>
    show win0_8.index t 2 * 128 ≤ (i 2).val ∧ (i 2).val < win0_8.index t 2 * 128 + 128
    rw [(idx0_8 t).2.2]; omega

/-- The prepared queries and keys, whole. -/
theorem final0_7 (c : Dev nD) (co si : Fin 4096 → Fin 8 → EReal) (hT : Tables V c co si) (hx : RealCols (V c main_arg0)) :
    (dat0 V c).arrAt 7 cfg0.N = GQ V c co si :=
  (dat0 V c).arrAt_eq_of_cover 7 (GQ V c co si) (fun t _ => flushed0_7 V c co si hT hx t) cover0_7
theorem final0_8 (c : Dev nD) (co si : Fin 4096 → Fin 8 → EReal) (hT : Tables V c co si) (hx : RealCols (V c main_arg0)) :
    (dat0 V c).arrAt 8 cfg0.N = GK V c co si :=
  (dat0 V c).arrAt_eq_of_cover 8 (GK V c co si) (fun t _ => flushed0_8 V c co si hT hx t) cover0_8

/-! ## The attention's blocks -/

theorem blk1_0 (c : Dev nD) (t : Fin cfg1.N) (k : Fin 2) :
    (iblk1 V c 0 t : Vec Ideal S2 .f32) (ix1 k) = (V c main_v53 : Vec Ideal S2 .f32) (ix1 k) := by
  show V c main_v53 (((cfg1.win 0).blk t).view.emb (ix1 k)) = _
  refine congrArg _ (funext fun x => Fin.ext ?_)
  match x with
  | ⟨0, _⟩ => show win1_0.index t 0 * 2 + 1 * k.val = k.val; rw [idx1_0 t]; omega
theorem blk1_1 (c : Dev nD) (t : Fin cfg1.N) (a : Fin 2048) (l : Fin 128) :
    (iblk1 V c 1 t : Vec Ideal S1x2048x128 .bf16) (ix3 0 a l)
      = (V c main_v46_0 : Vec Ideal S12x4096x512 .bf16) (ix3 (bat1 t) (row1 t a) (hcol (head1 t) l)) := by
  show V c main_v46_0 (((cfg1.win 1).blk t).view.emb (ix3 0 a l)) = _
  refine congrArg _ (funext fun x => Fin.ext ?_)
  match x with
  | ⟨0, _⟩ => show win1_1.index t 0 * 1 + 1 * 0 = t.val / 8; rw [(idx1_1 t).1]; omega
  | ⟨1, _⟩ => show win1_1.index t 1 * 2048 + 1 * a.val = t.val % 2 * 2048 + a.val; rw [(idx1_1 t).2.1]; omega
  | ⟨2, _⟩ => show win1_1.index t 2 * 128 + 1 * l.val = t.val / 2 % 4 * 128 + l.val; rw [(idx1_1 t).2.2]; omega
theorem blk1_2 (c : Dev nD) (t : Fin cfg1.N) (a : Fin 4096) (l : Fin 128) :
    (iblk1 V c 2 t : Vec Ideal S1x4096x128 .bf16) (ix3 0 a l)
      = (V c main_v46_1 : Vec Ideal S12x4096x512 .bf16) (ix3 (bat1 t) a (hcol (head1 t) l)) := by
  show V c main_v46_1 (((cfg1.win 2).blk t).view.emb (ix3 0 a l)) = _
  refine congrArg _ (funext fun x => Fin.ext ?_)
  match x with
  | ⟨0, _⟩ => show win1_2.index t 0 * 1 + 1 * 0 = t.val / 8; rw [(idx1_2 t).1]; omega
  | ⟨1, _⟩ => show win1_2.index t 1 * 4096 + 1 * a.val = a.val; rw [(idx1_2 t).2.1]; omega
  | ⟨2, _⟩ => show win1_2.index t 2 * 128 + 1 * l.val = t.val / 2 % 4 * 128 + l.val; rw [(idx1_2 t).2.2]; omega
theorem blk1_3 (c : Dev nD) (t : Fin cfg1.N) (a : Fin 4096) (l : Fin 128) :
    (iblk1 V c 3 t : Vec Ideal S1x4096x128 .bf16) (ix3 0 a l)
      = (V c main_arg0 : Vec Ideal S12x4096x9728 .bf16) (ix3 (bat1 t) a (xcol 8704 (by omega) (head1 t) l)) := by
  show V c main_arg0 (((cfg1.win 3).blk t).view.emb (ix3 0 a l)) = _
  refine congrArg _ (funext fun x => Fin.ext ?_)
  match x with
  | ⟨0, _⟩ => show win1_3.index t 0 * 1 + 1 * 0 = t.val / 8; rw [(idx1_3 t).1]; omega
  | ⟨1, _⟩ => show win1_3.index t 1 * 4096 + 1 * a.val = a.val; rw [(idx1_3 t).2.1]; omega
  | ⟨2, _⟩ => show win1_3.index t 2 * 128 + 1 * l.val = 8704 + (t.val / 2 % 4 * 128 + l.val); rw [(idx1_3 t).2.2]; omega
theorem blk1_4 (c : Dev nD) (t : Fin cfg1.N) (a : Fin 2048) (l : Fin 128) :
    (iblk1 V c 4 t : Vec Ideal S1x2048x128 .bf16) (ix3 0 a l)
      = (V c main_arg0 : Vec Ideal S12x4096x9728 .bf16) (ix3 (bat1 t) (row1 t a) (xcol 9216 (by omega) (head1 t) l)) := by
  show V c main_arg0 (((cfg1.win 4).blk t).view.emb (ix3 0 a l)) = _
  refine congrArg _ (funext fun x => Fin.ext ?_)
  match x with
  | ⟨0, _⟩ => show win1_4.index t 0 * 1 + 1 * 0 = t.val / 8; rw [(idx1_4 t).1]; omega
  | ⟨1, _⟩ => show win1_4.index t 1 * 2048 + 1 * a.val = t.val % 2 * 2048 + a.val; rw [(idx1_4 t).2.1]; omega
  | ⟨2, _⟩ => show win1_4.index t 2 * 128 + 1 * l.val = 9216 + (t.val / 2 % 4 * 128 + l.val); rw [(idx1_4 t).2.2]; omega
theorem blk1_5 (c : Dev nD) (t : Fin cfg1.N) (l : Fin 128) :
    (iblk1 V c 5 t : Vec Ideal S1x128 .f32) (ix2 0 l) = (V c main_v54 : Vec Ideal S1x128 .f32) (ix2 0 l) := by
  show V c main_v54 (((cfg1.win 5).blk t).view.emb (ix2 0 l)) = _
  refine congrArg _ (funext fun x => Fin.ext ?_)
  match x with
  | ⟨0, _⟩ => show win1_5.index t 0 * 1 + 1 * 0 = 0; rw [(idx1_5 t).1]
  | ⟨1, _⟩ => show win1_5.index t 1 * 128 + 1 * l.val = l.val; rw [(idx1_5 t).2]; omega

/-- The score of query row `s` and key row `j`, half `m` of head `h`. -/
def dotAt (q k : Vec Ideal S12x4096x512 .bf16) (b : Fin 12) (h : Fin 4) (m : Fin 2) (s j : Fin 4096) : EReal :=
  ∑ d : Fin 64, q (ix3 b s (hcol h (lane m d))) * k (ix3 b j (hcol h (lane m d)))

/-- What the attention computes from scalars `sc`, queries, keys, the projection and the gains, at batch `b`, row `s`, head `h` and
    lane `l`. -/
def attnAt (sc : Vec Ideal S2 .f32) (q k : Vec Ideal S12x4096x512 .bf16) (x : Vec Ideal S12x4096x9728 .bf16) (g : Vec Ideal S1x128 .f32)
    (b : Fin 12) (s : Fin 4096) (h : Fin 4) (l : Fin 128) : EReal :=
  gated (fun e => mean2 (fun j => dotAt q k b h 0 s j) (fun j => x (ix3 b j (xcol 8704 (by omega) h e)))
      - sc (ix1 0) * mean2 (fun j => dotAt q k b h 1 s j) (fun j => x (ix3 b j (xcol 8704 (by omega) h e))))
    (fun e => g (ix2 0 e)) (sc (ix1 1)) (x (ix3 b s (xcol 9216 (by omega) h l))) l

/-- The result array. -/
def GO (c : Dev nD) : Buf (Elt Ideal) ((c : Thread nD τ).loc main_v55) := fun (i : S12x4096x512.Idx) =>
  attnAt (V c main_v53) (V c main_v46_0) (V c main_v46_1) (V c main_arg0) (V c main_v54) (i 0) (i 1) (headOf (i 2)) ⟨(i 2).val % 128, by omega⟩

theorem dot_blk (c : Dev nD) (t : Fin cfg1.N) (a : Fin 2048) (j : Fin 4096) (m : Fin 2) (f : Fin 64 → Fin 128) (hf : ∀ d, f d = lane m d)
    (x1 : Vec Ideal S1x2048x128 .bf16) (x2 : Vec Ideal S1x4096x128 .bf16) (h1 : x1 = iblk1 V c 1 t) (h2 : x2 = iblk1 V c 2 t) :
    (∑ d : Fin 64, x1 (ix3 0 a (f d)) * x2 (ix3 0 j (f d)))
      = dotAt (V c main_v46_0) (V c main_v46_1) (bat1 t) (head1 t) m (row1 t a) j :=
  Finset.sum_congr rfl fun d _ => by
    rw [hf d]
    subst h1 h2
    exact congrArg₂ (· * ·) (blk1_1 V c t a _) (blk1_2 V c t j _)

theorem lane_zero (d : Fin 64) : (⟨d.val, by omega⟩ : Fin 128) = lane 0 d := Fin.ext (show d.val = 64 * 0 + d.val by omega)
theorem lane_one (d : Fin 64) : (⟨64 + d.val, by omega⟩ : Fin 128) = lane 1 d := Fin.ext (show 64 + d.val = 64 * 1 + d.val by omega)

theorem body_blk (c : Dev nD) (t : Fin cfg1.N) (a : Fin 2048) (l : Fin 128) :
    bodyAt (iblk1 V c 0 t) (iblk1 V c 1 t) (iblk1 V c 2 t) (iblk1 V c 3 t) (iblk1 V c 4 t) (iblk1 V c 5 t) a l
      = attnAt (V c main_v53) (V c main_v46_0) (V c main_v46_1) (V c main_arg0) (V c main_v54) (bat1 t) (row1 t a) (head1 t) l := by
  unfold bodyAt attnAt
  have e0 := funext fun j => dot_blk V c t a j 0 (fun d => ⟨d.val, by omega⟩) lane_zero _ _ rfl rfl
  have e1 := funext fun j => dot_blk V c t a j 1 (fun d => ⟨64 + d.val, by omega⟩) lane_one _ _ rfl rfl
  have e3 := fun e => funext fun j => blk1_3 V c t j e
  have e5 := funext fun e => blk1_5 V c t e
  refine congr (congr (congr (congrArg₂ gated (funext fun e => ?_) e5) (blk1_0 V c t 1)) (blk1_4 V c t a l)) rfl
  exact congrArg₂ (· - ·) (congrArg₂ mean2 e0 (e3 e)) (congrArg₂ (· * ·) (blk1_0 V c t 0) (congrArg₂ mean2 e1 (e3 e)))

theorem flushed1_6 (c : Dev nD) (t : Fin cfg1.N) :
    (dat1 V c).flushed 6 t = ((cfg1.win 6).blk t).view.read (Elt Ideal) (GO V c) := by
  show (cfg1.win 6).cut (grid1.coords t) ((dat1 V c).after 6 t) = _
  rw [after1_6]
  funext j
  obtain ⟨u, a, l, rfl⟩ : ∃ (u : Fin 1) (a : Fin 2048) (l : Fin 128), j = ix3 u a l := ⟨j 0, j 1, j 2, eq_ix3 j⟩
  obtain rfl : u = 0 := Fin.ext (by omega)
  refine ((outsAt1_apply V c t (ix3 0 a l)).trans (body_blk V c t a l)).trans ?_
  have e : ((cfg1.win 6).blk t).view.emb (ix3 0 a l) = (ix3 (bat1 t) (row1 t a) (hcol (head1 t) l) : S12x4096x512.Idx) := by
    refine funext fun x => Fin.ext ?_
    match x with
    | ⟨0, _⟩ => show win1_6.index t 0 * 1 + 1 * 0 = t.val / 8; rw [(idx1_6 t).1]; omega
    | ⟨1, _⟩ => show win1_6.index t 1 * 2048 + 1 * a.val = t.val % 2 * 2048 + a.val; rw [(idx1_6 t).2.1]; omega
    | ⟨2, _⟩ => show win1_6.index t 2 * 128 + 1 * l.val = t.val / 2 % 4 * 128 + l.val; rw [(idx1_6 t).2.2]; omega
  show _ = GO V c (((cfg1.win 6).blk t).view.emb (ix3 0 a l))
  rw [e]
  show _ = attnAt _ _ _ _ _ (bat1 t) (row1 t a) (headOf (hcol (head1 t) l)) ⟨(hcol (head1 t) l).val % 128, by omega⟩
  congr 1
  · exact Fin.ext (show t.val / 2 % 4 = (t.val / 2 % 4 * 128 + l.val) / 128 by omega)
  · exact Fin.ext (show l.val = (t.val / 2 % 4 * 128 + l.val) % 128 by omega)

theorem cover1_6' (i : S12x4096x512.Idx) : ∃ t : Fin cfg1.N, (cfg1.win 6).flush t = true ∧ i ∈ ((cfg1.win 6).blk t).view.set := by
  have h0 : (i 0).val < 12 := (i 0).isLt
  have h1 : (i 1).val < 4096 := (i 1).isLt
  have h2 : (i 2).val < 512 := (i 2).isLt
  have hN : cfg1.N = 96 := N_1
  obtain ⟨t, ht⟩ : ∃ t : Fin cfg1.N, t.val = (i 0).val * 8 + (i 2).val / 128 * 2 + (i 1).val / 2048 :=
    ⟨⟨(i 0).val * 8 + (i 2).val / 128 * 2 + (i 1).val / 2048, by omega⟩, rfl⟩
  refine ⟨t, flush1_6 _, ?_⟩
  show i ∈ ((View.whole main_v55).slice (win1_6.rect t)).set
  rw [View.set_slice_whole, Rect.mem_set_unit]
  intro a
  match a with
  | ⟨0, _⟩ =>
    show win1_6.index t 0 * 1 ≤ (i 0).val ∧ (i 0).val < win1_6.index t 0 * 1 + 1
    rw [(idx1_6 t).1]; omega
  | ⟨1, _⟩ =>
    show win1_6.index t 1 * 2048 ≤ (i 1).val ∧ (i 1).val < win1_6.index t 1 * 2048 + 2048
    rw [(idx1_6 t).2.1]; omega
  | ⟨2, _⟩ =>
    show win1_6.index t 2 * 128 ≤ (i 2).val ∧ (i 2).val < win1_6.index t 2 * 128 + 128
    rw [(idx1_6 t).2.2]; omega

/-- The attention's result, whole. -/
theorem final1_6 (c : Dev nD) : (dat1 V c).arrAt 6 cfg1.N = GO V c :=
  (dat1 V c).arrAt_eq_of_cover 6 (GO V c) (fun t _ => flushed1_6 V c t) cover1_6'

end Cert.KernelIdeal.Blocks

end
-- ==== Proof.AttnHost.lean ====
/-
  What the launch leaves in the arrays the two attention regions find: the rotation tables, the two gains laid side by side,
  the two scalars and the output gain.
-/
module

public import proofs.«01_k».proof.Proof.AttnBlocks
public import Idealize.ShloMosaic.Lib.StableHlo.RunClose
public import proofs.«01_k».proof.Proof.Gen.ReferenceIdeal.Read

@[expose] public section

noncomputable section

open Idealize.ShloMosaic Idealize.ShloMosaic.TcCoe Idealize.SL.Sem Idealize.ShloMosaic.ValueIdx Idealize.ShloMosaic.StableHlo
open scoped BigOperators
open Cert.Attn

namespace Cert.KernelIdeal.HostVals

open Cert.KernelIdeal Cert.KernelIdeal.Gen Cert.KernelIdeal.Prep Cert.KernelIdeal.Blocks

variable (m : (ℓ : Loc nD τ sig) → Buf (Elt Ideal) ℓ) (ρ : Dev nD → PrngReg)

/-- Cosines and sines of the angles: position, frequency. -/
def co (s : Fin 4096) (d : Fin 8) : EReal := (Cert.ReferenceIdeal.Read.val_main_v17 (F := Ideal)) (ix2 s d)
def si (s : Fin 4096) (d : Fin 8) : EReal := (Cert.ReferenceIdeal.Read.val_main_v18 (F := Ideal)) (ix2 s d)

/-- Three pieces side by side, of widths 8, 8 and 48. -/
def three (x y : Vec Ideal S4096x8 .f32) (z : Vec Ideal S4096x48 .f32) : Vec Ideal S4096x64 .f32 :=
  concatenate S4096x64 1 [⟨S4096x8, x⟩, ⟨S4096x8, y⟩, ⟨S4096x48, z⟩] concatenates_S4096x8_S4096x8_S4096x48_S4096x64_d1
/-- A table twice over, side by side. -/
def twice (x : Vec Ideal S4096x64 .f32) : Vec Ideal S4096x128 .f32 :=
  concatenate S4096x128 1 [⟨S4096x64, x⟩, ⟨S4096x64, x⟩] concatenates_S4096x64_S4096x64_S4096x128_d1

theorem twice_apply (x : Vec Ideal S4096x64 .f32) (s : Fin 4096) (k : Fin 2) (d : Fin 64) :
    twice x (ix2 s (lane k d)) = x (ix2 s d) := by
  have hk : k.val = 0 ∨ k.val = 1 := by omega
  unfold twice
  rcases hk with hk | hk
  · refine concatenate_pair_apply_left (t := S4096x128) (s₁ := S4096x64) (s₂ := S4096x64) 1 x x _ (ix2 s (lane k d)) rfl (ix2 s d) fun b => ?_
    match b with
    | ⟨0, _⟩ => rfl
    | ⟨1, _⟩ => show d.val = 64 * k.val + d.val; omega
  · refine concatenate_pair_apply_right (t := S4096x128) (s₁ := S4096x64) (s₂ := S4096x64) 1 x x _ (ix2 s (lane k d)) rfl rfl (ix2 s d) (fun b hb => ?_) ?_
    · match b with
      | ⟨0, _⟩ => rfl
      | ⟨1, _⟩ => exact absurd rfl hb
    · show d.val + 64 = 64 * k.val + d.val; omega

theorem three_apply (x y : Vec Ideal S4096x8 .f32) (z : Vec Ideal S4096x48 .f32) (s : Fin 4096) (d : Fin 64) :
    three x y z (ix2 s d) = if h : d.val < 8 then x (ix2 s ⟨d.val, h⟩)
      else if h' : d.val < 16 then y (ix2 s ⟨d.val - 8, by omega⟩) else z (ix2 s ⟨d.val - 16, by omega⟩) := by
  unfold three
  by_cases h : d.val < 8
  · rw [dif_pos h]
    refine concatenate_apply_piece (t := S4096x64) 1 [⟨S4096x8, x⟩, ⟨S4096x8, y⟩, ⟨S4096x48, z⟩] _ _ 0 (show 0 < 3 by decide) S4096x8 x rfl rfl 0 rfl _ (fun b hb => ?_) ?_
    · match b with
      | ⟨0, _⟩ => rfl
      | ⟨1, _⟩ => exact absurd rfl hb
    · show 0 + d.val = d.val; omega
  rw [dif_neg h]
  by_cases h' : d.val < 16
  · rw [dif_pos h']
    refine concatenate_apply_piece (t := S4096x64) 1 [⟨S4096x8, x⟩, ⟨S4096x8, y⟩, ⟨S4096x48, z⟩] _ _ 1 (show 1 < 3 by decide) S4096x8 y rfl rfl 8 rfl _ (fun b hb => ?_) ?_
    · match b with
      | ⟨0, _⟩ => rfl
      | ⟨1, _⟩ => exact absurd rfl hb
    · show 8 + (d.val - 8) = d.val; omega
  · rw [dif_neg h']
    refine concatenate_apply_piece (t := S4096x64) 1 [⟨S4096x8, x⟩, ⟨S4096x8, y⟩, ⟨S4096x48, z⟩] _ _ 2 (show 2 < 3 by decide) S4096x48 z rfl rfl 16 rfl _ (fun b hb => ?_) ?_
    · match b with
      | ⟨0, _⟩ => rfl
      | ⟨1, _⟩ => exact absurd rfl hb
    · show 16 + (d.val - 16) = d.val; omega

/-- The constant tables. -/
def ones : Vec Ideal S4096x48 .f32 := broadcastInDim S4096x48 ![] bcast_S_S4096x48 (constant (F := Ideal) S_ .f32 0x3F800000#32)
def zeros48 : Vec Ideal S4096x48 .f32 := broadcastInDim S4096x48 ![] bcast_S_S4096x48 (constant (F := Ideal) S_ .f32 0x00000000#32)
def zeros8 : Vec Ideal S4096x8 .f32 := broadcastInDim S4096x8 ![] bcast_S_S4096x8 (constant (F := Ideal) S_ .f32 0x00000000#32)
def C : Vec Ideal S4096x8 .f32 := Cert.ReferenceIdeal.Read.val_main_v17 (F := Ideal)
/-- The cosines, and the sines, as arrays. -/
def S : Vec Ideal S4096x8 .f32 := Cert.ReferenceIdeal.Read.val_main_v18 (F := Ideal)

def negS : Vec Ideal S4096x8 .f32 := Host.negf (F := Ideal) (φ := .f32) S

theorem V1_v26 (c : Dev nD) : (V1 m ρ c main_v26 : Vec Ideal S4096x128 .f32) = twice (three C C ones) := by
  show StableHlo.after hostOps0 _ _ = _
  after_results_entrywise (rounds := 1) []
theorem V1_v27 (c : Dev nD) : (V1 m ρ c main_v27 : Vec Ideal S4096x128 .f32) = twice (three zeros8 S zeros48) := by
  show StableHlo.after hostOps0 _ _ = _
  after_results_entrywise (rounds := 1) []
theorem V1_v28 (c : Dev nD) : (V1 m ρ c main_v28 : Vec Ideal S4096x128 .f32) = twice (three (negS) zeros8 zeros48) := by
  show StableHlo.after hostOps0 _ _ = _
  after_results_entrywise (rounds := 1) []

theorem ones_apply (i : S4096x48.Idx) : ones i = 1 :=
  (broadcastInDim_scalar_apply _ _ _).trans Ideal.ofBits_one_f32
theorem zeros48_apply (i : S4096x48.Idx) : zeros48 i = 0 :=
  (broadcastInDim_scalar_apply _ _ _).trans Ideal.ofBits_zero_f32
theorem zeros8_apply (i : S4096x8.Idx) : zeros8 i = 0 :=
  (broadcastInDim_scalar_apply _ _ _).trans Ideal.ofBits_zero_f32

theorem tables (c : Dev nD) : Tables (V1 m ρ) c co si where
  cos s k d := by
    rw [V1_v26, twice_apply, three_apply]
    simp only [ones_apply]
    rfl
  lo s k d := by
    rw [V1_v27, twice_apply, three_apply]
    simp only [zeros48_apply, zeros8_apply]
    rfl
  hi s k d := by
    rw [V1_v28, twice_apply, three_apply]
    simp only [zeros48_apply, zeros8_apply]
    unfold tabHi
    split
    · rfl
    · split <;> rfl

/-- The gains of the two components, side by side in one row. -/
theorem gains_apply (x : Vec Ideal S2x64 .f32) (k : Fin 2) (e : Fin 64) :
    shapeCast S1x128 x shapeCasts_S2x64_S1x128 (ix2 0 (lane k e)) = x (ix2 k e) := by
  refine shapeCast_apply _ _ _ _ ?_
  rw [Shape.rowMajor_val_two, Shape.rowMajor_val_two]
  show k.val * 64 + e.val = 0 * 128 + (64 * k.val + e.val)
  omega
theorem V1_v44 (c : Dev nD) (k : Fin 2) (e : Fin 64) : (V1 m ρ c main_v44 : Vec Ideal S1x128 .f32) (ix2 0 (lane k e))
    = (m ((c : Thread nD τ).loc main_arg1) : Vec Ideal S2x64 .f32) (ix2 k e) := by
  have h : (V1 m ρ c main_v44 : Vec Ideal S1x128 .f32) = shapeCast S1x128 (m ((c : Thread nD τ).loc main_arg1) : Vec Ideal S2x64 .f32) shapeCasts_S2x64_S1x128 := by
    show StableHlo.after hostOps0 _ _ = _
    after_results_simp <;> rfl
  rw [h]
  exact gains_apply _ k e
theorem V1_v45 (c : Dev nD) (k : Fin 2) (e : Fin 64) : (V1 m ρ c main_v45 : Vec Ideal S1x128 .f32) (ix2 0 (lane k e))
    = (m ((c : Thread nD τ).loc main_arg2) : Vec Ideal S2x64 .f32) (ix2 k e) := by
  have h : (V1 m ρ c main_v45 : Vec Ideal S1x128 .f32) = shapeCast S1x128 (m ((c : Thread nD τ).loc main_arg2) : Vec Ideal S2x64 .f32) shapeCasts_S2x64_S1x128 := by
    show StableHlo.after hostOps0 _ _ = _
    after_results_simp <;> rfl
  rw [h]
  exact gains_apply _ k e

theorem V1_arg0 (c : Dev nD) : V1 m ρ c main_arg0 = m ((c : Thread nD τ).loc main_arg0) := W1_args m ρ c main_arg0 (by decide)
theorem V3_arg0 (c : Dev nD) : V3 m ρ c main_arg0 = m ((c : Thread nD τ).loc main_arg0) := W3_args m ρ c main_arg0 (by decide)

theorem V3_q (c : Dev nD) : V3 m ρ c main_v46_0 = (dat0 (V1 m ρ) c).arrAt 7 cfg0.N :=
  (W3_of m ρ c main_v46_0 (by decide)).trans (W2_arr m ρ c 7)
theorem V3_k (c : Dev nD) : V3 m ρ c main_v46_1 = (dat0 (V1 m ρ) c).arrAt 8 cfg0.N :=
  (W3_of m ρ c main_v46_1 (by decide)).trans (W2_arr m ρ c 8)

/-- The output gain as a row. -/
theorem V3_v54 (c : Dev nD) (l : Fin 128) : (V3 m ρ c main_v54 : Vec Ideal S1x128 .f32) (ix2 0 l)
    = (m ((c : Thread nD τ).loc main_arg5) : Vec Ideal S128 .f32) (ix1 l) := by
  have h : (V3 m ρ c main_v54 : Vec Ideal S1x128 .f32) = broadcastInDim S1x128 ![1] bcast_S128_S1x128_1 (W2 m ρ c (Proc.devRef .tc main_arg5) : Vec Ideal S128 .f32) := by
    show StableHlo.after hostOps1 _ _ = _
    after_results_simp <;> rfl
  rw [h, W2_args m ρ c main_arg5 (by decide)]
  refine broadcastInDim_apply (s := S128) (t := S1x128) ![1] _ _ (ix2 0 l) (ix1 l) fun a => ?_
  match a with
  | ⟨0, _⟩ => rfl

/-- The weight of the second component as the reference computes it. -/
abbrev lam (c : Dev nD) : Vec Ideal S_ .f32 := Cert.ReferenceIdeal.Read.val_main_v43 (F := Ideal)
  (m ((c : Thread nD τ).loc main_arg3)) (m ((c : Thread nD τ).loc main_arg4))

theorem W2_v43 (c : Dev nD) : (W2 m ρ c (Proc.devRef .tc main_v43) : Vec Ideal S_ .f32)
    = Cert.ReferenceIdeal.Read.val_main_v41 (F := Ideal) (m ((c : Thread nD τ).loc main_arg3)) := by
  rw [W2_of m ρ c main_v43 (by decide)]
  show StableHlo.after hostOps0 _ _ = _
  after_results_entrywise (rounds := 1) []

/-- Two one-word arrays end to end. -/
def pair (x y : Vec Ideal S1 .f32) : Vec Ideal S2 .f32 :=
  concatenate S2 0 [⟨S1, x⟩, ⟨S1, y⟩] concatenates_S1_S1_S2_d0

/-- The two scalars. -/
theorem V3_v53 (c : Dev nD) : (V3 m ρ c main_v53 : Vec Ideal S2 .f32)
    = pair (broadcastInDim S1 ![] bcast_S_S1 (lam m c))
        (broadcastInDim S1 ![] bcast_S_S1 (Cert.ReferenceIdeal.Read.val_main_v143 (F := Ideal) (m ((c : Thread nD τ).loc main_arg4)))) := by
  have e4 := W2_args m ρ c main_arg4 (by decide)
  have e43 := W2_v43 m ρ c
  show StableHlo.after hostOps1 (W2 m ρ c) _ = _
  generalize W2 m ρ c = W at e4 e43 ⊢
  simp only [StableHlo.after_cons, StableHlo.after_nil]
  rw [StableHlo.unary_result_ne _ _ _ _ _ _ (by decide), StableHlo.binary_result]
  refine congrArg₂ pair ?_ ?_
  · after_results_simp
    rw [e4, e43]
    rfl
  · after_results_simp
    rw [e4]
    rfl

theorem V3_scal0 (c : Dev nD) : (V3 m ρ c main_v53 : Vec Ideal S2 .f32) (ix1 0) = lam m c ix0 := by
  rw [V3_v53]
  unfold pair
  refine (concatenate_pair_apply_left (t := S2) (s₁ := S1) (s₂ := S1) 0 _ _ _ (ix1 0) rfl (ix1 0) fun b => ?_).trans
    (broadcastInDim_scalar_apply _ _ _)
  match b with
  | ⟨0, _⟩ => rfl
theorem V3_scal1 (c : Dev nD) : (V3 m ρ c main_v53 : Vec Ideal S2 .f32) (ix1 1)
    = Cert.ReferenceIdeal.Read.val_main_v143 (F := Ideal) (m ((c : Thread nD τ).loc main_arg4)) ix0 := by
  rw [V3_v53]
  unfold pair
  refine (concatenate_pair_apply_right (t := S2) (s₁ := S1) (s₂ := S1) 0 _ _ _ (ix1 1) rfl rfl (ix1 0) (fun b hb => ?_) ?_).trans
    (broadcastInDim_scalar_apply _ _ _)
  · match b with
    | ⟨0, _⟩ => exact absurd rfl hb
  · rfl

end Cert.KernelIdeal.HostVals

end
-- ==== Proof.AttnRef.lean ====
/-
  The reference of the attention read at an index: normed and rotated queries and keys, the difference of two softmax-weighted
  means of the values, its normalisation and its gate.
-/
module

public import proofs.«01_k».proof.Proof.AttnHost

@[expose] public section

noncomputable section

open Idealize.ShloMosaic Idealize.ShloMosaic.TcCoe Idealize.SL.Sem Idealize.ShloMosaic.ValueIdx
open scoped BigOperators
open Cert.Attn

namespace Cert.ReferenceIdeal.Attended

open Cert.ReferenceIdeal Cert.ReferenceIdeal.Read
open Cert.KernelIdeal.Blocks (xcol hcol headOf RealCols)
open Cert.KernelIdeal.Prep (lane)
open Cert.KernelIdeal.HostVals (co si)

variable (x0 : Vec Ideal S12x4096x9728 .bf16) (x1 x2 : Vec Ideal S2x64 .f32) (x3 : Vec Ideal S4x64 .f32) (x4 : Vec Ideal S1 .f32)
  (x5 : Vec Ideal S128 .f32)

/-- A row of 64 of the projection, from column `o` on: head `h`, component `k`. -/
def raw (o : ℕ) (ho : o ≤ 9216) (b : Fin 12) (s : Fin 4096) (h : Fin 4) (k : Fin 2) (e : Fin 64) : EReal :=
  x0 (ix3 b s (xcol o ho h (lane k e)))

/-- The row normed by its gain and rotated. -/
def row (g : Vec Ideal S2x64 .f32) (o : ℕ) (ho : o ≤ 9216) (b : Fin 12) (s : Fin 4096) (h : Fin 4) (k : Fin 2) : Fin 64 → EReal :=
  rope (nrm (raw x0 o ho b s h k) (fun e => g (ix2 k e))) (co s) (si s)

/-- The index of the flat column of a lane. -/
theorem col_eq (o : ℕ) (ho : o ≤ 9216) (b : Fin 12) (s : Fin 4096) (h : Fin 4) (k : Fin 2) (e : Fin 64) (i : S12x4096x9728.Idx)
    (h0 : (i 0).val = b.val) (h1 : (i 1).val = s.val) (h2 : (i 2).val = o + (h.val * 128 + (64 * k.val + e.val))) :
    i = ix3 b s (xcol o ho h (lane k e)) := by
  funext a
  apply Fin.ext
  match a with
  | ⟨0, _⟩ => exact h0
  | ⟨1, _⟩ => exact h1
  | ⟨2, _⟩ => exact h2

/-- Three pieces side by side along the last axis, of widths 8, 8 and 48. -/
theorem three_apply (x y : Vec Ideal S12x4096x4x2x8 .f32) (z : Vec Ideal S12x4096x4x2x48 .f32) (b : Fin 12) (s : Fin 4096) (h : Fin 4)
    (k : Fin 2) (d : Fin 64) :
    concatenate S12x4096x4x2x64 4 [⟨S12x4096x4x2x8, x⟩, ⟨S12x4096x4x2x8, y⟩, ⟨S12x4096x4x2x48, z⟩]
      Cert.ReferenceIdeal.Gen.concatenates_S12x4096x4x2x8_S12x4096x4x2x8_S12x4096x4x2x48_S12x4096x4x2x64_d4 (ix5 b s h k d)
      = if hd : d.val < 8 then x (ix5 b s h k ⟨d.val, hd⟩)
        else if hd' : d.val < 16 then y (ix5 b s h k ⟨d.val - 8, by omega⟩) else z (ix5 b s h k ⟨d.val - 16, by omega⟩) := by
  by_cases hd : d.val < 8
  · rw [dif_pos hd]
    refine concatenate_apply_piece (t := S12x4096x4x2x64) 4 [⟨S12x4096x4x2x8, x⟩, ⟨S12x4096x4x2x8, y⟩, ⟨S12x4096x4x2x48, z⟩] _ _
      0 (show 0 < 3 by decide) S12x4096x4x2x8 x rfl rfl 0 rfl _ (fun c hc => ?_) ?_
    · match c with
      | ⟨0, _⟩ => rfl
      | ⟨1, _⟩ => rfl
      | ⟨2, _⟩ => rfl
      | ⟨3, _⟩ => rfl
      | ⟨4, _⟩ => exact absurd rfl hc
    · show 0 + d.val = d.val; omega
  rw [dif_neg hd]
  by_cases hd' : d.val < 16
  · rw [dif_pos hd']
    refine concatenate_apply_piece (t := S12x4096x4x2x64) 4 [⟨S12x4096x4x2x8, x⟩, ⟨S12x4096x4x2x8, y⟩, ⟨S12x4096x4x2x48, z⟩] _ _
      1 (show 1 < 3 by decide) S12x4096x4x2x8 y rfl rfl 8 rfl _ (fun c hc => ?_) ?_
    · match c with
      | ⟨0, _⟩ => rfl
      | ⟨1, _⟩ => rfl
      | ⟨2, _⟩ => rfl
      | ⟨3, _⟩ => rfl
      | ⟨4, _⟩ => exact absurd rfl hc
    · show 8 + (d.val - 8) = d.val; omega
  · rw [dif_neg hd']
    refine concatenate_apply_piece (t := S12x4096x4x2x64) 4 [⟨S12x4096x4x2x8, x⟩, ⟨S12x4096x4x2x8, y⟩, ⟨S12x4096x4x2x48, z⟩] _ _
      2 (show 2 < 3 by decide) S12x4096x4x2x48 z rfl rfl 16 rfl _ (fun c hc => ?_) ?_
    · match c with
      | ⟨0, _⟩ => rfl
      | ⟨1, _⟩ => rfl
      | ⟨2, _⟩ => rfl
      | ⟨3, _⟩ => rfl
      | ⟨4, _⟩ => exact absurd rfl hc
    · show 16 + (d.val - 16) = d.val; omega

/-! ## The queries -/

theorem val_main_v44_at (b : Fin 12) (s : Fin 4096) (h : Fin 4) (k : Fin 2) (e : Fin 64) :
    val_main_v44 (F := Ideal) x0 (ix5 b s h k e) = raw x0 7680 (by omega) b s h k e := by
  rw [val_main_v44_apply, val_main_v20_apply, val_main_v19_apply]
  refine congrArg x0 (col_eq 7680 _ b s h k e _ ?_ ?_ ?_)
  · show ((((b.val * 4096 + s.val) * 4 + h.val) * 2 + k.val) * 64 + e.val) / 2097152 = b.val; omega
  · show ((((b.val * 4096 + s.val) * 4 + h.val) * 2 + k.val) * 64 + e.val) / 512 % 4096 = s.val; omega
  · show 7680 + ((((b.val * 4096 + s.val) * 4 + h.val) * 2 + k.val) * 64 + e.val) % 512 = 7680 + (h.val * 128 + (64 * k.val + e.val)); omega

theorem val_main_v46_at (b : Fin 12) (s : Fin 4096) (h : Fin 4) (k : Fin 2) :
    val_main_v46 (F := Ideal) x0 (ix4 b s h k) = ∑ e, raw x0 7680 (by omega) b s h k e * raw x0 7680 (by omega) b s h k e := by
  rw [val_main_v46_apply, val_main_cst_6_apply, Ideal.ofBits_def, Ideal.ofBits_zero_f32, zero_add]
  refine Finset.sum_congr rfl fun e _ => ?_
  rw [show idx_main_v46 (ix4 b s h k) e = ix5 b s h k e from (eq_ix5 _).trans rfl, val_main_v45_apply, val_main_v44_at]
  rfl

theorem val_main_v57_at (b : Fin 12) (s : Fin 4096) (h : Fin 4) (k : Fin 2) (e : Fin 64) :
    val_main_v57 (F := Ideal) x0 x1 (ix5 b s h k e) = nrm (raw x0 7680 (by omega) b s h k) (fun e => x1 (ix2 k e)) e := by
  rw [val_main_v57_apply, val_main_v54_apply, val_main_v53_apply, val_main_v52_apply, val_main_v51_apply, val_main_v49_apply, val_main_v47_apply, val_main_v48_apply, val_main_v50_apply,
    val_main_cst_7_apply, val_main_cst_8_apply, val_main_v56_apply, val_main_v55_apply, val_main_v44_at,
    show idx_main_v47 (idx_main_v53 (ix5 b s h k e)) = ix4 b s h k from (eq_ix4 _).trans rfl, val_main_v46_at,
    show idx_main_v55 (idx_main_v56 (ix5 b s h k e)) = ix2 k e from (eq_ix2 _).trans rfl]
  unfold nrm eps
  rw [← ofBits_64]
  rfl

theorem val_main_v66_at (b : Fin 12) (s : Fin 4096) (h : Fin 4) (k : Fin 2) (d : Fin 8) :
    val_main_v66 (F := Ideal) x0 x1 (ix5 b s h k d) = val_main_v57 (F := Ideal) x0 x1 (ix5 b s h k ⟨d.val, by omega⟩) * co s d
      - val_main_v57 (F := Ideal) x0 x1 (ix5 b s h k ⟨8 + d.val, by omega⟩) * si s d := by
  rw [val_main_v66_apply, val_main_v63_apply, val_main_v65_apply, val_main_v60_apply, val_main_v61_apply, val_main_v62_apply, val_main_v64_apply, val_main_v58_apply, val_main_v59_apply,
    show idx_main_v60 (ix5 b s h k d) = ix5 b s h k ⟨d.val, by omega⟩ from (eq_ix5 _).trans rfl,
    show idx_main_v61 (ix5 b s h k d) = ix5 b s h k ⟨8 + d.val, by omega⟩ from (eq_ix5 _).trans rfl,
    show idx_main_v58 (idx_main_v62 (ix5 b s h k d)) = ix2 s d from (eq_ix2 _).trans rfl,
    show idx_main_v59 (idx_main_v64 (ix5 b s h k d)) = ix2 s d from (eq_ix2 _).trans rfl]
  rfl

theorem val_main_v71_at (b : Fin 12) (s : Fin 4096) (h : Fin 4) (k : Fin 2) (d : Fin 8) :
    val_main_v71 (F := Ideal) x0 x1 (ix5 b s h k d) = val_main_v57 (F := Ideal) x0 x1 (ix5 b s h k ⟨8 + d.val, by omega⟩) * co s d
      + val_main_v57 (F := Ideal) x0 x1 (ix5 b s h k ⟨d.val, by omega⟩) * si s d := by
  rw [val_main_v71_apply, val_main_v68_apply, val_main_v70_apply, val_main_v60_apply, val_main_v61_apply, val_main_v67_apply, val_main_v69_apply, val_main_v58_apply, val_main_v59_apply,
    show idx_main_v60 (ix5 b s h k d) = ix5 b s h k ⟨d.val, by omega⟩ from (eq_ix5 _).trans rfl,
    show idx_main_v61 (ix5 b s h k d) = ix5 b s h k ⟨8 + d.val, by omega⟩ from (eq_ix5 _).trans rfl,
    show idx_main_v58 (idx_main_v67 (ix5 b s h k d)) = ix2 s d from (eq_ix2 _).trans rfl,
    show idx_main_v59 (idx_main_v69 (ix5 b s h k d)) = ix2 s d from (eq_ix2 _).trans rfl]
  rfl

theorem val_main_v73_at (b : Fin 12) (s : Fin 4096) (h : Fin 4) (k : Fin 2) (d : Fin 64) :
    val_main_v73 (F := Ideal) x0 x1 (ix5 b s h k d) = row x0 x1 7680 (by omega) b s h k d := by
  unfold val_main_v73 row rope
  rw [three_apply]
  by_cases hd : d.val < 8
  · rw [dif_pos hd, dif_pos hd, val_main_v66_at, val_main_v57_at, val_main_v57_at]
    simp only [Nat.add_comm 8]
  rw [dif_neg hd, dif_neg hd]
  by_cases hd' : d.val < 16
  · rw [dif_pos hd', dif_pos hd', val_main_v71_at, val_main_v57_at, val_main_v57_at]
    rw [show (⟨8 + (⟨d.val - 8, by omega⟩ : Fin 8).val, by omega⟩ : Fin 64) = d from Fin.ext (show 8 + (d.val - 8) = d.val by omega)]
  · rw [dif_neg hd', dif_neg hd', val_main_v72_apply,
      show idx_main_v72 (ix5 b s h k ⟨d.val - 16, by omega⟩) = ix5 b s h k d from (eq_ix5 _).trans
        (congrArg (ix5 b s h k) (Fin.ext (show 16 + (d.val - 16) = d.val by omega))), val_main_v57_at]

/-! ## The keys -/

theorem val_main_v76_at (b : Fin 12) (s : Fin 4096) (h : Fin 4) (k : Fin 2) (e : Fin 64) :
    val_main_v76 (F := Ideal) x0 (ix5 b s h k e) = raw x0 8192 (by omega) b s h k e := by
  rw [val_main_v76_apply, val_main_v22_apply, val_main_v21_apply]
  refine congrArg x0 (col_eq 8192 _ b s h k e _ ?_ ?_ ?_)
  · show ((((b.val * 4096 + s.val) * 4 + h.val) * 2 + k.val) * 64 + e.val) / 2097152 = b.val; omega
  · show ((((b.val * 4096 + s.val) * 4 + h.val) * 2 + k.val) * 64 + e.val) / 512 % 4096 = s.val; omega
  · show 8192 + ((((b.val * 4096 + s.val) * 4 + h.val) * 2 + k.val) * 64 + e.val) % 512 = 8192 + (h.val * 128 + (64 * k.val + e.val)); omega

theorem val_main_v78_at (b : Fin 12) (s : Fin 4096) (h : Fin 4) (k : Fin 2) :
    val_main_v78 (F := Ideal) x0 (ix4 b s h k) = ∑ e, raw x0 8192 (by omega) b s h k e * raw x0 8192 (by omega) b s h k e := by
  rw [val_main_v78_apply, val_main_cst_10_apply, Ideal.ofBits_def, Ideal.ofBits_zero_f32, zero_add]
  refine Finset.sum_congr rfl fun e _ => ?_
  rw [show idx_main_v78 (ix4 b s h k) e = ix5 b s h k e from (eq_ix5 _).trans rfl, val_main_v77_apply, val_main_v76_at]
  rfl

theorem val_main_v89_at (b : Fin 12) (s : Fin 4096) (h : Fin 4) (k : Fin 2) (e : Fin 64) :
    val_main_v89 (F := Ideal) x0 x2 (ix5 b s h k e) = nrm (raw x0 8192 (by omega) b s h k) (fun e => x2 (ix2 k e)) e := by
  rw [val_main_v89_apply, val_main_v86_apply, val_main_v85_apply, val_main_v84_apply, val_main_v83_apply, val_main_v81_apply, val_main_v79_apply, val_main_v80_apply, val_main_v82_apply,
    val_main_cst_11_apply, val_main_cst_12_apply, val_main_v88_apply, val_main_v87_apply, val_main_v76_at,
    show idx_main_v79 (idx_main_v85 (ix5 b s h k e)) = ix4 b s h k from (eq_ix4 _).trans rfl, val_main_v78_at,
    show idx_main_v87 (idx_main_v88 (ix5 b s h k e)) = ix2 k e from (eq_ix2 _).trans rfl]
  unfold nrm eps
  rw [← ofBits_64]
  rfl

theorem val_main_v98_at (b : Fin 12) (s : Fin 4096) (h : Fin 4) (k : Fin 2) (d : Fin 8) :
    val_main_v98 (F := Ideal) x0 x2 (ix5 b s h k d) = val_main_v89 (F := Ideal) x0 x2 (ix5 b s h k ⟨d.val, by omega⟩) * co s d
      - val_main_v89 (F := Ideal) x0 x2 (ix5 b s h k ⟨8 + d.val, by omega⟩) * si s d := by
  rw [val_main_v98_apply, val_main_v95_apply, val_main_v97_apply, val_main_v92_apply, val_main_v93_apply, val_main_v94_apply, val_main_v96_apply, val_main_v90_apply, val_main_v91_apply,
    show idx_main_v92 (ix5 b s h k d) = ix5 b s h k ⟨d.val, by omega⟩ from (eq_ix5 _).trans rfl,
    show idx_main_v93 (ix5 b s h k d) = ix5 b s h k ⟨8 + d.val, by omega⟩ from (eq_ix5 _).trans rfl,
    show idx_main_v90 (idx_main_v94 (ix5 b s h k d)) = ix2 s d from (eq_ix2 _).trans rfl,
    show idx_main_v91 (idx_main_v96 (ix5 b s h k d)) = ix2 s d from (eq_ix2 _).trans rfl]
  rfl

theorem val_main_v103_at (b : Fin 12) (s : Fin 4096) (h : Fin 4) (k : Fin 2) (d : Fin 8) :
    val_main_v103 (F := Ideal) x0 x2 (ix5 b s h k d) = val_main_v89 (F := Ideal) x0 x2 (ix5 b s h k ⟨8 + d.val, by omega⟩) * co s d
      + val_main_v89 (F := Ideal) x0 x2 (ix5 b s h k ⟨d.val, by omega⟩) * si s d := by
  rw [val_main_v103_apply, val_main_v100_apply, val_main_v102_apply, val_main_v92_apply, val_main_v93_apply, val_main_v99_apply, val_main_v101_apply, val_main_v90_apply, val_main_v91_apply,
    show idx_main_v92 (ix5 b s h k d) = ix5 b s h k ⟨d.val, by omega⟩ from (eq_ix5 _).trans rfl,
    show idx_main_v93 (ix5 b s h k d) = ix5 b s h k ⟨8 + d.val, by omega⟩ from (eq_ix5 _).trans rfl,
    show idx_main_v90 (idx_main_v99 (ix5 b s h k d)) = ix2 s d from (eq_ix2 _).trans rfl,
    show idx_main_v91 (idx_main_v101 (ix5 b s h k d)) = ix2 s d from (eq_ix2 _).trans rfl]
  rfl

theorem val_main_v105_at (b : Fin 12) (s : Fin 4096) (h : Fin 4) (k : Fin 2) (d : Fin 64) :
    val_main_v105 (F := Ideal) x0 x2 (ix5 b s h k d) = row x0 x2 8192 (by omega) b s h k d := by
  unfold val_main_v105 row rope
  rw [three_apply]
  by_cases hd : d.val < 8
  · rw [dif_pos hd, dif_pos hd, val_main_v98_at, val_main_v89_at, val_main_v89_at]
    simp only [Nat.add_comm 8]
  rw [dif_neg hd, dif_neg hd]
  by_cases hd' : d.val < 16
  · rw [dif_pos hd', dif_pos hd', val_main_v103_at, val_main_v89_at, val_main_v89_at]
    rw [show (⟨8 + (⟨d.val - 8, by omega⟩ : Fin 8).val, by omega⟩ : Fin 64) = d from Fin.ext (show 8 + (d.val - 8) = d.val by omega)]
  · rw [dif_neg hd', dif_neg hd', val_main_v104_apply,
      show idx_main_v104 (ix5 b s h k ⟨d.val - 16, by omega⟩) = ix5 b s h k d from (eq_ix5 _).trans
        (congrArg (ix5 b s h k) (Fin.ext (show 16 + (d.val - 16) = d.val by omega))), val_main_v89_at]

/-! ## The scores and the weights -/

theorem val_main_v75_at (b : Fin 12) (s : Fin 4096) (h : Fin 4) (k : Fin 2) (d : Fin 64) :
    val_main_v75 (F := Ideal) x0 x1 (ix5 b s h k d) = row x0 x1 7680 (by omega) b s h k d * ((8⁻¹ : ℝ) : EReal) := by
  rw [val_main_v75_apply, val_main_v73_at, val_main_v74_apply, val_main_cst_9_apply, ← ofBits_eighth]
  rfl

/-- The score of query `s` and key `j`. -/
def sc (b : Fin 12) (h : Fin 4) (k : Fin 2) (s j : Fin 4096) : ℝ :=
  scoreR (row x0 x1 7680 (by omega) b s h k) (row x0 x2 8192 (by omega) b j h k)

theorem val_main_v107_at (b : Fin 12) (h : Fin 4) (k : Fin 2) (s j : Fin 4096) :
    val_main_v107 (F := Ideal) x0 x1 x2 (ix5 b h k s j)
      = score ((8⁻¹ : ℝ) : EReal) (row x0 x1 7680 (by omega) b s h k) (row x0 x2 8192 (by omega) b j h k) := by
  rw [val_main_v107_apply]
  unfold score
  refine Finset.sum_congr rfl fun d _ => ?_
  rw [show lidx_main_v107 (ix5 b h k s j) d = ix5 b s h k d from (eq_ix5 _).trans rfl,
    show ridx_main_v107 (ix5 b h k s j) d = ix5 b j h k d from (eq_ix5 _).trans rfl, val_main_v75_at, val_main_v105_at]

section Real
variable (hx : RealCols x0) (h1 : ∀ k e, IsReal (x1 (ix2 k e))) (h2 : ∀ k e, IsReal (x2 (ix2 k e)))
variable (hc : ∀ s d, IsReal (co s d)) (hs : ∀ s d, IsReal (si s d))
include hx hc hs

theorem isReal_row {g : Vec Ideal S2x64 .f32} (hg : ∀ k e, IsReal (g (ix2 k e))) (o : ℕ) (ho : o ≤ 9216) (hl : 7680 ≤ o) (hu : o ≤ 8704)
    (b : Fin 12) (s : Fin 4096) (h : Fin 4) (k : Fin 2) (d : Fin 64) : IsReal (row x0 g o ho b s h k d) :=
  isReal_rope (isReal_nrm (fun e => hx o ho hl hu b s h (lane k e)) (hg k)) (hc s) (hs s) d

include h1 h2

theorem val_main_v107_real (b : Fin 12) (h : Fin 4) (k : Fin 2) (s j : Fin 4096) :
    val_main_v107 (F := Ideal) x0 x1 x2 (ix5 b h k s j) = ((sc x0 x1 x2 b h k s j : ℝ) : EReal) := by
  rw [val_main_v107_at, score_eighth (isReal_row x0 hx hc hs h1 _ _ (by omega) (by omega) b s h k)
    (isReal_row x0 hx hc hs h2 _ _ (by omega) (by omega) b j h k)]
  rfl

theorem val_main_v110_real (b : Fin 12) (h : Fin 4) (k : Fin 2) (s : Fin 4096) :
    IsReal (val_main_v110 (F := Ideal) x0 x1 x2 (ix4 b h k s)) := by
  have e : val_main_v108 (F := Ideal) x0 x1 x2 (ix4 b h k s)
      = Finset.univ.fold max ⊥ (fun j : Fin 4096 => ((sc x0 x1 x2 b h k s j : ℝ) : EReal)) := by
    unfold val_main_v108
    rw [Host.reduce_eq_fold_single FloatOps.maximumf _ _ _ (by decide : S12x4x2x4096x4096.Reduces [4] S12x4x2x4096) _ _]
    rw [val_main_cst_13_apply, Ideal.ofBits_def, ofBits_neg_inf]
    refine congrArg (fun f => Finset.fold max ⊥ f (Finset.univ : Finset (Fin 4096))) (funext fun j => ?_)
    refine Eq.trans ?_ (val_main_v107_real x0 x1 x2 hx h1 h2 hc hs b h k s j)
    exact congrArg (val_main_v107 (F := Ideal) x0 x1 x2) ((eq_ix5 _).trans rfl)
  rw [val_main_v110_apply, val_main_v109_apply, val_main_cst_14_apply, Ideal.ofBits_def, ofBits_neg_inf, Ideal.maximumf_def, e,
    max_eq_right bot_le]
  exact isReal_fold_max (by omega) _ fun j => isReal_coe _

/-- The number subtracted from a row's scores. -/
def mx (b : Fin 12) (h : Fin 4) (k : Fin 2) (s : Fin 4096) : EReal := val_main_v110 (F := Ideal) x0 x1 x2 (ix4 b h k s)

omit hx h1 h2 hc hs in
theorem val_main_v112_at (b : Fin 12) (h : Fin 4) (k : Fin 2) (s j : Fin 4096) :
    val_main_v112 (F := Ideal) x0 x1 x2 (ix5 b h k s j) = mx x0 x1 x2 b h k s := by
  rw [val_main_v112_apply, val_main_v111_apply,
    show idx_main_v111 (idx_main_v112 (ix5 b h k s j)) = ix4 b h k s from (eq_ix4 _).trans rfl]
  rfl

theorem val_main_v114_at (b : Fin 12) (h : Fin 4) (k : Fin 2) (s j : Fin 4096) :
    val_main_v114 (F := Ideal) x0 x1 x2 (ix5 b h k s j)
      = Ideal.exp (((sc x0 x1 x2 b h k s j : ℝ) : EReal) - mx x0 x1 x2 b h k s) := by
  rw [val_main_v114_apply, val_main_v113_apply, val_main_v112_at, val_main_v107_real x0 x1 x2 hx h1 h2 hc hs,
    Ideal.subf_def, Ideal.hostUnary_exp_def]

theorem val_main_v118_at (b : Fin 12) (h : Fin 4) (k : Fin 2) (s j : Fin 4096) :
    val_main_v118 (F := Ideal) x0 x1 x2 (ix5 b h k s j)
      = Ideal.div (Ideal.exp (((sc x0 x1 x2 b h k s j : ℝ) : EReal) - mx x0 x1 x2 b h k s))
          (∑ i, Ideal.exp (((sc x0 x1 x2 b h k s i : ℝ) : EReal) - mx x0 x1 x2 b h k s)) := by
  rw [val_main_v118_apply, val_main_v114_at x0 x1 x2 hx h1 h2 hc hs, val_main_v117_apply, val_main_v116_apply,
    show idx_main_v116 (idx_main_v117 (ix5 b h k s j)) = ix4 b h k s from (eq_ix4 _).trans rfl, val_main_v115_apply, val_main_cst_15_apply,
    Ideal.ofBits_def, Ideal.ofBits_zero_f32, zero_add, Ideal.hostDivf_def]
  refine congrArg _ (Finset.sum_congr rfl fun i _ => ?_)
  rw [show idx_main_v115 (ix4 b h k s) i = ix5 b h k s i from (eq_ix5 _).trans rfl, val_main_v114_at x0 x1 x2 hx h1 h2 hc hs]

omit hx h1 h2 hc hs in
theorem val_main_v120_at (b : Fin 12) (h : Fin 4) (s j : Fin 4096) :
    val_main_v120 (F := Ideal) x0 x1 x2 (ix4 b h s j) = val_main_v118 (F := Ideal) x0 x1 x2 (ix5 b h 0 s j) := by
  rw [val_main_v120_apply, val_main_v119_apply]
  refine congrArg _ (funext fun a => Fin.ext ?_)
  match a with
  | ⟨0, _⟩ => show (((b.val * 4 + h.val) * 4096 + s.val) * 4096 + j.val) / 67108864 = b.val; omega
  | ⟨1, _⟩ => show (((b.val * 4 + h.val) * 4096 + s.val) * 4096 + j.val) / 16777216 % 4 = h.val; omega
  | ⟨2, _⟩ => rfl
  | ⟨3, _⟩ => show (((b.val * 4 + h.val) * 4096 + s.val) * 4096 + j.val) / 4096 % 4096 = s.val; omega
  | ⟨4, _⟩ => show (((b.val * 4 + h.val) * 4096 + s.val) * 4096 + j.val) % 4096 = j.val; omega

omit hx h1 h2 hc hs in
theorem val_main_v122_at (b : Fin 12) (h : Fin 4) (s j : Fin 4096) :
    val_main_v122 (F := Ideal) x0 x1 x2 (ix4 b h s j) = val_main_v118 (F := Ideal) x0 x1 x2 (ix5 b h 1 s j) := by
  rw [val_main_v122_apply, val_main_v121_apply]
  refine congrArg _ (funext fun a => Fin.ext ?_)
  match a with
  | ⟨0, _⟩ => show (((b.val * 4 + h.val) * 4096 + s.val) * 4096 + j.val) / 67108864 = b.val; omega
  | ⟨1, _⟩ => show (((b.val * 4 + h.val) * 4096 + s.val) * 4096 + j.val) / 16777216 % 4 = h.val; omega
  | ⟨2, _⟩ => rfl
  | ⟨3, _⟩ => show (((b.val * 4 + h.val) * 4096 + s.val) * 4096 + j.val) / 4096 % 4096 = s.val; omega
  | ⟨4, _⟩ => show (((b.val * 4 + h.val) * 4096 + s.val) * 4096 + j.val) % 4096 = j.val; omega

/-! ## The difference of the two means -/

/-- Lane `l` of head `h` of the values, down the rows. -/
def vcol (b : Fin 12) (h : Fin 4) (l : Fin 128) (j : Fin 4096) : ℝ := (x0 (ix3 b j (xcol 8704 (by omega) h l))).toReal

/-- The difference of the two means, the second one weighted by `lam`. -/
def diff (lam : EReal) (b : Fin 12) (s : Fin 4096) (h : Fin 4) (l : Fin 128) : EReal :=
  ((W (sc x0 x1 x2 b h 0 s) (vcol x0 b h l) : ℝ) : EReal) - lam * ((W (sc x0 x1 x2 b h 1 s) (vcol x0 b h l) : ℝ) : EReal)

omit hx h1 h2 hc hs in
theorem val_main_v106_at (b : Fin 12) (j : Fin 4096) (h : Fin 4) (l : Fin 128) :
    val_main_v106 (F := Ideal) x0 (ix4 b j h l) = x0 (ix3 b j (xcol 8704 (by omega) h l)) := by
  rw [val_main_v106_apply, val_main_v24_apply, val_main_v23_apply]
  refine congrArg x0 (funext fun a => Fin.ext ?_)
  match a with
  | ⟨0, _⟩ => show (((b.val * 4096 + j.val) * 4 + h.val) * 128 + l.val) / 2097152 = b.val; omega
  | ⟨1, _⟩ => show (((b.val * 4096 + j.val) * 4 + h.val) * 128 + l.val) / 512 % 4096 = j.val; omega
  | ⟨2, _⟩ => show 8704 + (((b.val * 4096 + j.val) * 4 + h.val) * 128 + l.val) % 512 = 8704 + (h.val * 128 + l.val); omega

theorem val_main_v127_at (hl : IsReal (val_main_v43 (F := Ideal) x3 x4 ix0)) (b : Fin 12) (s : Fin 4096) (h : Fin 4) (l : Fin 128) :
    val_main_v127 (F := Ideal) x0 x1 x2 x3 x4 (ix4 b s h l) = diff x0 x1 x2 (val_main_v43 (F := Ideal) x3 x4 ix0) b s h l := by
  rw [val_main_v127_apply, show idx_main_v127 (ix4 b s h l) = ix4 b h l s from (eq_ix4 _).trans rfl, val_main_v126_apply]
  unfold diff
  rw [← mean_diff (by omega : 0 < 4096) (sc x0 x1 x2 b h 0 s) (sc x0 x1 x2 b h 1 s) (vcol x0 b h l)
    (val_main_v110_real x0 x1 x2 hx h1 h2 hc hs b h 0 s) (val_main_v110_real x0 x1 x2 hx h1 h2 hc hs b h 1 s) hl]
  refine Finset.sum_congr rfl fun j _ => ?_
  rw [show lidx_main_v126 (ix4 b h l s) j = ix4 b j h l from (eq_ix4 _).trans rfl,
    show ridx_main_v126 (ix4 b h l s) j = ix4 b h s j from (eq_ix4 _).trans rfl, val_main_v106_at,
    ← coe_toReal (hx 8704 (by omega) (by omega) (by omega) b j h l), val_main_v125_apply, val_main_v124_apply, val_main_v123_apply,
    val_main_v120_at, val_main_v122_at, val_main_v118_at x0 x1 x2 hx h1 h2 hc hs, val_main_v118_at x0 x1 x2 hx h1 h2 hc hs,
    show idx_main_v123 (ix4 b h s j) = ix0 from eq_ix0 _]
  rfl

/-! ## The gate -/

/-- What both programs compute at batch `b`, row `s`, head `h`, lane `l`. -/
def out (b : Fin 12) (s : Fin 4096) (h : Fin 4) (l : Fin 128) : EReal :=
  gated (diff x0 x1 x2 (val_main_v43 (F := Ideal) x3 x4 ix0) b s h) (fun e => x5 (ix1 e)) (val_main_v143 (F := Ideal) x4 ix0)
    (x0 (ix3 b s (xcol 9216 (by omega) h l))) l

theorem val_main_v140_at (hl : IsReal (val_main_v43 (F := Ideal) x3 x4 ix0)) (b : Fin 12) (s : Fin 4096) (h : Fin 4) (l : Fin 128) :
    val_main_v140 (F := Ideal) x0 x1 x2 x3 x4 x5 (ix4 b s h l)
      = diff x0 x1 x2 (val_main_v43 (F := Ideal) x3 x4 ix0) b s h l
        * Ideal.rsqrt (Ideal.div (∑ e, diff x0 x1 x2 (val_main_v43 (F := Ideal) x3 x4 ix0) b s h e
            * diff x0 x1 x2 (val_main_v43 (F := Ideal) x3 x4 ix0) b s h e) ((128 : ℝ) : EReal) + eps) * x5 (ix1 l) := by
  rw [val_main_v140_apply, val_main_v137_apply, val_main_v136_apply, val_main_v135_apply, val_main_v134_apply, val_main_v132_apply,
    val_main_v130_apply, val_main_v131_apply, val_main_v133_apply, val_main_cst_17_apply, val_main_cst_18_apply, val_main_v139_apply,
    val_main_v138_apply, val_main_v127_at x0 x1 x2 x3 x4 hx h1 h2 hc hs hl,
    show idx_main_v130 (idx_main_v136 (ix4 b s h l)) = ix3 b s h from (eq_ix3 _).trans rfl, val_main_v129_apply, val_main_cst_16_apply,
    Ideal.ofBits_def, Ideal.ofBits_zero_f32, zero_add,
    show idx_main_v138 (idx_main_v139 (ix4 b s h l)) = ix1 l from (eq_ix1 _).trans rfl]
  rw [show (∑ e : Fin 128, val_main_v128 (F := Ideal) x0 x1 x2 x3 x4 (idx_main_v129 (ix3 b s h) e))
      = ∑ e, diff x0 x1 x2 (val_main_v43 (F := Ideal) x3 x4 ix0) b s h e * diff x0 x1 x2 (val_main_v43 (F := Ideal) x3 x4 ix0) b s h e
    from Finset.sum_congr rfl fun e _ => by
      rw [show idx_main_v129 (ix3 b s h) e = ix4 b s h e from (eq_ix4 _).trans rfl, val_main_v128_apply,
        val_main_v127_at x0 x1 x2 x3 x4 hx h1 h2 hc hs hl]
      rfl]
  unfold eps
  rw [← ofBits_128]
  rfl

/-- The result at an index. -/
theorem res_apply (hl : IsReal (val_main_v43 (F := Ideal) x3 x4 ix0)) (b : Fin 12) (s : Fin 4096) (h : Fin 4) (l : Fin 128) :
    val_main_v148 (F := Ideal) x0 x1 x2 x3 x4 x5 (ix3 b s (hcol h l)) = out x0 x1 x2 x3 x4 x5 b s h l := by
  rw [val_main_v148_apply, val_main_v147_apply, val_main_v146_apply, val_main_v145_apply, val_main_v144_apply, val_main_v141_apply,
    show idx_main_v144 (ix3 b s (hcol h l)) = ix0 from eq_ix0 _]
  have e : idx_main_v141 (ix3 b s (hcol h l)) = ix4 b s h l := by
    funext a
    apply Fin.ext
    match a with
    | ⟨0, _⟩ => show ((b.val * 4096 + s.val) * 512 + (h.val * 128 + l.val)) / 2097152 = b.val; omega
    | ⟨1, _⟩ => show ((b.val * 4096 + s.val) * 512 + (h.val * 128 + l.val)) / 512 % 4096 = s.val; omega
    | ⟨2, _⟩ => show ((b.val * 4096 + s.val) * 512 + (h.val * 128 + l.val)) / 128 % 4 = h.val; omega
    | ⟨3, _⟩ => show ((b.val * 4096 + s.val) * 512 + (h.val * 128 + l.val)) % 128 = l.val; omega
  have z : val_main_v26 (F := Ideal) x0 (ix3 b s (hcol h l)) = x0 (ix3 b s (xcol 9216 (by omega) h l)) := by
    rw [val_main_v26_apply, val_main_v25_apply]
    exact congrArg x0 ((eq_ix3 _).trans rfl)
  rw [e, val_main_v140_at x0 x1 x2 x3 x4 x5 hx h1 h2 hc hs hl, val_main_call0_v5_apply, val_main_call0_v4_apply, val_main_call0_cst_0_apply,
    val_main_call0_v3_apply, val_main_call0_v2_apply, val_main_call0_cst_apply, val_main_call0_v1_apply, val_main_call0_v0_apply, z,
    Ideal.ofBits_def, Ideal.ofBits_one_f32]
  rfl

end Real

end Cert.ReferenceIdeal.Attended

end
-- ==== Proof.AttnReal.lean ====
/-
  Which words of the attention's reference are real numbers: its tables of cosines and sines whatever the arguments hold, its
  mixing weight when the arguments are finite.
-/
module

public import proofs.«01_k».proof.Proof.AttnRef
public import proofs.«01_k».proof.Proof.Gen.Pre_finite_inputs

@[expose] public section

noncomputable section

open Idealize.ShloMosaic Idealize.ShloMosaic.TcCoe Idealize.SL.Sem Idealize.ShloMosaic.ValueIdx
open scoped BigOperators
open Cert.Attn

namespace Cert.ReferenceIdeal.Attended

open Cert.ReferenceIdeal Cert.ReferenceIdeal.Read
open Cert.KernelIdeal.Blocks (xcol hcol headOf RealCols)
open Cert.KernelIdeal.HostVals (co si)

/-! ## The tables -/

theorem ofBits_2 : Ideal.ofBits .f32 0x40000000#32 = ((2 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_500000 : Ideal.ofBits .f32 0x48F42400#32 = ((500000 : ℝ) : EReal) := by
  simp [Ideal.ofBits, Ideal.ieee, -EReal.coe_mul]; norm_num

theorem isReal_v6 (i : S8.Idx) : IsReal (val_main_v6 (F := Ideal) i) := by
  rw [val_main_v6_apply, val_main_v5_apply, val_main_cst_1_apply, val_main_v4_apply, val_main_v3_apply, val_main_cst_0_apply,
    val_main_v2_apply, val_main_v1_apply, val_main_cst_apply, Ideal.ofBits_def, Ideal.ofBits_def, Ideal.ofBits_def, ofBits_16, ofBits_2,
    Ideal.ofBits_zero_f32, Ideal.hostDivf_def, Ideal.addf_def, Ideal.mulf_def]
  exact (isReal_zero.add ((isReal_coe 2).mul (isReal_coe _))).div (by norm_num)

/-- The frequencies. -/
theorem isReal_v10 (i : S8.Idx) : IsReal (val_main_v10 (F := Ideal) i) := by
  obtain ⟨r, hr⟩ := isReal_v6 i
  rw [val_main_v10_apply, val_main_v9_apply, val_main_cst_3_apply, val_main_v8_apply, val_main_v7_apply, val_main_cst_2_apply, hr,
    Ideal.ofBits_def, Ideal.ofBits_def, ofBits_500000, Ideal.ofBits_one_f32, Ideal.hostDivf_def, Ideal.hostPowf_def, Ideal.pow_coe_coe]
  exact isReal_one.div (Real.rpow_pos_of_pos (by norm_num) r).ne'

/-- The angles. -/
theorem isReal_v16 (i : S4096x8.Idx) : IsReal (val_main_v16 (F := Ideal) i) := by
  rw [val_main_v16_apply, val_main_v14_apply, val_main_v12_apply, val_main_v15_apply, val_main_v13_apply, Ideal.mulf_def]
  exact (isReal_coe _).mul (isReal_v10 _)

theorem isReal_co (s : Fin 4096) (d : Fin 8) : IsReal (co s d) := by
  unfold co
  rw [val_main_v17_apply, Ideal.hostUnary_cos_def]
  exact (isReal_v16 _).cos
theorem isReal_si (s : Fin 4096) (d : Fin 8) : IsReal (si s d) := by
  unfold si
  rw [val_main_v18_apply, Ideal.hostUnary_sin_def]
  exact (isReal_v16 _).sin

/-! ## The mixing weight -/

variable (x3 : Vec Ideal S4x64 .f32) (x4 : Vec Ideal S1 .f32)

/-- The mixing weight is real when its factors and its initial value are. -/
theorem isReal_lam (h3 : ∀ i, IsReal (x3 i)) (h4 : ∀ i, IsReal (x4 i)) : IsReal (val_main_v43 (F := Ideal) x3 x4 ix0) := by
  rw [val_main_v43_apply, val_main_v41_apply, val_main_v33_apply, val_main_v40_apply, val_main_v32_apply, val_main_v39_apply,
    val_main_cst_4_apply, val_main_cst_5_apply, Ideal.addf_def, Ideal.subf_def, Ideal.hostUnary_exp_def, Ideal.hostUnary_exp_def,
    Ideal.ofBits_def, Ideal.ofBits_zero_f32]
  refine (IsReal.sub (IsReal.exp (isReal_zero.add (isReal_sum _ _ fun j _ => ?_))) (IsReal.exp (isReal_zero.add (isReal_sum _ _ fun j _ => ?_)))).add (h4 _)
  · rw [val_main_v31_apply, val_main_v28_apply, val_main_v30_apply, val_main_v27_apply, val_main_v29_apply, Ideal.mulf_def]
    exact (h3 _).mul (h3 _)
  · rw [val_main_v38_apply, val_main_v35_apply, val_main_v37_apply, val_main_v34_apply, val_main_v36_apply, Ideal.mulf_def]
    exact (h3 _).mul (h3 _)

/-! ## The precondition -/

/-- A word whose absolute value is below infinity is a real number. -/
theorem isReal_of_lt {x : EReal} (h : Ideal.cmp .olt (max x (-x)) (Ideal.ofBits .f32 0x7F800000#32) = 1#1) : IsReal x := by
  rw [ofBits_inf] at h
  have h' : max x (-x) < ⊤ := by
    by_contra hn
    simp [Ideal.cmp, hn] at h
  induction x with
  | bot => simp at h'
  | top => simp at h'
  | coe r => exact isReal_coe r

variable (x0 : Vec Ideal S12x4096x9728 .bf16) (x1 x2 : Vec Ideal S2x64 .f32) (x5 : Vec Ideal S128 .f32)

/-- What the precondition says of the projection's columns, of the two gains, of the mixing factors and of the initial value. -/
theorem real_of_pre
    (h : (Cert.Pre_finite_inputs.fn (F := Ideal) x0 x1 x2 x3 x4 x5).1 = (fun _ => 1#1)
      ∧ (Cert.Pre_finite_inputs.fn (F := Ideal) x0 x1 x2 x3 x4 x5).2.1 = (fun _ => 1#1)
      ∧ (Cert.Pre_finite_inputs.fn (F := Ideal) x0 x1 x2 x3 x4 x5).2.2.1 = (fun _ => 1#1)
      ∧ (Cert.Pre_finite_inputs.fn (F := Ideal) x0 x1 x2 x3 x4 x5).2.2.2.1 = (fun _ => 1#1)
      ∧ (Cert.Pre_finite_inputs.fn (F := Ideal) x0 x1 x2 x3 x4 x5).2.2.2.2 = (fun _ => 1#1)) :
    RealCols x0 ∧ (∀ i, IsReal (x1 i)) ∧ (∀ i, IsReal (x2 i)) ∧ (∀ i, IsReal (x3 i)) ∧ ∀ i, IsReal (x4 i) := by
  obtain ⟨h0, h1, h2, h3, h4⟩ := h
  refine ⟨fun o ho hlo hhi b s h l => ?_, fun i => isReal_of_lt (congrFun h1 i), fun i => isReal_of_lt (congrFun h2 i),
    fun i => isReal_of_lt (congrFun h3 i), fun i => isReal_of_lt (congrFun h4 i)⟩
  have e := congrFun h0 (ix3 b s (⟨o - 7680 + (h.val * 128 + l.val), by omega⟩ : Fin 1536) : Cert.Pre_finite_inputs.S12x4096x1536.Idx)
  have e' : extractStridedSlice Cert.Pre_finite_inputs.S12x4096x1536 ![0, 0, 7680] x0
      Cert.Pre_finite_inputs.Facts.slices_S12x4096x9728_S12x4096x1536_0_0_7680
      (ix3 b s (⟨o - 7680 + (h.val * 128 + l.val), by omega⟩ : Fin 1536) : Cert.Pre_finite_inputs.S12x4096x1536.Idx)
      = x0 (ix3 b s (xcol o ho h l)) := by
    refine extractStridedSlice_apply ![0, 0, 7680] x0 _ _ (ix3 b s (xcol o ho h l)) fun a => ?_
    match a with
    | ⟨0, _⟩ => show b.val = 0 + b.val; omega
    | ⟨1, _⟩ => show s.val = 0 + s.val; omega
    | ⟨2, _⟩ => show o + (h.val * 128 + l.val) = 7680 + (o - 7680 + (h.val * 128 + l.val)); omega
  rw [← e']
  exact isReal_of_lt e

end Cert.ReferenceIdeal.Attended

end
-- ==== Proof.AttnRun.lean ====
/-
  The two attention regions run in order: from any memory every execution ends with the result array at what the second
  region's write-backs leave, and with the arguments as launched.
-/
module

public import proofs.«01_k».proof.Proof.Gen.KernelIdeal.Frame

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
/-- Every execution ends with the result at what the second region leaves and the arguments as launched. -/
theorem run : θ_run defs (onTc (τ := τ) (main (F := F))) ⟨m, fun _ => 0, ρ⟩ (fun r => ∀ c : Dev nD,
      r.2.mem ((c.tc : Thread nD τ).loc main_v55) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v55 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Runs

end
-- ==== Proof.Attn.lean ====
/-
  The attention: the array its two regions leave is the one its reference computes, the arguments being finite.
-/
module

public import proofs.«01_k».proof.Defs
public import proofs.«01_k».proof.Proof.Gen.ReferenceIdeal.Run
public import proofs.«01_k».proof.Proof.Gen.ReferenceIdeal.Read
public import proofs.«01_k».proof.Proof.AttnReal
public import proofs.«01_k».proof.Proof.AttnRun
public import proofs.«01_k».proof.Proof.Frames

@[expose] public section

noncomputable section

open Idealize.ShloMosaic Idealize.ShloMosaic.TcCoe Idealize.SL.Sem Idealize.ShloMosaic.ValueIdx
open scoped BigOperators
open Cert.Attn

namespace Cert.KernelIdeal.Result

open Cert.KernelIdeal Cert.KernelIdeal.Gen Cert.KernelIdeal.Blocks Cert.KernelIdeal.HostVals
open Cert.KernelIdeal.Prep (lane qScale)
open Cert.ReferenceIdeal.Attended (row raw sc vcol diff out isReal_row isReal_co isReal_si)

variable (m : (ℓ : Loc nD τ sig) → Buf (Elt Ideal) ℓ) (ρ : Dev nD → PrngReg) (c : Dev nD)

/-- The kernel's arguments at the launch, on device `c`. -/
def a0 : Vec Ideal S12x4096x9728 .bf16 := m ((c : Thread nD τ).loc main_arg0)
def a1 : Vec Ideal S2x64 .f32 := m ((c : Thread nD τ).loc main_arg1)
def a2 : Vec Ideal S2x64 .f32 := m ((c : Thread nD τ).loc main_arg2)
def a3 : Vec Ideal S4x64 .f32 := m ((c : Thread nD τ).loc main_arg3)
def a4 : Vec Ideal S1 .f32 := m ((c : Thread nD τ).loc main_arg4)
def a5 : Vec Ideal S128 .f32 := m ((c : Thread nD τ).loc main_arg5)

variable (hx : RealCols (a0 m c))

include hx in
/-- The prepared queries at an index, and the prepared keys. -/
theorem q_apply (b : Fin 12) (s : Fin 4096) (h : Fin 4) (k : Fin 2) (d : Fin 64) :
    (V3 m ρ c main_v46_0 : Vec Ideal S12x4096x512 .bf16) (ix3 b s (hcol h (lane k d)))
      = row (a0 m c) (a1 m c) 7680 (by omega) b s h k d * qScale := by
  have e : (V3 m ρ c main_v46_0 : Vec Ideal S12x4096x512 .bf16) = GQ (V1 m ρ) c co si :=
    (V3_q m ρ c).trans (final0_7 (V1 m ρ) c co si (tables m ρ c) (by rw [V1_arg0]; exact hx))
  rw [e]
  show prep (V1 m ρ c main_arg0) (V1 m ρ c main_v44) co si 7680 (by omega) b s (headOf (hcol h (lane k d))) (halfOf (hcol h (lane k d)))
    (laneOf (hcol h (lane k d))) * qScale = _
  rw [headOf_hcol, halfOf_hcol, laneOf_hcol, V1_arg0]
  unfold prep row
  rw [show (fun e => (V1 m ρ c main_v44 : Vec Ideal S1x128 .f32) (ix2 0 (lane k e))) = fun e => a1 m c (ix2 k e) from
    funext fun e => V1_v44 m ρ c k e]
  rfl
include hx in
theorem k_apply (b : Fin 12) (s : Fin 4096) (h : Fin 4) (k : Fin 2) (d : Fin 64) :
    (V3 m ρ c main_v46_1 : Vec Ideal S12x4096x512 .bf16) (ix3 b s (hcol h (lane k d)))
      = row (a0 m c) (a2 m c) 8192 (by omega) b s h k d := by
  have e : (V3 m ρ c main_v46_1 : Vec Ideal S12x4096x512 .bf16) = GK (V1 m ρ) c co si :=
    (V3_k m ρ c).trans (final0_8 (V1 m ρ) c co si (tables m ρ c) (by rw [V1_arg0]; exact hx))
  rw [e]
  show prep (V1 m ρ c main_arg0) (V1 m ρ c main_v45) co si 8192 (by omega) b s (headOf (hcol h (lane k d))) (halfOf (hcol h (lane k d)))
    (laneOf (hcol h (lane k d))) = _
  rw [headOf_hcol, halfOf_hcol, laneOf_hcol, V1_arg0]
  unfold prep row
  rw [show (fun e => (V1 m ρ c main_v45 : Vec Ideal S1x128 .f32) (ix2 0 (lane k e))) = fun e => a2 m c (ix2 k e) from
    funext fun e => V1_v45 m ρ c k e]
  rfl

variable (h1 : ∀ i, IsReal (a1 m c i)) (h2 : ∀ i, IsReal (a2 m c i))

include hx h1 h2 in
/-- A score of the kernel is the reference's, in units of the logarithm of two. -/
theorem dot_apply (b : Fin 12) (h : Fin 4) (k : Fin 2) (s j : Fin 4096) :
    dotAt (V3 m ρ c main_v46_0) (V3 m ρ c main_v46_1) b h k s j
      = (((Real.log 2)⁻¹ * sc (a0 m c) (a1 m c) (a2 m c) b h k s j : ℝ) : EReal) := by
  unfold dotAt sc
  rw [← score_named (isReal_row (a0 m c) hx isReal_co isReal_si (g := a1 m c) (fun _ _ => h1 _) 7680 (by omega) (by omega) (by omega) b s h k)
    (isReal_row (a0 m c) hx isReal_co isReal_si (g := a2 m c) (fun _ _ => h2 _) 8192 (by omega) (by omega) (by omega) b j h k)]
  unfold score
  exact Finset.sum_congr rfl fun d _ => by rw [q_apply m ρ c hx, k_apply m ρ c hx]; rfl

include hx h1 h2 in
/-- A softmax-weighted mean of the values, in the kernel and in the reference. -/
theorem mean_apply (b : Fin 12) (h : Fin 4) (k : Fin 2) (s : Fin 4096) (l : Fin 128) :
    mean2 (fun j => dotAt (V3 m ρ c main_v46_0) (V3 m ρ c main_v46_1) b h k s j)
        (fun j => (V3 m ρ c main_arg0 : Vec Ideal S12x4096x9728 .bf16) (ix3 b j (xcol 8704 (by omega) h l)))
      = ((W (sc (a0 m c) (a1 m c) (a2 m c) b h k s) (vcol (a0 m c) b h l) : ℝ) : EReal) := by
  rw [← mean2_coe (by omega : 0 < 4096)]
  refine congrArg₂ mean2 (funext fun j => dot_apply m ρ c hx h1 h2 b h k s j) (funext fun j => ?_)
  rw [V3_arg0]
  exact (coe_toReal (hx 8704 (by omega) (by omega) (by omega) b j h l)).symm

theorem gated_congr {o o' g g' : Fin 128 → EReal} {s s' z z' : EReal} (ho : o = o') (hg : g = g') (hs : s = s') (hz : z = z') (l : Fin 128) :
    gated o g s z l = gated o' g' s' z' l := by rw [ho, hg, hs, hz]

/-- The result array at a head and a lane. -/
theorem GO_at (V : (c : Dev nD) → (b : Ref sig .tc) → Buf (Elt Ideal) ((c : Thread nD τ).loc b)) (b : Fin 12) (s : Fin 4096) (h : Fin 4) (l : Fin 128) :
    (GO V c : Vec Ideal S12x4096x512 .bf16) (ix3 b s (hcol h l))
      = attnAt (V c main_v53) (V c main_v46_0) (V c main_v46_1) (V c main_arg0) (V c main_v54) b s h l := by
  have eh : headOf (hcol h l) = h := Fin.ext (show (h.val * 128 + l.val) / 128 = h.val by omega)
  have el : (⟨(hcol h l).val % 128, by omega⟩ : Fin 128) = l := Fin.ext (show (h.val * 128 + l.val) % 128 = l.val by omega)
  show attnAt (V c main_v53) (V c main_v46_0) (V c main_v46_1) (V c main_arg0) (V c main_v54) b s (headOf (hcol h l))
    ⟨(hcol h l).val % 128, by omega⟩ = _
  rw [eh, el]

include hx h1 h2 in
/-- The result array at an index is the reference's. -/
theorem GO_apply (b : Fin 12) (s : Fin 4096) (h : Fin 4) (l : Fin 128) :
    (GO (V3 m ρ) c : Vec Ideal S12x4096x512 .bf16) (ix3 b s (hcol h l))
      = out (a0 m c) (a1 m c) (a2 m c) (a3 m c) (a4 m c) (a5 m c) b s h l := by
  rw [GO_at]
  unfold attnAt out
  refine gated_congr (funext fun e => ?_) (funext fun e => V3_v54 m ρ c e) (V3_scal1 m ρ c) (congrFun (V3_arg0 m ρ c) _) l
  rw [mean_apply m ρ c hx h1 h2, mean_apply m ρ c hx h1 h2, V3_scal0]
  unfold diff lam a3 a4
  exact Eq.refl _

end Cert.KernelIdeal.Result

namespace Cert.Proof.Attn

open Cert.KernelIdeal.Result

/-- The idealized attention and its reference terminate with the arguments finite, as they do without. -/
theorem frame_pi_pre : Cert.quiescent_KernelIdeal_pre_finite_inputs := fun m ρ _ => Cert.Proof.Frames.frame_pi m ρ trivial
theorem frame_ri_pre : Cert.quiescent_ReferenceIdeal_pre_finite_inputs := fun m ρ _ => Cert.Proof.Frames.frame_ri m ρ trivial

/-- In exact arithmetic, the arguments being finite, the attention's result array and the reference's are the same function of
    the arguments. -/
theorem algebraic : Cert.algebraic_KernelIdeal_ReferenceIdeal_pre_finite_inputs := by
  intro m ρ m' ρ' hpre hagree
  refine ⟨fun c => Cert.KernelIdeal.Blocks.GO (Cert.KernelIdeal.Gen.V3 m ρ) c, ?_, ?_⟩
  · exact (θ_run Cert.KernelIdeal.defs _ _).mono
      (fun _ h c => ⟨(h c).1.trans (Cert.KernelIdeal.Blocks.final1_6 (Cert.KernelIdeal.Gen.V3 m ρ) c), (h c).2⟩) (Cert.KernelIdeal.Runs.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    obtain ⟨hx, h1, h2, h3, h4⟩ := Cert.ReferenceIdeal.Attended.real_of_pre (a3 m c) (a4 m c) (a0 m c) (a1 m c) (a2 m c) (a5 m c) (hpre c)
    refine (Cert.ReferenceIdeal.Read.val_main_v148_eq (StableHlo.launchContents m' c)).trans ?_
    refine Eq.trans (b := Cert.ReferenceIdeal.Read.val_main_v148 (F := Ideal) (a0 m c) (a1 m c) (a2 m c) (a3 m c) (a4 m c) (a5 m c)) ?_ ?_
    · exact congr (congr (congr (congr (congr (congrArg _ e0) e1) e2) e3) e4) e5
    funext i
    obtain ⟨b, s, k, rfl⟩ : ∃ (b : Fin 12) (s : Fin 4096) (k : Fin 512), i = ix3 b s k := ⟨i 0, i 1, i 2, eq_ix3 i⟩
    rw [← Cert.KernelIdeal.Blocks.hcol_of k]
    exact (Cert.ReferenceIdeal.Attended.res_apply (a0 m c) (a1 m c) (a2 m c) (a3 m c) (a4 m c) (a5 m c) hx (fun _ _ => h1 _) (fun _ _ => h2 _)
      Cert.ReferenceIdeal.Attended.isReal_co Cert.ReferenceIdeal.Attended.isReal_si
      (Cert.ReferenceIdeal.Attended.isReal_lam _ _ h3 h4) b s _ _).trans (GO_apply m ρ c hx h1 h2 b s _ _).symm

end Cert.Proof.Attn

end
-- ==== Proof.InprojRun.lean ====
/-
  The input projection's kernel body, run at one grid point on symbolic operands, for any float values. At the first point of
  a block of rows (column block 0) the body normalizes the rows into its scratch and stores the small product; at every point it
  stores the scratch times the point's columns of the weight.
-/
module

public import proofs.«01_k».proof.Proof.Gen.Kernel2Ideal.Frame
public import proofs.«01_k».proof.Proof.Gen.Kernel2Ideal.Skeleton
public import Idealize.ShloMosaic.Lib.Tactic
public import Idealize.ShloMosaic.Lib.Pipeline.Value

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- A store over a whole block leaves the value stored. -/
theorem read_store {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  refine funext fun y => ?_
  have e : (Rect.unit (s := S) (fun _ => 0) S.size inb).emb y = y :=
    funext fun a => Fin.ext (show 0 + 1 * (y a).val = (y a).val by omega)
  exact (congrArg _ e.symm).trans (View.read_writes_cons_emb v f (Rect.unit (s := S) (fun _ => 0) S.size inb) w [] y)

/-- A load of a whole block reads all of it. -/
theorem load_all {sig : RefSig} {κ : Kind} {sp : Space} {S : Shape} {e : EltTy} (M : Memref sig κ sp S e) (hM : M.IsWhole)
    (x : S.Idx → Elt F e) {off : Fin S.rank → Nat} (h : off = fun _ => 0) (inb : ∀ a, off a + S.size a ≤ S.size a) :
    M.view.readAt (Elt F) (Rect.unit off S.size inb).toLoadRect (hM.unread x) = x := by
  rw [View.readAt_eq_ld, hM.read_unread, View.ld_unit_zero h]

set_option maxHeartbeats 1000000 in
/-- At a first point of a block of rows: whatever the outputs and the scratch held, the body leaves the normalized rows in the
    scratch, their product with the small weight in the second output and with the point's columns in the first. -/
theorem run_first (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1024x2432 .bf16) (harg4 : arg4.IsWhole)
    (arg5 : Memref sig .tc .vmem S1024x128 .bf16) (harg5 : arg5.IsWhole) (arg6 : Memref sig .tc .vmem S1024x2432 .bf16) (harg6 : arg6.IsWhole)
    (arg7 : Memref sig .tc .vmem S1024x128 .f32) (harg7 : arg7.IsWhole) (arg8 : Memref sig .tc .vmem S1024x1024 .bf16) (harg8 : arg8.IsWhole)
    (x : Vec F S1024x1024 .f32) (g : Vec F S1x1024 .f32) (w : Vec F S1024x2432 .bf16) (ws : Vec F S1024x128 .bf16)
    (hc : k0_cond1 i = 1#1) (E : Set ℕ) (K : PUnit → sProp (MT nD τ sig Unit (Elt F) ℕ (UR sig nD τ) ℕ)) :
    iprop(owns (c : Thread nD τ) arg2 fullShare x ∗ owns (c : Thread nD τ) arg3 fullShare g ∗ owns (c : Thread nD τ) arg4 fullShare w
        ∗ owns (c : Thread nD τ) arg5 fullShare ws ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare g ∗ owns (c : Thread nD τ) arg4 fullShare w
            ∗ owns (c : Thread nD τ) arg5 fullShare ws ∗ owns (c : Thread nD τ) arg6 fullShare (k0_pay4 (k0_pay2 x g) w)
            ∗ owns (c : Thread nD τ) arg7 fullShare (k0_pay3 x g ws) ∗ owns (c : Thread nD τ) arg8 fullShare (k0_pay2 x g)) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_store _ _ hz _ _).trans ?_
    sl_unfold_words
    rw [View.readCov_unit_zero _ hz, load_all _ _ _ hz, load_all _ _ _ hz, load_all _ _ _ hz]
  isplitl [H7]
  · iexists _; isplitr
    swap; · iexact H7
    ipureintro
    refine (read_store _ _ hz _ _).trans ?_
    sl_unfold_words
    rw [load_all _ _ _ hz, load_all _ _ _ hz, load_all _ _ _ hz]
  · iexists _; isplitr
    swap; · iexact H8
    ipureintro
    sl_unfold_words
    refine (read_store _ _ hz _ _).trans ?_
    rw [load_all _ _ _ hz, load_all _ _ _ hz]

set_option maxHeartbeats 1000000 in
/-- At a later point of a block of rows: the body leaves the scratch's product with the point's columns in the first output and
    touches neither the second output nor the scratch's contents. -/
theorem run_next (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1024x2432 .bf16) (harg4 : arg4.IsWhole)
    (arg5 : Memref sig .tc .vmem S1024x128 .bf16) (harg5 : arg5.IsWhole) (arg6 : Memref sig .tc .vmem S1024x2432 .bf16) (harg6 : arg6.IsWhole)
    (arg7 : Memref sig .tc .vmem S1024x128 .f32) (harg7 : arg7.IsWhole) (arg8 : Memref sig .tc .vmem S1024x1024 .bf16) (harg8 : arg8.IsWhole)
    (w : Vec F S1024x2432 .bf16) (h : Vec F S1024x1024 .bf16)
    (hc : ¬ k0_cond1 i = 1#1) (E : Set ℕ) (K : PUnit → sProp (MT nD τ sig Unit (Elt F) ℕ (UR sig nD τ) ℕ)) :
    iprop(owns (c : Thread nD τ) arg4 fullShare w ∗ (∃ d, owns (c : Thread nD τ) arg6 fullShare d) ∗ owns (c : Thread nD τ) arg8 fullShare h
        ∗ (iprop(owns (c : Thread nD τ) arg4 fullShare w ∗ owns (c : Thread nD τ) arg6 fullShare (k0_pay4 h w)
            ∗ owns (c : Thread nD τ) arg8 fullShare h) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f4, %hf4, H4⟩, ⟨%d6, %f6, -, H6⟩, ⟨%f8, %hf8, H8⟩, Hk⟩
  obtain rfl := harg4.eq_unread hf4; obtain rfl := harg8.eq_unread hf8
  sl_exec
  sl_step
  iapply Hk
  isplitl [H4]
  · iexists _; isplitr; · ipureintro; exact harg4.read_unread _
    iexact H4
  isplitl [H6]
  · iexists _; isplitr
    swap; · iexact H6
    ipureintro
    refine (read_store _ _ hz _ _).trans ?_
    rw [load_all _ _ _ hz, load_all _ _ _ hz]
  · iexists _; isplitr; · ipureintro; exact harg8.read_unread _
    iexact H8

end Cert.Kernel2Ideal.Proj

end
-- ==== Proof.InprojFrame.lean ====
/-
  The input projection's run, for any float values: what the scratch carries from point to point, what each output's buffer
  holds after each point, and the launch over them. A block of rows is four consecutive points; its normalized rows, computed
  at the first of the four, stay in the scratch for the other three.
-/
module

public import proofs.«01_k».proof.Proof.InprojRun
public import Idealize.ShloMosaic.Lib.Claim

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The first point of point `n`'s block of rows. -/
def first (n : ℕ) : Fin cfg0.N := ⟨n / 4 * 4 % 192, lt_of_lt_of_eq (Nat.mod_lt _ (by omega)) N_0.symm⟩

theorem lt_N (t : Fin cfg0.N) : t.val < 192 := lt_of_lt_of_eq t.isLt N_0

theorem first_self (t : Fin cfg0.N) (h : t.val % 4 = 0) : first t.val = t :=
  Fin.ext (show t.val / 4 * 4 % 192 = t.val by have := lt_N t; omega)
theorem first_pred (n : ℕ) (h : (n + 1) % 4 ≠ 0) : first n = first (n + 1) :=
  Fin.ext (show n / 4 * 4 % 192 = (n + 1) / 4 * 4 % 192 by rw [show n / 4 = (n + 1) / 4 by omega])

/-- The normalized rows of point `n`'s block of rows, -/
def hid (c : Dev nD) (n : ℕ) : Vec F S1024x1024 .bf16 := k0_pay2 (iblk m c 0 (first n)) (iblk m c 1 (first n))
/-- their small product, -/
def small (c : Dev nD) (n : ℕ) : Vec F S1024x128 .f32 := k0_pay3 (iblk m c 0 (first n)) (iblk m c 1 (first n)) (iblk m c 3 (first n))
/-- and their product with the point's columns. -/
def mainOut (c : Dev nD) (t : Fin cfg0.N) : Vec F S1024x2432 .bf16 := k0_pay4 (hid m c t.val) (iblk m c 2 t)

/-- What the body finds before point `n`: before the first anything, later its scratch at the rows of the point before. -/
def carried (c : Dev nD) : ℕ → sProp (MT nD τ sig Unit (Elt F) ℕ (UR sig nD τ) ℕ)
  | 0 => Pipeline.ΦA spec0 c
  | n + 1 => iprop(owns (c : Thread nD τ) (Memref.whole cc0_scratch0) fullShare (hid m c n) ∗ ∃ r, prngReg c r)

/-- The pipeline's proof data on core `c`: the arrays as the region finds them, each input's buffer left at its block, the outputs'
    as above, and the scratch carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mainOut m c t
    | ⟨5, _⟩ => small m c t.val
  Φ k := carried m c k.val
  q w := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = mainOut m c t := by dsimp only [dats]
theorem after5 (c : Dev nD) (t : Fin cfg0.N) : (dats m 0 c).after 5 t = small m c t.val := by dsimp only [dats]

theorem before0 (c : Dev nD) (t : Fin cfg0.N) (d) : (dats m 0 c).before 0 t d = iblk m c 0 t := before0_0_of m _ (A_eq m c 0) (after0 m c) t d
theorem before1 (c : Dev nD) (t : Fin cfg0.N) (d) : (dats m 0 c).before 1 t d = iblk m c 1 t := before0_1_of m _ (A_eq m c 1) (after1 m c) t d
theorem before2 (c : Dev nD) (t : Fin cfg0.N) (d) : (dats m 0 c).before 2 t d = iblk m c 2 t := before0_2_of m _ (A_eq m c 2) (after2 m c) t d
theorem before3 (c : Dev nD) (t : Fin cfg0.N) (d) : (dats m 0 c).before 3 t d = iblk m c 3 t := before0_3_of m _ (A_eq m c 3) (after3 m c) t d

theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem idle5 (t : Fin cfg0.N) : cfg0.idle 5 (cfg0.grid.coords t) = !decide (t.val % 4 = 0) := by
  show (!(k0_cond1 (grid0.coords t) == 1#1)) = _
  congr 1
  rw [Bool.eq_iff_iff, beq_iff_eq, decide_eq_true_iff]
  exact cond_iff t

/-- At a later point of a block of rows the second output's buffer still holds the small product: the body left it there at
    the first point and no point between writes it. -/
theorem before5 (c : Dev nD) : ∀ (n : ℕ) (hn : n < cfg0.N) (h : n % 4 ≠ 0) (d), (dats m 0 c).before 5 ⟨n, hn⟩ d = small m c n
  | 0, _, h, _ => absurd rfl h
  | n + 1, hn, h, d => by
    have hn' : n < cfg0.N := Nat.lt_of_succ_lt hn
    have hf : (cfg0.win 5).flush ⟨n, hn'⟩ = false := by
      rw [Bool.eq_false_iff]
      intro hf
      have h1 : n % 4 = 3 := (flush0_5 _).mp hf
      omega
    have e : small m c n = small m c (n + 1) := by unfold small; rw [first_pred n h]
    refine ((dats m 0 c).before_of_pos 5 ⟨n + 1, hn⟩ (Nat.succ_ne_zero n) ((cfg0.win 5).fetch_out rfl _) d).trans ?_
    refine (if_neg (fun hf' => Bool.false_ne_true (hf.symm.trans hf'))).trans ?_
    have hl : (dats m 0 c).left 5 ⟨n, hn'⟩ d = small m c n := by
      unfold Dat.left
      by_cases h4 : n % 4 = 0
      · rw [show cfg0.idle 5 (cfg0.grid.coords ⟨n, hn'⟩) = false from (idle5 ⟨n, hn'⟩).trans (by simp [h4])]
        exact (cfg0.win 5).fill_cut _ _
      · rw [show cfg0.idle 5 (cfg0.grid.coords ⟨n, hn'⟩) = true from (idle5 ⟨n, hn'⟩).trans (by simp [h4])]
        exact before5 c n hn' h4 d
    exact hl.trans e

/-! ## The body at a point -/

/-- Before the first point of a block of rows the scratch is there at some contents. -/
theorem carried_any (c : Dev nD) (n : ℕ) : carried (F := F) m c n
    ⊢ iprop((∃ d, owns (c : Thread nD τ) (Memref.whole cc0_scratch0) fullShare d) ∗ ∃ r, prngReg c r) := by
  cases n with
  | zero =>
    show Pipeline.ΦA spec0 c ⊢ _
    unfold Pipeline.ΦA
    rw [scopedRest0_eq]
    iintro ⟨⟨%f, H⟩, Hp⟩
    isplitl [H]
    · iexists f
      rw [owns_whole]
      iexact H
    · iexact Hp
  | succ n =>
    show iprop(owns (c : Thread nD τ) (Memref.whole cc0_scratch0) fullShare (hid m c n) ∗ ∃ r, prngReg c r) ⊢ _
    iintro ⟨H, Hp⟩
    isplitl [H]
    · iexists _; iexact H
    · iexact Hp

/-- At a later point the scratch holds the block's normalized rows. -/
theorem carried_later (c : Dev nD) (n : ℕ) (h : n % 4 ≠ 0) : carried (F := F) m c n
    = iprop(owns (c : Thread nD τ) (Memref.whole cc0_scratch0) fullShare (hid m c n) ∗ ∃ r, prngReg c r) := by
  cases n with
  | zero => exact absurd rfl h
  | succ n =>
    show iprop(owns (c : Thread nD τ) (Memref.whole cc0_scratch0) fullShare (hid m c n) ∗ ∃ r, prngReg c r) = _
    unfold hid
    rw [first_pred n h]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.castSucc = carried m c t.val from rfl,
    show (dats m 0 c).Φ t.succ = iprop(owns (c : Thread nD τ) (Memref.whole cc0_scratch0) fullShare (hid m c t.val) ∗ ∃ r, prngReg c r) from rfl,
    show (dats m 0 c).owesAt () t.succ = (dats m 0 c).owesAt () t.castSucc from rfl,
    after0, after1, after2, after3, after4, after5]
  by_cases h4 : t.val % 4 = 0
  · refine (sep_mono_left (carried_any m c t.val)).trans ?_
    unfold mainOut small hid
    rw [first_self t h4]
    iintro ⟨⟨⟨%ds, Hs⟩, Hp⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (iblk m c 2 t) (iblk m c 3 t) ((cond_iff t).mpr h4) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hp]
    · isplitl [Hs]; · iexact Hs
      iexact Hp
    isplitl [Ho]; · iexact Ho
    isplitl [H0]; · iexact H0
    isplitl [H1]; · iexact H1
    isplitl [H2]; · iexact H2
    isplitl [H3]; · iexact H3
    isplitl [H4]; · iexact H4
    iexact H5
  · simp only [before5 m c t.val t.isLt h4]
    rw [carried_later m c t.val h4]
    unfold mainOut
    iintro ⟨⟨Hs, Hp⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ _ _ (iblk m c 2 t) (hid m c t.val) (fun h => h4 ((cond_iff t).mp h)) Set.univ _)
    isplitl [H2]; · iexact H2
    isplitl [H4]; · iexists _; iexact H4
    isplitl [Hs]; · iexact Hs
    iintro ⟨H2, H4, Hs⟩
    isplitl [Hs Hp]
    · isplitl [Hs]; · iexact Hs
      iexact Hp
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body at `t`. -/
theorem defs₀_row (t : Fin cfg0.N) : defs₀ (F := F) .tc cfg0.body (cfg0.bodyArgs t (cfg0.slots t)) = bodyAt0 t := by
  unfold defs₀; rw [Defs.onTc_tc]

/-- The second output's buffer holds what the obligation asks of it: at a point that neither stores nor writes back, what was found. -/
theorem leaves5 (c : Dev nD) (t : Fin cfg0.N) : owns (c : Thread nD τ) (st0_5 t) fullShare ((dats m 0 c).after 5 t) ⊢ (dats (F := F) m 0 c).leavesExact 5 t := by
  unfold Dat.leavesExact
  by_cases h4 : t.val % 4 = 0
  · rw [show cfg0.idle 5 (cfg0.grid.coords t) = false from (idle5 t).trans (by simp [h4])]
  · rw [show cfg0.idle 5 (cfg0.grid.coords t) = true from (idle5 t).trans (by simp [h4])]
    cases (cfg0.win 5).flush t
    · rw [after5, ← before5 m c t.val t.isLt h4 ((dats m 0 c).after 5 t)]
      iintro H; iexists _; iexact H
    · exact .rfl

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono_right (sep_mono_right (sep_mono_right (sep_mono_right (sep_mono_right (sep_mono_right (sep_mono_right (leaves5 m c t)))))))

/-! ## The run -/

theorem share_eq (c : Dev nD) (w : Fin cfg0.W) : (dats m 0 c).share w = fullShare := by
  unfold Dat.share; split <;> rfl

/-- After the last point the scratch is given back at whatever it holds. -/
theorem carried_end (c : Dev nD) : (dats m 0 c).Φ (Fin.last cfg0.N) ⊢ Pipeline.ΦA spec0 c := by
  rw [show (dats m 0 c).Φ (Fin.last cfg0.N) = carried m c 192 from rfl]
  refine (carried_any m c 192).trans ?_
  unfold Pipeline.ΦA
  rw [scopedRest0_eq]
  iintro ⟨⟨%d, H⟩, Hp⟩
  isplitl [H]
  · iexists d
    iapply (Entails.of_eq (owns_whole (c : Thread nD τ) cc0_scratch0 fullShare d)); iexact H
  · iexact Hp

set_option backward.isDefEq.respectTransparency.types false in
/-- From any memory with zero counters every fair execution of @main ends, with every array of the pipeline at what the proof
    data give, every other argument as it was found, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => share_eq m c w)
    (howed := fun _ _ => rfl) (V := V m) (hmain := hmain m Variants.none) (hA := A_eq m)
    (hin := fun _ => .rfl) (hout := carried_end m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.Kernel2Ideal.Proj

end
-- ==== Proof.InprojFrames.lean ====
/-
  The frames of the input projection: its program, its idealization, which has the same text, and its reference.
-/
module

public import proofs.«01_k».proof.Defs
public import proofs.«01_k».proof.Proof.InprojFrame
public import proofs.«01_k».proof.Proof.Gen.Kernel2
public import proofs.«01_k».proof.Proof.Gen.Reference2Ideal.Run
public import Idealize.ShloMosaic.Lib.Quiescent

@[expose] public section

noncomputable section

open Idealize.ShloMosaic Idealize.ShloMosaic.TcCoe Idealize.SL.Sem

namespace Cert.Proof.InprojFrames

/-- The two programs' tables of kernel functions agree: each has one entry, and the two functions have one text. -/
theorem defs₀_eq : Cert.Kernel2.defs₀ (F := Bits) = Cert.Kernel2Ideal.defs₀ (F := Bits) :=
  congrArg (Defs.onTc (Λ := Cert.Kernel2.Λ₀)) (funext fun l => match l with | ⟨0, _⟩ => funext fun ⟨_, _⟩ => rfl)
/-- So their tables of all functions agree. -/
theorem defs_eq : Cert.Kernel2.defs (F := Bits) = Cert.Kernel2Ideal.defs (F := Bits) :=
  congrArg (Pipeline.defs Cert.Kernel2.pcfgs) defs₀_eq

/-- The input projection terminates, leaves its arguments as they were and its counters at zero: the run is proved for any float
    values, and the two programs have one text. -/
theorem frame_p : Cert.quiescent_Kernel2 := fun m ρ _ => by
  rw [defs_eq]
  exact Cert.Kernel2Ideal.Proj.frame (F := Bits) m ρ
/-- So does its idealization. -/
theorem frame_pi : Cert.quiescent_Kernel2Ideal := fun m ρ _ => Cert.Kernel2Ideal.Proj.frame m ρ
/-- So does its reference. -/
theorem frame_ri : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.Proof.InprojFrames

end
-- ==== Proof.InprojSpec.lean ====
/-
  The input projection as a formula: a row normalized by its root mean square, and its product with a column of the weights.
-/
module

public import Idealize.ShloMosaic.Lib.ValueIdx
public import Idealize.ShloMosaic.PureOps

@[expose] public section

noncomputable section

open Idealize.ShloMosaic
open scoped BigOperators

namespace Cert.Inproj

/-- Entry `k` of a row normalized by its root mean square, times the gain. -/
def normAt (x g : Fin 1024 → EReal) (k : Fin 1024) : EReal :=
  x k * Ideal.rsqrt (Ideal.div (∑ e, x e * x e) (Ideal.ofBits .f32 0x44800000#32) + Ideal.ofBits .f32 0x358637BD#32) * g k

/-- The normalized row's product with a column of the weights. -/
def projAt (x g w : Fin 1024 → EReal) : EReal := ∑ k, normAt x g k * w k

/-- The weights' column that column `j` of the main result comes from: the last 3072, the first 2048, those from 2064 on. -/
def col (j : Fin 9728) : Fin 9744 :=
  ⟨if j.val < 3072 then 6672 + j.val else if j.val < 5120 then j.val - 3072 else 2064 + (j.val - 5120), by split <;> [omega; split <;> omega]⟩

variable (x : (⟨2, ![49152, 1024]⟩ : Shape).Idx → EReal) (g : (⟨1, ![1024]⟩ : Shape).Idx → EReal) (w : (⟨2, ![1024, 9744]⟩ : Shape).Idx → EReal)

/-- The projection at row `r` and the weights' column `j`. -/
def proj (r : Fin 49152) (j : Fin 9744) : EReal :=
  projAt (fun k => x (ValueIdx.ix2 r k)) (fun k => g (ValueIdx.ix1 k)) (fun k => w (ValueIdx.ix2 k j))

/-- The main result: the projection, its columns in the order above. -/
def mainRes (i : (⟨2, ![49152, 9728]⟩ : Shape).Idx) : EReal := proj x g w (i 0) (col (i 1))

/-- The small result: the projection's sixteen remaining columns, and zeros up to column 128. -/
def smallRes (i : (⟨2, ![49152, 128]⟩ : Shape).Idx) : EReal :=
  if h : (i 1).val < 16 then proj x g w (i 0) ⟨2048 + (i 1).val, by omega⟩ else 0

end Cert.Inproj

end
-- ==== Proof.InprojValue.lean ====
/-
  The input projection's idealized kernel, read at an index: the arrays its run leaves are the two results of Proof/InprojSpec.lean.
-/
module

public import proofs.«01_k».proof.Proof.InprojFrame
public import proofs.«01_k».proof.Proof.InprojSpec
public import proofs.«01_k».proof.Proof.AttnBody
public import Idealize.ShloMosaic.Lib.Pipeline.Value
public import Idealize.ShloMosaic.Lib.MatmulPlain
public import Idealize.ShloMosaic.Lib.IdealHost
public import Idealize.ShloMosaic.Lib.KernelVsHost
public import Idealize.ShloMosaic.Lib.StableHlo.RunClose

@[expose] public section

noncomputable section

open Idealize.ShloMosaic Idealize.ShloMosaic.TcCoe Idealize.SL.Sem Idealize.ShloMosaic.ValueIdx
open Idealize.ShloMosaic.Pipeline (Dat)
open scoped BigOperators

namespace Cert.Kernel2Ideal.Proj

open Cert.Kernel2Ideal Cert.Kernel2Ideal.Gen Cert.Inproj

/-! ## What the body computes -/

theorem sum_apply (s : FVec Ideal S1024x1024 .f32) (a : Fin 1024) :
    multiReduction .add [1] S1024 s 0x00000000#32 reduces_S1024x1024_S1024 (.inl rfl) rfl (ix1 a) = ∑ j : Fin 1024, s (ix2 a j) := by
  refine (Ideal.multiReduction_add_single ..).trans ?_
  exact Finset.sum_congr rfl fun k _ => congrArg s ((eq_ix2 _).trans rfl)

/-- The normalized rows. -/
theorem pay1_apply (x : Vec Ideal S1024x1024 .f32) (g : Vec Ideal S1x1024 .f32) (a b : Fin 1024) :
    k0_pay1 (F := Ideal) x g (ix2 a b) = normAt (fun k => x (ix2 a k)) (fun k => g (ix2 0 k)) b := by
  unfold k0_pay1
  dsimp only
  have er : ∀ (y : FVec Ideal S1024x1 .f32) i, rsqrt y i = Ideal.rsqrt (y i) := fun _ _ => rfl
  rw [truncf_apply, mulf_apply, mulf_apply, Cert.KernelIdeal.Attend.broadcastTo_a1_ab_apply, broadcastTo_1b_ab_apply, shapeCast_self, er, addf_apply,
    divf_apply, shapeCast_a_a1_apply, sum_apply]
  rfl

/-- The small product. -/
theorem pay3_apply (x : Vec Ideal S1024x1024 .f32) (g : Vec Ideal S1x1024 .f32) (w : Vec Ideal S1024x128 .bf16) (a : Fin 1024) (b : Fin 128) :
    k0_pay3 (F := Ideal) x g w (ix2 a b) = projAt (fun k => x (ix2 a k)) (fun k => g (ix2 0 k)) (fun k => w (ix2 k b)) := by
  unfold k0_pay3
  have e1 : dot_S1024x1024_S1024x128_S1024x128_1_0_0_1_n_n = DotDims.plain 1024 1024 128 := rfl
  simp only [shapeCast_self, e1, matmul]
  rw [Ideal.matmul_plain_apply, constant_apply, Ideal.ofBits_zero_f32, zero_add]
  unfold projAt
  exact Finset.sum_congr rfl fun k _ => congrArg (· * w (ix2 k b)) (pay1_apply x g a k)

/-- The product with the point's columns. -/
theorem pay4_apply (x : Vec Ideal S1024x1024 .f32) (g : Vec Ideal S1x1024 .f32) (w : Vec Ideal S1024x2432 .bf16) (a : Fin 1024) (b : Fin 2432) :
    k0_pay4 (F := Ideal) (k0_pay2 x g) w (ix2 a b) = projAt (fun k => x (ix2 a k)) (fun k => g (ix2 0 k)) (fun k => w (ix2 k b)) := by
  unfold k0_pay4 k0_pay2
  have e1 : dot_S1024x1024_S1024x2432_S1024x2432_1_0_0_1_n_n = DotDims.plain 1024 1024 2432 := rfl
  simp only [shapeCast_self, e1, matmul]
  rw [truncf_apply, Ideal.matmul_plain_apply, constant_apply, Ideal.ofBits_zero_f32, zero_add]
  unfold projAt
  exact Finset.sum_congr rfl fun k _ => congrArg (· * w (ix2 k b)) (pay1_apply x g a k)

/-! ## The weights and the gain, as the launch finds them -/

/-- Three slices of the weights side by side. -/
def wide (w : Vec Ideal S1024x9744 .f32) : Vec Ideal S1024x9728 .f32 :=
  concatenate S1024x9728 1 [⟨S1024x3072, extractStridedSlice S1024x3072 ![0, 6672] w slices_S1024x9744_S1024x3072_0_6672⟩,
    ⟨S1024x2048, extractStridedSlice S1024x2048 ![0, 0] w slices_S1024x9744_S1024x2048_0_0⟩,
    ⟨S1024x4608, extractStridedSlice S1024x4608 ![0, 2064] w slices_S1024x9744_S1024x4608_0_2064⟩]
    concatenates_S1024x3072_S1024x2048_S1024x4608_S1024x9728_d1

/-- A slice of the weights at row `k`. -/
theorem slice_apply (w : Vec Ideal S1024x9744 .f32) {n : ℕ} (o : ℕ) (h : S1024x9744.Slices ![0, o] ⟨2, ![1024, n]⟩) (k : Fin 1024) (j : Fin n)
    (j' : Fin 9744) (hj : j'.val = o + j.val) : extractStridedSlice ⟨2, ![1024, n]⟩ ![0, o] w h (ix2 k j) = w (ix2 k j') :=
  extractStridedSlice_apply ![0, o] w h (ix2 k j) (ix2 k j') fun a => match a with
    | ⟨0, _⟩ => by show k.val = 0 + k.val; omega
    | ⟨1, _⟩ => hj

theorem wide_apply (w : Vec Ideal S1024x9744 .f32) (k : Fin 1024) (j : Fin 9728) : wide w (ix2 k j) = w (ix2 k (col j)) := by
  unfold wide
  by_cases h : j.val < 3072
  · refine (concatenate_apply_piece (t := S1024x9728) 1 [⟨S1024x3072, _⟩, ⟨S1024x2048, _⟩, ⟨S1024x4608, _⟩] _ _ 0 (show 0 < 3 by decide)
      S1024x3072 _ rfl rfl 0 rfl (ix2 k ⟨j.val, h⟩) (fun b hb => ?_) ?_).trans ?_
    · match b with
      | ⟨0, _⟩ => rfl
      | ⟨1, _⟩ => exact absurd rfl hb
    · show 0 + j.val = j.val; omega
    · exact slice_apply w 6672 _ k ⟨j.val, h⟩ (col j) (by simp [col, h])
  by_cases h' : j.val < 5120
  · refine (concatenate_apply_piece (t := S1024x9728) 1 [⟨S1024x3072, _⟩, ⟨S1024x2048, _⟩, ⟨S1024x4608, _⟩] _ _ 1 (show 1 < 3 by decide)
      S1024x2048 _ rfl rfl 3072 rfl (ix2 k ⟨j.val - 3072, by omega⟩) (fun b hb => ?_) ?_).trans ?_
    · match b with
      | ⟨0, _⟩ => rfl
      | ⟨1, _⟩ => exact absurd rfl hb
    · show 3072 + (j.val - 3072) = j.val; omega
    · exact slice_apply w 0 _ k ⟨j.val - 3072, by omega⟩ (col j) (by simp [col, h, h'])
  · refine (concatenate_apply_piece (t := S1024x9728) 1 [⟨S1024x3072, _⟩, ⟨S1024x2048, _⟩, ⟨S1024x4608, _⟩] _ _ 2 (show 2 < 3 by decide)
      S1024x4608 _ rfl rfl 5120 rfl (ix2 k ⟨j.val - 5120, by have := j.isLt; omega⟩) (fun b hb => ?_) ?_).trans ?_
    · match b with
      | ⟨0, _⟩ => rfl
      | ⟨1, _⟩ => exact absurd rfl hb
    · show 5120 + (j.val - 5120) = j.val; omega
    · exact slice_apply w 2064 _ k ⟨j.val - 5120, by have := j.isLt; omega⟩ (col j) (by simp [col, h, h'])

/-- Sixteen columns of the weights, and zeros up to column 128. -/
def narrow (w : Vec Ideal S1024x9744 .f32) : Vec Ideal S1024x128 .f32 :=
  pad S1024x128 ![0, 0] ![0, 112] ![0, 0] (extractStridedSlice S1024x16 ![0, 2048] w slices_S1024x9744_S1024x16_0_2048)
    (sitofp (F := Ideal) .f32 (constantI S_ 32 0#32)) pads_S1024x16_S1024x128_000_01120 h_S_

theorem narrow_apply (w : Vec Ideal S1024x9744 .f32) (k : Fin 1024) (j : Fin 128) :
    narrow w (ix2 k j) = if h : j.val < 16 then w (ix2 k ⟨2048 + j.val, by omega⟩) else 0 := by
  unfold narrow
  by_cases h : j.val < 16
  · rw [dif_pos h]
    refine (pad_apply_of_inside (s := S1024x16) (t := S1024x128) ![0, 0] ![0, 112] ![0, 0] _ _ _ h_S_ (ix2 k j) (ix2 k ⟨j.val, h⟩) fun a => ?_).trans
      (slice_apply w 2048 _ k ⟨j.val, h⟩ ⟨2048 + j.val, by omega⟩ rfl)
    match a with
    | ⟨0, _⟩ => show k.val = 0 + k.val * (0 + 1); omega
    | ⟨1, _⟩ => show j.val = 0 + j.val * (0 + 1); omega
  · rw [dif_neg h]
    refine (pad_apply_of_not_inside (s := S1024x16) (t := S1024x128) ![0, 0] ![0, 112] ![0, 0] _ _ _ h_S_ (ix2 k j) 1 fun hin => ?_).trans ?_
    · have h2 : (j.val - 0) / (0 + 1) < 16 := hin.2.2
      rw [Nat.div_one] at h2
      omega
    · show (((0#32).toInt : ℝ) : EReal) = 0
      simp

variable (m : (ℓ : Loc nD τ sig) → Buf (Elt Ideal) ℓ) (ρ : Dev nD → PrngReg)

theorem V_v4 (c : Dev nD) : (V m c main_v4 : Vec Ideal S1024x9728 .bf16) = wide (m ((c : Thread nD τ).loc main_arg2)) := by
  unfold V
  simp only [hostOps0, hostOps0_1, hostOps0_2, List.flatten_cons, List.flatten_nil, List.append_nil, List.cons_append, List.nil_append]
  after_results_entrywise (rounds := 1) []
theorem V_v7 (c : Dev nD) : (V m c main_v7 : Vec Ideal S1024x128 .bf16) = narrow (m ((c : Thread nD τ).loc main_arg2)) := by
  unfold V
  simp only [hostOps0, hostOps0_1, hostOps0_2, List.flatten_cons, List.flatten_nil, List.append_nil, List.cons_append, List.nil_append]
  after_results_entrywise (rounds := 1) []
theorem V_v8 (c : Dev nD) : (V m c main_v8 : Vec Ideal S1x1024 .f32)
    = broadcastInDim S1x1024 ![1] bcast_S1024_S1x1024_1 (m ((c : Thread nD τ).loc main_arg1) : Vec Ideal S1024 .f32) := by
  unfold V
  simp only [hostOps0, hostOps0_1, hostOps0_2, List.flatten_cons, List.flatten_nil, List.append_nil, List.cons_append, List.nil_append]
  after_results_entrywise (rounds := 1) []

/-! ## The blocks -/

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)
theorem idxs5 : ∀ t : Fin cfg0.N, win0_5.index t 0 = t.val / 4 ∧ win0_5.index t 1 = 0 :=
  (by decide +kernel : ∀ t : Fin grid0.N, win0_5.index t 0 = t.val / 4 ∧ win0_5.index t 1 = 0)

/-- The array row that row `a` of point `t`'s block is, -/
def row (t : Fin cfg0.N) (a : Fin 1024) : Fin 49152 := ⟨t.val / 4 * 1024 + a.val, by have := lt_N t; omega⟩
/-- and the array column that column `b` is. -/
def column (t : Fin cfg0.N) (b : Fin 2432) : Fin 9728 := ⟨t.val % 4 * 2432 + b.val, by omega⟩

/-- The first point of a block of rows has the block's rows. -/
theorem row_first (t : Fin cfg0.N) (a : Fin 1024) : row (first t.val) a = row t a :=
  Fin.ext (show t.val / 4 * 4 % 192 / 4 * 1024 + a.val = t.val / 4 * 1024 + a.val by have := lt_N t; omega)

theorem blk0 (c : Dev nD) (t : Fin cfg0.N) (a b : Fin 1024) :
    (iblk m c 0 t : Vec Ideal S1024x1024 .f32) (ix2 a b) = (m ((c : Thread nD τ).loc main_arg0) : Vec Ideal S49152x1024 .f32) (ix2 (row t a) b) := by
  show V m c main_arg0 (((cfg0.win 0).blk t).view.emb (ix2 a b)) = _
  rw [V_main_arg0]
  refine congrArg _ (funext fun x => Fin.ext ?_)
  match x with
  | ⟨0, _⟩ => show win0_0.index t 0 * 1024 + 1 * a.val = t.val / 4 * 1024 + a.val; rw [(idx0 t).1]; omega
  | ⟨1, _⟩ => show win0_0.index t 1 * 1024 + 1 * b.val = b.val; rw [(idx0 t).2]; omega
theorem blk1 (c : Dev nD) (t : Fin cfg0.N) (b : Fin 1024) :
    (iblk m c 1 t : Vec Ideal S1x1024 .f32) (ix2 0 b) = (m ((c : Thread nD τ).loc main_arg1) : Vec Ideal S1024 .f32) (ix1 b) := by
  show (V m c main_v8 : Vec Ideal S1x1024 .f32) (((cfg0.win 1).blk t).view.emb (ix2 0 b)) = _
  rw [V_v8]
  refine broadcastInDim_apply _ _ _ _ (ix1 b) fun x => ?_
  match x with
  | ⟨0, _⟩ =>
    show b.val = if (1024 : Nat) = 1 then 0 else win0_1.index t 1 * 1024 + 1 * b.val
    rw [if_neg (by decide), (idx1 t).2]; omega
theorem blk2 (c : Dev nD) (t : Fin cfg0.N) (a : Fin 1024) (b : Fin 2432) :
    (iblk m c 2 t : Vec Ideal S1024x2432 .bf16) (ix2 a b) = (m ((c : Thread nD τ).loc main_arg2) : Vec Ideal S1024x9744 .f32) (ix2 a (col (column t b))) := by
  show (V m c main_v4 : Vec Ideal S1024x9728 .bf16) (((cfg0.win 2).blk t).view.emb (ix2 a b)) = _
  rw [V_v4]
  refine (congrArg (wide _) (funext fun x => Fin.ext ?_)).trans (wide_apply (m ((c : Thread nD τ).loc main_arg2)) a (column t b))
  match x with
  | ⟨0, _⟩ => show win0_2.index t 0 * 1024 + 1 * a.val = a.val; rw [(idx2 t).1]; omega
  | ⟨1, _⟩ => show win0_2.index t 1 * 2432 + 1 * b.val = t.val % 4 * 2432 + b.val; rw [(idx2 t).2]; omega
theorem blk3 (c : Dev nD) (t : Fin cfg0.N) (a : Fin 1024) (b : Fin 128) :
    (iblk m c 3 t : Vec Ideal S1024x128 .bf16) (ix2 a b) = narrow (m ((c : Thread nD τ).loc main_arg2)) (ix2 a b) := by
  show (V m c main_v7 : Vec Ideal S1024x128 .bf16) (((cfg0.win 3).blk t).view.emb (ix2 a b)) = _
  rw [V_v7]
  refine congrArg _ (funext fun x => Fin.ext ?_)
  match x with
  | ⟨0, _⟩ => show win0_3.index t 0 * 1024 + 1 * a.val = a.val; rw [(idx3 t).1]; omega
  | ⟨1, _⟩ => show win0_3.index t 1 * 128 + 1 * b.val = b.val; rw [(idx3 t).2]; omega

/-! ## The two results -/

/-- What the two result arrays are shown to hold. -/
def G0 (c : Dev nD) : Buf (Elt Ideal) ((c : Thread nD τ).loc main_v9_0) :=
  mainRes (m ((c : Thread nD τ).loc main_arg0)) (m ((c : Thread nD τ).loc main_arg1)) (m ((c : Thread nD τ).loc main_arg2))
def G1 (c : Dev nD) : Buf (Elt Ideal) ((c : Thread nD τ).loc main_v9_1) :=
  smallRes (m ((c : Thread nD τ).loc main_arg0)) (m ((c : Thread nD τ).loc main_arg1)) (m ((c : Thread nD τ).loc main_arg2))

/-- The rows and the gain the body normalizes at point `t`. -/
theorem rows_first (c : Dev nD) (t : Fin cfg0.N) (a : Fin 1024) : (fun k => (iblk m c 0 (first t.val) : Vec Ideal S1024x1024 .f32) (ix2 a k))
    = fun k => (m ((c : Thread nD τ).loc main_arg0) : Vec Ideal S49152x1024 .f32) (ix2 (row t a) k) :=
  funext fun k => (blk0 m c (first t.val) a k).trans (by rw [row_first])
theorem gain_first (c : Dev nD) (t : Fin cfg0.N) : (fun k => (iblk m c 1 (first t.val) : Vec Ideal S1x1024 .f32) (ix2 0 k))
    = fun k => (m ((c : Thread nD τ).loc main_arg1) : Vec Ideal S1024 .f32) (ix1 k) :=
  funext fun k => blk1 m c (first t.val) k

/-- The product with columns that are all zero is zero. -/
theorem projAt_zero (x g : Fin 1024 → EReal) : projAt x g (fun _ => 0) = 0 :=
  Finset.sum_eq_zero fun _ _ => mul_zero _

theorem mainOut_apply (c : Dev nD) (t : Fin cfg0.N) (a : Fin 1024) (b : Fin 2432) :
    (mainOut m c t : Vec Ideal S1024x2432 .bf16) (ix2 a b) = proj (m ((c : Thread nD τ).loc main_arg0)) (m ((c : Thread nD τ).loc main_arg1))
      (m ((c : Thread nD τ).loc main_arg2)) (row t a) (col (column t b)) := by
  unfold mainOut hid
  rw [pay4_apply, rows_first, gain_first, show (fun k => (iblk m c 2 t : Vec Ideal S1024x2432 .bf16) (ix2 k b)) = _ from funext fun k => blk2 m c t k b]
  rfl

theorem small_apply (c : Dev nD) (t : Fin cfg0.N) (a : Fin 1024) (b : Fin 128) :
    (small m c t.val : Vec Ideal S1024x128 .f32) (ix2 a b) = G1 m c (ix2 (row t a) b) := by
  unfold small
  rw [pay3_apply, rows_first, gain_first, show (fun k => (iblk m c 3 (first t.val) : Vec Ideal S1024x128 .bf16) (ix2 k b)) = _ from
    funext fun k => (blk3 m c (first t.val) k b).trans (narrow_apply _ k b)]
  show _ = smallRes _ _ _ (ix2 (row t a) b)
  unfold smallRes
  by_cases h : b.val < 16
  · rw [dif_pos (show ((ix2 (row t a) b : S49152x128.Idx) 1).val < 16 from h)]
    simp only [dif_pos h]
    rfl
  · rw [dif_neg (show ¬((ix2 (row t a) b : S49152x128.Idx) 1).val < 16 from h)]
    simp only [dif_neg h]
    exact projAt_zero _ _

theorem flushed4 (c : Dev nD) (t : Fin cfg0.N) : (dats m 0 c).flushed 4 t = ((cfg0.win 4).blk t).view.read (Elt Ideal) (G0 m c) := by
  show (cfg0.win 4).cut (grid0.coords t) ((dats m 0 c).after 4 t) = _
  rw [after4]
  funext j
  obtain ⟨a, b, rfl⟩ : ∃ (a : Fin 1024) (b : Fin 2432), j = ix2 a b := ⟨j 0, j 1, eq_ix2 j⟩
  refine (mainOut_apply m c t a b).trans ?_
  have e : ((cfg0.win 4).blk t).view.emb (ix2 a b) = (ix2 (row t a) (column t b) : S49152x9728.Idx) := by
    refine funext fun x => Fin.ext ?_
    match x with
    | ⟨0, _⟩ => show win0_4.index t 0 * 1024 + 1 * a.val = t.val / 4 * 1024 + a.val; rw [(idx4 t).1]; omega
    | ⟨1, _⟩ => show win0_4.index t 1 * 2432 + 1 * b.val = t.val % 4 * 2432 + b.val; rw [(idx4 t).2]; omega
  show _ = G0 m c (((cfg0.win 4).blk t).view.emb (ix2 a b))
  rw [e]
  rfl

theorem flushed5 (c : Dev nD) (t : Fin cfg0.N) : (dats m 0 c).flushed 5 t = ((cfg0.win 5).blk t).view.read (Elt Ideal) (G1 m c) := by
  show (cfg0.win 5).cut (grid0.coords t) ((dats m 0 c).after 5 t) = _
  rw [after5]
  funext j
  obtain ⟨a, b, rfl⟩ : ∃ (a : Fin 1024) (b : Fin 128), j = ix2 a b := ⟨j 0, j 1, eq_ix2 j⟩
  refine (small_apply m c t a b).trans ?_
  have e : ((cfg0.win 5).blk t).view.emb (ix2 a b) = (ix2 (row t a) b : S49152x128.Idx) := by
    refine funext fun x => Fin.ext ?_
    match x with
    | ⟨0, _⟩ => show win0_5.index t 0 * 1024 + 1 * a.val = t.val / 4 * 1024 + a.val; rw [(idxs5 t).1]; omega
    | ⟨1, _⟩ => show win0_5.index t 1 * 128 + 1 * b.val = b.val; rw [(idxs5 t).2]; omega
  show _ = G1 m c (((cfg0.win 5).blk t).view.emb (ix2 a b))
  rw [e]

/-- The blocks written back fill the main result, -/
theorem cover4 (i : S49152x9728.Idx) : ∃ t : Fin cfg0.N, (cfg0.win 4).flush t = true ∧ i ∈ ((cfg0.win 4).blk t).view.set := by
  have h0 : (i 0).val < 49152 := (i 0).isLt
  have h1 : (i 1).val < 9728 := (i 1).isLt
  have hN : cfg0.N = 192 := N_0
  obtain ⟨t, ht⟩ : ∃ t : Fin cfg0.N, t.val = (i 0).val / 1024 * 4 + (i 1).val / 2432 := ⟨⟨(i 0).val / 1024 * 4 + (i 1).val / 2432, by omega⟩, rfl⟩
  refine ⟨t, flush0_4 _, ?_⟩
  show i ∈ ((View.whole main_v9_0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(idx4 t).1]; omega
  | ⟨1, _⟩ =>
    show win0_4.index t 1 * 2432 ≤ (i 1).val ∧ (i 1).val < win0_4.index t 1 * 2432 + 2432
    rw [(idx4 t).2]; omega
/-- and the small one. -/
theorem cover5 (i : S49152x128.Idx) : ∃ t : Fin cfg0.N, (cfg0.win 5).flush t = true ∧ i ∈ ((cfg0.win 5).blk t).view.set := by
  have h0 : (i 0).val < 49152 := (i 0).isLt
  have h1 : (i 1).val < 128 := (i 1).isLt
  have hN : cfg0.N = 192 := N_0
  obtain ⟨t, ht⟩ : ∃ t : Fin cfg0.N, t.val = (i 0).val / 1024 * 4 + 3 := ⟨⟨(i 0).val / 1024 * 4 + 3, by omega⟩, rfl⟩
  refine ⟨t, (flush0_5 _).mpr (by omega), ?_⟩
  show i ∈ ((View.whole main_v9_1).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [(idxs5 t).1]; omega
  | ⟨1, _⟩ =>
    show win0_5.index t 1 * 128 ≤ (i 1).val ∧ (i 1).val < win0_5.index t 1 * 128 + 128
    rw [(idxs5 t).2]; omega

/-- So the two result arrays end holding the two formulas. -/
theorem final4 (c : Dev nD) : (dats m 0 c).arrAt 4 cfg0.N = G0 m c :=
  (dats m 0 c).arrAt_eq_of_cover 4 (G0 m c) (fun t _ => flushed4 m c t) cover4
theorem final5 (c : Dev nD) : (dats m 0 c).arrAt 5 cfg0.N = G1 m c :=
  (dats m 0 c).arrAt_eq_of_cover 5 (G1 m c) (fun t _ => flushed5 m c t) cover5

end Cert.Kernel2Ideal.Proj

end
-- ==== Proof.InprojRef.lean ====
/-
  The input projection's reference, read at an index: its two results are the two of Proof/InprojSpec.lean.
-/
module

public import proofs.«01_k».proof.Proof.Gen.Reference2Ideal.Read
public import proofs.«01_k».proof.Proof.InprojSpec
public import Idealize.ShloMosaic.Lib.Pipeline.Value
public import Idealize.ShloMosaic.Lib.IdealHost

@[expose] public section

noncomputable section

open Idealize.ShloMosaic Idealize.ShloMosaic.TcCoe Idealize.SL.Sem Idealize.ShloMosaic.ValueIdx
open scoped BigOperators

namespace Cert.Reference2Ideal.Proj

open Cert.Reference2Ideal Cert.Reference2Ideal.Read Cert.Inproj

variable (x0 : (⟨S49152x1024, .f32⟩ : BufTy).Contents (Elt Ideal)) (x1 : (⟨S1024, .f32⟩ : BufTy).Contents (Elt Ideal))
  (x2 : (⟨S1024x9744, .f32⟩ : BufTy).Contents (Elt Ideal))

/-- A row's sum of squares. -/
theorem squares_apply (r : Fin 49152) : val_main_v1 (F := Ideal) x0 (ix1 r) = ∑ e : Fin 1024, x0 (ix2 r e) * x0 (ix2 r e) := by
  rw [val_main_v1_apply, val_main_cst_apply, Ideal.ofBits_def, Ideal.ofBits_zero_f32, zero_add]
  refine Finset.sum_congr rfl fun e _ => ?_
  rw [val_main_v0_apply, show idx_main_v1 (ix1 r) e = ix2 r e from (eq_ix2 _).trans rfl]
  rfl

/-- The normalized rows. -/
theorem norm_apply (r : Fin 49152) (k : Fin 1024) :
    val_main_v12 (F := Ideal) x0 x1 (ix2 r k) = normAt (fun k => x0 (ix2 r k)) (fun k => x1 (ix1 k)) k := by
  rw [val_main_v12_apply, val_main_v9_apply, val_main_v8_apply, val_main_v7_apply, val_main_v6_apply, val_main_v5_apply,
    val_main_cst_1_apply, val_main_v4_apply, val_main_v3_apply, val_main_cst_0_apply, val_main_v2_apply, val_main_v11_apply, val_main_v10_apply,
    show idx_main_v2 (idx_main_v8 (ix2 r k)) = ix1 r from (eq_ix1 _).trans rfl,
    show idx_main_v10 (idx_main_v11 (ix2 r k)) = ix1 k from (eq_ix1 _).trans rfl, squares_apply]
  rfl

/-- The projection. -/
theorem proj_apply (r : Fin 49152) (j : Fin 9744) : val_main_v13 (F := Ideal) x0 x1 x2 (ix2 r j) = proj x0 x1 x2 r j := by
  rw [val_main_v13_apply]
  unfold proj projAt
  refine Finset.sum_congr rfl fun k _ => ?_
  rw [show lidx_main_v13 (ix2 r j) k = ix2 r k from (eq_ix2 _).trans rfl, show ridx_main_v13 (ix2 r j) k = ix2 k j from (eq_ix2 _).trans rfl,
    norm_apply]

/-- The main result. -/
theorem main_apply (i : S49152x9728.Idx) : val_main_v21 (F := Ideal) x0 x1 x2 i = mainRes x0 x1 x2 i := by
  obtain ⟨r, j, rfl⟩ : ∃ (r : Fin 49152) (j : Fin 9728), i = ix2 r j := ⟨i 0, i 1, eq_ix2 i⟩
  rw [val_main_v21_apply, Ideal.truncf_def]
  show val_main_v17 (F := Ideal) x0 x1 x2 (ix2 r j) = proj x0 x1 x2 r (col j)
  unfold val_main_v17
  by_cases h : j.val < 3072
  · refine (concatenate_apply_piece (t := S49152x9728) 1 [⟨S49152x3072, _⟩, ⟨S49152x2048, _⟩, ⟨S49152x4608, _⟩] _ _ 0 (show 0 < 3 by decide)
      S49152x3072 _ rfl rfl 0 rfl (ix2 r ⟨j.val, h⟩) (fun b hb => ?_) ?_).trans ?_
    · match b with
      | ⟨0, _⟩ => rfl
      | ⟨1, _⟩ => exact absurd rfl hb
    · show 0 + j.val = j.val; omega
    · rw [val_main_v14_apply, ← proj_apply]
      refine congrArg _ ((eq_ix2 _).trans (congrArg (ix2 r) (Fin.ext ?_)))
      show 6672 + j.val = (col j).val
      simp [col, h]
  by_cases h' : j.val < 5120
  · refine (concatenate_apply_piece (t := S49152x9728) 1 [⟨S49152x3072, _⟩, ⟨S49152x2048, _⟩, ⟨S49152x4608, _⟩] _ _ 1 (show 1 < 3 by decide)
      S49152x2048 _ rfl rfl 3072 rfl (ix2 r ⟨j.val - 3072, by omega⟩) (fun b hb => ?_) ?_).trans ?_
    · match b with
      | ⟨0, _⟩ => rfl
      | ⟨1, _⟩ => exact absurd rfl hb
    · show 3072 + (j.val - 3072) = j.val; omega
    · rw [val_main_v15_apply, ← proj_apply]
      refine congrArg _ ((eq_ix2 _).trans (congrArg (ix2 r) (Fin.ext ?_)))
      show j.val - 3072 = (col j).val
      simp [col, h, h']
  · refine (concatenate_apply_piece (t := S49152x9728) 1 [⟨S49152x3072, _⟩, ⟨S49152x2048, _⟩, ⟨S49152x4608, _⟩] _ _ 2 (show 2 < 3 by decide)
      S49152x4608 _ rfl rfl 5120 rfl (ix2 r ⟨j.val - 5120, by have := j.isLt; omega⟩) (fun b hb => ?_) ?_).trans ?_
    · match b with
      | ⟨0, _⟩ => rfl
      | ⟨1, _⟩ => exact absurd rfl hb
    · show 5120 + (j.val - 5120) = j.val; omega
    · rw [val_main_v16_apply, ← proj_apply]
      refine congrArg _ ((eq_ix2 _).trans (congrArg (ix2 r) (Fin.ext ?_)))
      show 2064 + (j.val - 5120) = (col j).val
      simp [col, h, h']

/-- The small result. -/
theorem small_apply (i : S49152x128.Idx) : val_main_v20 (F := Ideal) x0 x1 x2 i = smallRes x0 x1 x2 i := by
  obtain ⟨r, j, rfl⟩ : ∃ (r : Fin 49152) (j : Fin 128), i = ix2 r j := ⟨i 0, i 1, eq_ix2 i⟩
  unfold val_main_v20 smallRes
  by_cases h : j.val < 16
  · rw [dif_pos (show ((ix2 r j : S49152x128.Idx) 1).val < 16 from h)]
    refine (concatenate_pair_apply_left (t := S49152x128) (s₁ := S49152x16) (s₂ := S49152x112) 1 _ _ _ (ix2 r j) rfl (ix2 r ⟨j.val, h⟩) fun b => ?_).trans ?_
    · match b with
      | ⟨0, _⟩ => rfl
      | ⟨1, _⟩ => rfl
    · rw [val_main_v18_apply]
      exact (congrArg _ ((eq_ix2 _).trans rfl)).trans (proj_apply x0 x1 x2 r ⟨2048 + j.val, by omega⟩)
  · rw [dif_neg (show ¬((ix2 r j : S49152x128.Idx) 1).val < 16 from h)]
    refine (concatenate_pair_apply_right (t := S49152x128) (s₁ := S49152x16) (s₂ := S49152x112) 1 _ _ _ (ix2 r j) rfl rfl
      (ix2 r ⟨j.val - 16, by omega⟩) (fun b hb => ?_) ?_).trans ?_
    · match b with
      | ⟨0, _⟩ => rfl
      | ⟨1, _⟩ => exact absurd rfl hb
    · show j.val - 16 + 16 = j.val; omega
    · rw [val_main_v19_apply, val_main_cst_2_apply, Ideal.ofBits_def, Ideal.ofBits_zero_f32]

end Cert.Reference2Ideal.Proj

end
-- ==== Proof.Inproj.lean ====
/-
  The claims about the input projection.
-/
module

public import proofs.«01_k».proof.Proof.InprojFrames
public import proofs.«01_k».proof.Proof.InprojValue
public import proofs.«01_k».proof.Proof.InprojRef

@[expose] public section

noncomputable section

open Idealize.ShloMosaic Idealize.ShloMosaic.TcCoe Idealize.SL.Sem

namespace Cert.Kernel2Ideal.Proj

open Cert.Kernel2Ideal Cert.Kernel2Ideal.Gen

/-- The kernel's run, with both results at their formulas and the arguments as they were. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9_0) = G0 m c ∧ r.2.mem ((c.tc : Thread nD τ).loc main_v9_1) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 4).trans (final4 m c), ((h.1 c).1 5).trans (final5 m c), h.2.1 c⟩)
    (θ_run_and (run_main m ρ) (frame m ρ))

end Cert.Kernel2Ideal.Proj

namespace Cert.Proof.Inproj

/-- Nothing was rewritten in the idealization. -/
theorem preserves : Cert.preserves_Kernel2_Kernel2Ideal := trivial

/-- In exact arithmetic the kernel's two result arrays and the reference's are the same functions of the arguments. -/
theorem algebraic : Cert.algebraic_Kernel2Ideal_Reference2Ideal := by
  intro m ρ m' ρ' _ hagree
  refine ⟨fun c => Cert.Kernel2Ideal.Proj.G0 m c, fun c => Cert.Kernel2Ideal.Proj.G1 m c, Cert.Kernel2Ideal.Proj.run_values m ρ, ?_⟩
  refine (θ_run Cert.Reference2Ideal.defs _ _).mono (fun _ h c => ⟨(h c).1.trans ?_, (h c).2.1.trans ?_, (h c).2.2⟩)
    (Cert.Reference2Ideal.Value.run (F := Ideal) m' ρ')
  · obtain ⟨h0, h1, h2⟩ := hagree c
    rw [h0, h1, h2]
    exact (Cert.Reference2Ideal.Read.val_main_v21_eq _ _ _).trans (funext fun i => Cert.Reference2Ideal.Proj.main_apply _ _ _ i)
  · obtain ⟨h0, h1, h2⟩ := hagree c
    rw [h0, h1, h2]
    exact (Cert.Reference2Ideal.Read.val_main_v20_eq _ _ _).trans (funext fun i => Cert.Reference2Ideal.Proj.small_apply _ _ _ i)

end Cert.Proof.Inproj

end
-- ==== Proof.MergeSpec.lean ====
/-
  The merge of a layer's three branches as a function of coordinates: each branch's row times its weights, scaled by the
  logistic function of its gate, the three added, the sum times the output weights, added to the layer's input.
-/
module

public import Idealize.ShloMosaic.PureOps.Ideal.Laws
public import Idealize.ShloMosaic.Lib.ValueIdx

@[expose] public section

noncomputable section

open Idealize.ShloMosaic Idealize.ShloMosaic.ValueIdx
open scoped BigOperators

namespace Cert.Merge

/-- One row's merge at column `q`: `x` the row of the layer's input, `ya`, `yb`, `yc` the branches' rows, `ga`, `gb`, `gc`
    their gates, `wa`, `wb`, `wc` the branches' weights and `wo` the output weights. -/
def mergeAt (x : Fin 1024 → EReal) (ya yb yc : Fin 512 → EReal) (ga gb gc : Fin 1024 → EReal)
    (wa wb wc : Fin 512 → Fin 1024 → EReal) (wo : Fin 1024 → Fin 1024 → EReal) (q : Fin 1024) : EReal :=
  x q + ∑ k : Fin 1024, (Ideal.logistic (ga k) * (∑ l : Fin 512, ya l * wa l k)
    + Ideal.logistic (gb k) * (∑ l : Fin 512, yb l * wb l k) + Ideal.logistic (gc k) * (∑ l : Fin 512, yc l * wc l k)) * wo k q

/-- The merge at row `r` and column `q` of whole arrays, the gates in the projection's first three blocks of 1024 columns. -/
def mergeRow (x : (⟨2, ![49152, 1024]⟩ : Shape).Idx → EReal) (ya yb yc : (⟨2, ![49152, 512]⟩ : Shape).Idx → EReal)
    (p : (⟨2, ![49152, 9728]⟩ : Shape).Idx → EReal) (wa wb wc : (⟨2, ![512, 1024]⟩ : Shape).Idx → EReal)
    (wo : (⟨2, ![1024, 1024]⟩ : Shape).Idx → EReal) (r : Fin 49152) (q : Fin 1024) : EReal :=
  mergeAt (fun j => x (ix2 r j)) (fun l => ya (ix2 r l)) (fun l => yb (ix2 r l)) (fun l => yc (ix2 r l))
    (fun k => p (ix2 r ⟨0 + k.val, by omega⟩)) (fun k => p (ix2 r ⟨1024 + k.val, by omega⟩)) (fun k => p (ix2 r ⟨2048 + k.val, by omega⟩))
    (fun l k => wa (ix2 l k)) (fun l k => wb (ix2 l k)) (fun l k => wc (ix2 l k)) (fun k j => wo (ix2 k j)) q

end Cert.Merge

end
-- ==== Proof.Merge3.lean ====
/-
  The merge call over rows 0 to 32767: the idealized kernel `Kernel3Ideal` and its reference `Reference3Ideal` read at an
  index as the one function `Cert.Merge.mergeAt` (Proof/MergeSpec.lean), and the claims about the two.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.MergeSpec
public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Quiescent

@[expose] public section

noncomputable section

open Idealize.ShloMosaic Idealize.ShloMosaic.TcCoe Idealize.SL.Sem Idealize.ShloMosaic.ValueIdx
open Idealize.ShloMosaic.Pipeline (Dat)

namespace Cert.Kernel3Ideal.Merged

open Cert.Kernel3Ideal Cert.Kernel3Ideal.Gen

/-- Both offsets of a whole two-axis rectangle are zero. -/
theorem hz : (![0, 0] : Fin 2 → Nat) = fun _ => 0 := funext fun a => by fin_cases a <;> rfl

/-- What the body stores, read at row `a` and column `b` of its block: the merge formula of the block's rows. -/
theorem pay_apply (v0 v8 v17 : Vec Ideal S512x1024 .bf16) (v3 v11 v20 : Vec Ideal S512x512 .bf16)
    (v4 v12 v21 : Vec Ideal S512x1024 .bf16) (v26 : Vec Ideal S512x1024 .f32) (v28 : Vec Ideal S1024x1024 .bf16)
    (a : Fin 512) (b : Fin 1024) :
    k0_pay1 (F := Ideal) v0 v3 v4 v8 v11 v12 v17 v20 v21 v26 v28 (ix2 a b)
      = Cert.Merge.mergeAt (fun j => v26 (ix2 a j)) (fun l => v3 (ix2 a l)) (fun l => v11 (ix2 a l)) (fun l => v20 (ix2 a l))
          (fun k => v0 (ix2 a k)) (fun k => v8 (ix2 a k)) (fun k => v17 (ix2 a k))
          (fun l k => v4 (ix2 l k)) (fun l k => v12 (ix2 l k)) (fun l k => v21 (ix2 l k)) (fun k j => v28 (ix2 k j)) b := by
  unfold k0_pay1
  have e1 : dot_S512x512_S512x1024_S512x1024_1_0_0_1_n_n = DotDims.plain 512 512 1024 := rfl
  have e2 : dot_S512x1024_S1024x1024_S512x1024_1_0_0_1_n_n = DotDims.plain 512 1024 1024 := rfl
  simp only [shapeCast_self, e1, e2, matmul, addf_apply]
  rw [Ideal.matmul_plain_apply]
  simp only [truncf_apply, addf_apply, mulf_apply, Ideal.matmul_plain_apply, constant_apply, Ideal.ofBits_zero_f32, zero_add]
  rfl

variable (m : (ℓ : Loc nD τ sig) → Buf (Elt Ideal) ℓ) (ρ : Dev nD → PrngReg)

/-- What the result array is shown to hold: the merge formula at every row and column of the arguments. -/
def G (c : Dev nD) : Buf (Elt Ideal) ((c : Thread nD τ).loc main_v4) := fun i =>
  Cert.Merge.mergeRow (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))
    ⟨0 + (i 0).val, by have h : (i 0).val < 32768 := (i 0).isLt; omega⟩ ⟨(i 1).val, (i 1).isLt⟩

/-- Where each window's block sits at point `t`. -/
theorem idx0 : ∀ t : Fin cfg0.N, win0_0.index t 0 = 0 + t.val ∧ win0_0.index t 1 = 0 :=
  (by decide +kernel : ∀ t : Fin grid0.N, win0_0.index t 0 = 0 + t.val ∧ win0_0.index t 1 = 0)
theorem idx1 : ∀ t : Fin cfg0.N, win0_1.index t 0 = 0 + t.val ∧ win0_1.index t 1 = 0 :=
  (by decide +kernel : ∀ t : Fin grid0.N, win0_1.index t 0 = 0 + t.val ∧ win0_1.index t 1 = 0)
theorem idx2 : ∀ t : Fin cfg0.N, win0_2.index t 0 = 0 + t.val ∧ win0_2.index t 1 = 0 :=
  (by decide +kernel : ∀ t : Fin grid0.N, win0_2.index t 0 = 0 + t.val ∧ win0_2.index t 1 = 0)
theorem idx3 : ∀ t : Fin cfg0.N, win0_3.index t 0 = 0 + t.val ∧ win0_3.index t 1 = 0 :=
  (by decide +kernel : ∀ t : Fin grid0.N, win0_3.index t 0 = 0 + t.val ∧ win0_3.index t 1 = 0)
theorem idx4 : ∀ t : Fin cfg0.N, win0_4.index t 0 = 0 + t.val ∧ win0_4.index t 1 = 0 :=
  (by decide +kernel : ∀ t : Fin grid0.N, win0_4.index t 0 = 0 + t.val ∧ win0_4.index t 1 = 0)
theorem idx5 : ∀ t : Fin cfg0.N, win0_5.index t 0 = 0 + t.val ∧ win0_5.index t 1 = 1 :=
  (by decide +kernel : ∀ t : Fin grid0.N, win0_5.index t 0 = 0 + t.val ∧ win0_5.index t 1 = 1)
theorem idx6 : ∀ t : Fin cfg0.N, win0_6.index t 0 = 0 + t.val ∧ win0_6.index t 1 = 2 :=
  (by decide +kernel : ∀ t : Fin grid0.N, win0_6.index t 0 = 0 + t.val ∧ win0_6.index t 1 = 2)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)

/-- A point's number is below the number of blocks. -/
theorem t_lt (t : Fin cfg0.N) : t.val < 64 := lt_of_lt_of_eq t.isLt N_0

/-- The array row that row `a` of block `t` is. -/
def row (t : Fin cfg0.N) (a : Fin 512) : Fin 49152 := ⟨(0 + t.val) * 512 + a.val, by have := t_lt t; have := a.isLt; omega⟩

/-- The narrowed weights, as the region finds them, are the weights. -/
theorem V_v0 (c : Dev nD) : (V m c main_v0 : Vec Ideal S512x1024 .bf16) = m ((c : Thread nD τ).loc main_arg5) := by
  unfold V
  after_results_simp <;> rfl
theorem V_v1 (c : Dev nD) : (V m c main_v1 : Vec Ideal S512x1024 .bf16) = m ((c : Thread nD τ).loc main_arg6) := by
  unfold V
  after_results_simp <;> rfl
theorem V_v2 (c : Dev nD) : (V m c main_v2 : Vec Ideal S512x1024 .bf16) = m ((c : Thread nD τ).loc main_arg7) := by
  unfold V
  after_results_simp <;> rfl
theorem V_v3 (c : Dev nD) : (V m c main_v3 : Vec Ideal S1024x1024 .bf16) = m ((c : Thread nD τ).loc main_arg8) := by
  unfold V
  after_results_simp <;> rfl

/-- Window 0's block at point `t`: its argument's rows from `row t 0` on. -/
theorem blk0 (c : Dev nD) (t : Fin cfg0.N) (a : Fin 512) (b : Fin 1024) :
    (iblk m c 0 t : Vec Ideal S512x1024 .f32) (ix2 a b) = (m ((c : Thread nD τ).loc main_arg0) : Vec Ideal S49152x1024 .f32) (ix2 (row t a) b) := by
  show V m c main_arg0 (((cfg0.win 0).blk t).view.emb (ix2 a b)) = _
  rw [V_main_arg0]
  refine congrArg _ (funext fun x => Fin.ext ?_)
  match x with
  | ⟨0, _⟩ => show win0_0.index t 0 * 512 + 1 * a.val = (0 + t.val) * 512 + a.val; rw [(idx0 t).1]; omega
  | ⟨1, _⟩ => show win0_0.index t 1 * 1024 + 1 * b.val = b.val; rw [(idx0 t).2]; omega
/-- Window 1's block at point `t`: its argument's rows from `row t 0` on. -/
theorem blk1 (c : Dev nD) (t : Fin cfg0.N) (a : Fin 512) (b : Fin 512) :
    (iblk m c 1 t : Vec Ideal S512x512 .bf16) (ix2 a b) = (m ((c : Thread nD τ).loc main_arg1) : Vec Ideal S49152x512 .bf16) (ix2 (row t a) b) := by
  show V m c main_arg1 (((cfg0.win 1).blk t).view.emb (ix2 a b)) = _
  rw [V_main_arg1]
  refine congrArg _ (funext fun x => Fin.ext ?_)
  match x with
  | ⟨0, _⟩ => show win0_1.index t 0 * 512 + 1 * a.val = (0 + t.val) * 512 + a.val; rw [(idx1 t).1]; omega
  | ⟨1, _⟩ => show win0_1.index t 1 * 512 + 1 * b.val = b.val; rw [(idx1 t).2]; omega
/-- Window 2's block at point `t`: its argument's rows from `row t 0` on. -/
theorem blk2 (c : Dev nD) (t : Fin cfg0.N) (a : Fin 512) (b : Fin 512) :
    (iblk m c 2 t : Vec Ideal S512x512 .bf16) (ix2 a b) = (m ((c : Thread nD τ).loc main_arg2) : Vec Ideal S49152x512 .bf16) (ix2 (row t a) b) := by
  show V m c main_arg2 (((cfg0.win 2).blk t).view.emb (ix2 a b)) = _
  rw [V_main_arg2]
  refine congrArg _ (funext fun x => Fin.ext ?_)
  match x with
  | ⟨0, _⟩ => show win0_2.index t 0 * 512 + 1 * a.val = (0 + t.val) * 512 + a.val; rw [(idx2 t).1]; omega
  | ⟨1, _⟩ => show win0_2.index t 1 * 512 + 1 * b.val = b.val; rw [(idx2 t).2]; omega
/-- Window 3's block at point `t`: its argument's rows from `row t 0` on. -/
theorem blk3 (c : Dev nD) (t : Fin cfg0.N) (a : Fin 512) (b : Fin 512) :
    (iblk m c 3 t : Vec Ideal S512x512 .bf16) (ix2 a b) = (m ((c : Thread nD τ).loc main_arg3) : Vec Ideal S49152x512 .bf16) (ix2 (row t a) b) := by
  show V m c main_arg3 (((cfg0.win 3).blk t).view.emb (ix2 a b)) = _
  rw [V_main_arg3]
  refine congrArg _ (funext fun x => Fin.ext ?_)
  match x with
  | ⟨0, _⟩ => show win0_3.index t 0 * 512 + 1 * a.val = (0 + t.val) * 512 + a.val; rw [(idx3 t).1]; omega
  | ⟨1, _⟩ => show win0_3.index t 1 * 512 + 1 * b.val = b.val; rw [(idx3 t).2]; omega
/-- Window 4's block at point `t`: the columns of gate 0 of the projection, at the block's rows. -/
theorem blk4 (c : Dev nD) (t : Fin cfg0.N) (a : Fin 512) (b : Fin 1024) :
    (X0_4 m c t : Vec Ideal S512x1024 .bf16) (ix2 a b)
      = (m ((c : Thread nD τ).loc main_arg4) : Vec Ideal S49152x9728 .bf16) (ix2 (row t a) ⟨0 + b.val, by omega⟩) := by
  unfold X0_4 Pipeline.Window.fill
  rw [dif_pos (moved0_4 t _)]
  show V m c main_arg4 (((cfg0.win 4).blk t).view.emb _) = _
  rw [V_main_arg4]
  refine congrArg _ (funext fun x => Fin.ext ?_)
  match x with
  | ⟨0, _⟩ => show win0_4.index t 0 * 512 + 1 * a.val = (0 + t.val) * 512 + a.val; rw [(idx4 t).1]; omega
  | ⟨1, _⟩ => show win0_4.index t 1 * 1024 + 1 * b.val = 0 + b.val; rw [(idx4 t).2]; omega
/-- Window 5's block at point `t`: the columns of gate 1 of the projection, at the block's rows. -/
theorem blk5 (c : Dev nD) (t : Fin cfg0.N) (a : Fin 512) (b : Fin 1024) :
    (X0_5 m c t : Vec Ideal S512x1024 .bf16) (ix2 a b)
      = (m ((c : Thread nD τ).loc main_arg4) : Vec Ideal S49152x9728 .bf16) (ix2 (row t a) ⟨1024 + b.val, by omega⟩) := by
  unfold X0_5 Pipeline.Window.fill
  rw [dif_pos (moved0_5 t _)]
  show V m c main_arg4 (((cfg0.win 5).blk t).view.emb _) = _
  rw [V_main_arg4]
  refine congrArg _ (funext fun x => Fin.ext ?_)
  match x with
  | ⟨0, _⟩ => show win0_5.index t 0 * 512 + 1 * a.val = (0 + t.val) * 512 + a.val; rw [(idx5 t).1]; omega
  | ⟨1, _⟩ => show win0_5.index t 1 * 1024 + 1 * b.val = 1024 + b.val; rw [(idx5 t).2]; omega
/-- Window 6's block at point `t`: the columns of gate 2 of the projection, at the block's rows. -/
theorem blk6 (c : Dev nD) (t : Fin cfg0.N) (a : Fin 512) (b : Fin 1024) :
    (X0_6 m c t : Vec Ideal S512x1024 .bf16) (ix2 a b)
      = (m ((c : Thread nD τ).loc main_arg4) : Vec Ideal S49152x9728 .bf16) (ix2 (row t a) ⟨2048 + b.val, by omega⟩) := by
  unfold X0_6 Pipeline.Window.fill
  rw [dif_pos (moved0_6 t _)]
  show V m c main_arg4 (((cfg0.win 6).blk t).view.emb _) = _
  rw [V_main_arg4]
  refine congrArg _ (funext fun x => Fin.ext ?_)
  match x with
  | ⟨0, _⟩ => show win0_6.index t 0 * 512 + 1 * a.val = (0 + t.val) * 512 + a.val; rw [(idx6 t).1]; omega
  | ⟨1, _⟩ => show win0_6.index t 1 * 1024 + 1 * b.val = 2048 + b.val; rw [(idx6 t).2]; omega
/-- Window 7's block is the whole weight matrix. -/
theorem blk7 (c : Dev nD) (t : Fin cfg0.N) (a : Fin 512) (b : Fin 1024) :
    (iblk m c 7 t : Vec Ideal S512x1024 .bf16) (ix2 a b) = (m ((c : Thread nD τ).loc main_arg5) : Vec Ideal S512x1024 .f32) (ix2 a b) := by
  show (V m c main_v0 : Vec Ideal S512x1024 .bf16) (((cfg0.win 7).blk t).view.emb (ix2 a b)) = _
  rw [V_v0]
  refine congrArg _ (funext fun x => Fin.ext ?_)
  match x with
  | ⟨0, _⟩ => show win0_7.index t 0 * 512 + 1 * a.val = a.val; rw [(idx7 t).1]; omega
  | ⟨1, _⟩ => show win0_7.index t 1 * 1024 + 1 * b.val = b.val; rw [(idx7 t).2]; omega
/-- Window 8's block is the whole weight matrix. -/
theorem blk8 (c : Dev nD) (t : Fin cfg0.N) (a : Fin 512) (b : Fin 1024) :
    (iblk m c 8 t : Vec Ideal S512x1024 .bf16) (ix2 a b) = (m ((c : Thread nD τ).loc main_arg6) : Vec Ideal S512x1024 .f32) (ix2 a b) := by
  show (V m c main_v1 : Vec Ideal S512x1024 .bf16) (((cfg0.win 8).blk t).view.emb (ix2 a b)) = _
  rw [V_v1]
  refine congrArg _ (funext fun x => Fin.ext ?_)
  match x with
  | ⟨0, _⟩ => show win0_8.index t 0 * 512 + 1 * a.val = a.val; rw [(idx8 t).1]; omega
  | ⟨1, _⟩ => show win0_8.index t 1 * 1024 + 1 * b.val = b.val; rw [(idx8 t).2]; omega
/-- Window 9's block is the whole weight matrix. -/
theorem blk9 (c : Dev nD) (t : Fin cfg0.N) (a : Fin 512) (b : Fin 1024) :
    (iblk m c 9 t : Vec Ideal S512x1024 .bf16) (ix2 a b) = (m ((c : Thread nD τ).loc main_arg7) : Vec Ideal S512x1024 .f32) (ix2 a b) := by
  show (V m c main_v2 : Vec Ideal S512x1024 .bf16) (((cfg0.win 9).blk t).view.emb (ix2 a b)) = _
  rw [V_v2]
  refine congrArg _ (funext fun x => Fin.ext ?_)
  match x with
  | ⟨0, _⟩ => show win0_9.index t 0 * 512 + 1 * a.val = a.val; rw [(idx9 t).1]; omega
  | ⟨1, _⟩ => show win0_9.index t 1 * 1024 + 1 * b.val = b.val; rw [(idx9 t).2]; omega
/-- Window 10's block is the whole weight matrix. -/
theorem blk10 (c : Dev nD) (t : Fin cfg0.N) (a : Fin 1024) (b : Fin 1024) :
    (iblk m c 10 t : Vec Ideal S1024x1024 .bf16) (ix2 a b) = (m ((c : Thread nD τ).loc main_arg8) : Vec Ideal S1024x1024 .f32) (ix2 a b) := by
  show (V m c main_v3 : Vec Ideal S1024x1024 .bf16) (((cfg0.win 10).blk t).view.emb (ix2 a b)) = _
  rw [V_v3]
  refine congrArg _ (funext fun x => Fin.ext ?_)
  match x with
  | ⟨0, _⟩ => show win0_10.index t 0 * 1024 + 1 * a.val = a.val; rw [(idx10 t).1]; omega
  | ⟨1, _⟩ => show win0_10.index t 1 * 1024 + 1 * b.val = b.val; rw [(idx10 t).2]; omega

/-- The block the body leaves at point `t` is its one store's value on the point's blocks. -/
theorem outsAt_eq (c : Dev nD) (t : Fin cfg0.N) : outsAt0 m c t
    = k0_pay1 (F := Ideal) (X0_4 m c t) (iblk m c 1 t) (iblk m c 7 t) (X0_5 m c t) (iblk m c 2 t) (iblk m c 8 t)
        (X0_6 m c t) (iblk m c 3 t) (iblk m c 9 t) (iblk m c 0 t) (iblk m c 10 t) := by
  unfold outsAt0 out0_A_11
  rw [View.read_writes_eq_canon _ _ _ (fun y => cover0_A_11 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread]
  repeat rw [View.ld_unit_zero hz]

/-- What point `t` writes back is block `t` of the merge formula. -/
theorem flushed_eq (c : Dev nD) (t : Fin cfg0.N) :
    (dats m 0 c).flushed 11 t = ((cfg0.win 11).blk t).view.read (Elt Ideal) (G m c) := by
  rw [Value.flushed11]
  show outsAt0 m c t = _
  rw [outsAt_eq]
  funext j
  obtain ⟨a, b, rfl⟩ : ∃ (a : Fin 512) (b : Fin 1024), j = ix2 a b := ⟨j 0, j 1, eq_ix2 j⟩
  have e : ((cfg0.win 11).blk t).view.read (Elt Ideal) (G m c) (ix2 a b)
      = Cert.Merge.mergeRow (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (row t a) b := by
    show G m c (((cfg0.win 11).blk t).view.emb (ix2 a b)) = _
    unfold G
    congr 1
    · apply Fin.ext
      show 0 + (win0_11.index t 0 * 512 + 1 * a.val) = (0 + t.val) * 512 + a.val
      rw [(idx11 t).1]; omega
    · apply Fin.ext
      show win0_11.index t 1 * 1024 + 1 * b.val = b.val
      rw [(idx11 t).2]; omega
  rw [e, pay_apply]
  unfold Cert.Merge.mergeRow
  simp only [blk0, blk1, blk2, blk3, blk4, blk5, blk6, blk7, blk8, blk9, blk10]

/-- The blocks written back fill the result array. -/
theorem cover (i : S32768x1024.Idx) : ∃ t : Fin cfg0.N, (cfg0.win 11).flush t = true ∧ i ∈ ((cfg0.win 11).blk t).view.set := by
  have h0 : (i 0).val < 32768 := (i 0).isLt
  have h1 : (i 1).val < 1024 := (i 1).isLt
  have hN : cfg0.N = 64 := N_0
  obtain ⟨t, ht⟩ : ∃ t : Fin cfg0.N, t.val = (i 0).val / 512 := ⟨⟨(i 0).val / 512, by omega⟩, rfl⟩
  refine ⟨t, flush0_11 _, ?_⟩
  show i ∈ ((View.whole main_v4).slice (win0_11.rect t)).set
  rw [View.set_slice_whole, Rect.mem_set_unit]
  intro a
  match a with
  | ⟨0, _⟩ =>
    show win0_11.index t 0 * 512 ≤ (i 0).val ∧ (i 0).val < win0_11.index t 0 * 512 + 512
    rw [(idx11 t).1]; omega
  | ⟨1, _⟩ =>
    show win0_11.index t 1 * 1024 ≤ (i 1).val ∧ (i 1).val < win0_11.index t 1 * 1024 + 1024
    rw [(idx11 t).2]; omega

/-- So the result array ends holding the merge formula, -/
theorem final (c : Dev nD) : (dats m 0 c).arrAt 11 cfg0.N = G m c :=
  (dats m 0 c).arrAt_eq_of_cover 11 (G m c) (fun t _ => flushed_eq m c t) cover

end Cert.Kernel3Ideal.Merged

namespace Cert.Reference3Ideal.Merged

open Cert.Reference3Ideal Cert.Reference3Ideal.Read

/-- The word of 1. -/
theorem one_word : (FloatOps.ofBits .f32 0x3F800000#32 : Ideal .f32) = (1 : EReal) := by
  rw [Ideal.ofBits_def]; exact Ideal.ofBits_one_f32

/-- The gate of branch `j` at row `r` and column `k`: the logistic function of the projection's column. -/
theorem gate_apply (x4 : (⟨S49152x9728, .bf16⟩ : BufTy).Contents (Elt Ideal)) (r : Fin 49152) (j : Fin 3) (k : Fin 1024) :
    val_main_v8 (F := Ideal) x4 (ix3 r j k) = Ideal.logistic (x4 (ix2 r ⟨1024 * j.val + k.val, by omega⟩)) := by
  rw [val_main_v8_apply, val_main_v7_apply, val_main_cst_0_apply, val_main_v6_apply, val_main_v5_apply, val_main_cst_apply,
    val_main_v4_apply, val_main_v3_apply, val_main_v2_apply, val_main_v1_apply, val_main_v0_apply, one_word]
  simp only [Ideal.hostDivf_def, Ideal.addf_def, Ideal.hostNegf_def, Ideal.extf_def]
  have e : idx_main_v0 (idx_main_v2 (ix3 r j k)) = ix2 r ⟨1024 * j.val + k.val, by omega⟩ := by
    have hr := r.isLt; have hj := j.isLt; have hk := k.isLt
    funext a
    apply Fin.ext
    match a with
    | ⟨0, _⟩ => show ((r.val * 3 + j.val) * 1024 + k.val) / 3072 = r.val; omega
    | ⟨1, _⟩ => show ((r.val * 3 + j.val) * 1024 + k.val) % 3072 = 1024 * j.val + k.val; omega
  rw [e]
  rfl

/-- Gate 0, sliced out and reshaped. -/
theorem gate0_apply (x4 : (⟨S49152x9728, .bf16⟩ : BufTy).Contents (Elt Ideal)) (r : Fin 49152) (k : Fin 1024) :
    val_main_v10 (F := Ideal) x4 (ix2 r k) = Ideal.logistic (x4 (ix2 r ⟨0 + k.val, by omega⟩)) := by
  rw [val_main_v10_apply, val_main_v9_apply]
  have e : idx_main_v9 (idx_main_v10 (ix2 r k)) = ix3 r 0 k := by
    have hr := r.isLt; have hk := k.isLt
    funext a
    apply Fin.ext
    match a with
    | ⟨0, _⟩ => show (r.val * 1024 + k.val) / 1024 = r.val; omega
    | ⟨1, _⟩ => rfl
    | ⟨2, _⟩ => show (r.val * 1024 + k.val) % 1024 = k.val; omega
  rw [e, gate_apply]
  rfl
/-- Branch 0's product with its weights. -/
theorem prod0_apply (x1 : (⟨S49152x512, .bf16⟩ : BufTy).Contents (Elt Ideal)) (x5 : (⟨S512x1024, .f32⟩ : BufTy).Contents (Elt Ideal))
    (r : Fin 49152) (k : Fin 1024) :
    val_main_v12 (F := Ideal) x1 x5 (ix2 r k) = ∑ l : Fin 512, x1 (ix2 r l) * x5 (ix2 l k) := by
  rw [val_main_v12_apply]
  refine Finset.sum_congr rfl fun l _ => ?_
  have er : ridx_main_v12 (ix2 r k) l = ix2 l k := (eq_ix2 _).trans rfl
  have el : lidx_main_v12 (ix2 r k) l = ix2 r l := (eq_ix2 _).trans rfl
  rw [er, el]
  rfl
/-- Gate 1, sliced out and reshaped. -/
theorem gate1_apply (x4 : (⟨S49152x9728, .bf16⟩ : BufTy).Contents (Elt Ideal)) (r : Fin 49152) (k : Fin 1024) :
    val_main_v15 (F := Ideal) x4 (ix2 r k) = Ideal.logistic (x4 (ix2 r ⟨1024 + k.val, by omega⟩)) := by
  rw [val_main_v15_apply, val_main_v14_apply]
  have e : idx_main_v14 (idx_main_v15 (ix2 r k)) = ix3 r 1 k := by
    have hr := r.isLt; have hk := k.isLt
    funext a
    apply Fin.ext
    match a with
    | ⟨0, _⟩ => show (r.val * 1024 + k.val) / 1024 = r.val; omega
    | ⟨1, _⟩ => rfl
    | ⟨2, _⟩ => show (r.val * 1024 + k.val) % 1024 = k.val; omega
  rw [e, gate_apply]
  rfl
/-- Branch 1's product with its weights. -/
theorem prod1_apply (x2 : (⟨S49152x512, .bf16⟩ : BufTy).Contents (Elt Ideal)) (x6 : (⟨S512x1024, .f32⟩ : BufTy).Contents (Elt Ideal))
    (r : Fin 49152) (k : Fin 1024) :
    val_main_v17 (F := Ideal) x2 x6 (ix2 r k) = ∑ l : Fin 512, x2 (ix2 r l) * x6 (ix2 l k) := by
  rw [val_main_v17_apply]
  refine Finset.sum_congr rfl fun l _ => ?_
  have er : ridx_main_v17 (ix2 r k) l = ix2 l k := (eq_ix2 _).trans rfl
  have el : lidx_main_v17 (ix2 r k) l = ix2 r l := (eq_ix2 _).trans rfl
  rw [er, el]
  rfl
/-- Gate 2, sliced out and reshaped. -/
theorem gate2_apply (x4 : (⟨S49152x9728, .bf16⟩ : BufTy).Contents (Elt Ideal)) (r : Fin 49152) (k : Fin 1024) :
    val_main_v21 (F := Ideal) x4 (ix2 r k) = Ideal.logistic (x4 (ix2 r ⟨2048 + k.val, by omega⟩)) := by
  rw [val_main_v21_apply, val_main_v20_apply]
  have e : idx_main_v20 (idx_main_v21 (ix2 r k)) = ix3 r 2 k := by
    have hr := r.isLt; have hk := k.isLt
    funext a
    apply Fin.ext
    match a with
    | ⟨0, _⟩ => show (r.val * 1024 + k.val) / 1024 = r.val; omega
    | ⟨1, _⟩ => rfl
    | ⟨2, _⟩ => show (r.val * 1024 + k.val) % 1024 = k.val; omega
  rw [e, gate_apply]
  rfl
/-- Branch 2's product with its weights. -/
theorem prod2_apply (x3 : (⟨S49152x512, .bf16⟩ : BufTy).Contents (Elt Ideal)) (x7 : (⟨S512x1024, .f32⟩ : BufTy).Contents (Elt Ideal))
    (r : Fin 49152) (k : Fin 1024) :
    val_main_v23 (F := Ideal) x3 x7 (ix2 r k) = ∑ l : Fin 512, x3 (ix2 r l) * x7 (ix2 l k) := by
  rw [val_main_v23_apply]
  refine Finset.sum_congr rfl fun l _ => ?_
  have er : ridx_main_v23 (ix2 r k) l = ix2 l k := (eq_ix2 _).trans rfl
  have el : lidx_main_v23 (ix2 r k) l = ix2 r l := (eq_ix2 _).trans rfl
  rw [er, el]
  rfl

/-- The reference's result at an index: the merge formula. -/
theorem res_apply (x0 : (⟨S49152x1024, .f32⟩ : BufTy).Contents (Elt Ideal)) (x1 x2 x3 : (⟨S49152x512, .bf16⟩ : BufTy).Contents (Elt Ideal))
    (x4 : (⟨S49152x9728, .bf16⟩ : BufTy).Contents (Elt Ideal)) (x5 x6 x7 : (⟨S512x1024, .f32⟩ : BufTy).Contents (Elt Ideal))
    (x8 : (⟨S1024x1024, .f32⟩ : BufTy).Contents (Elt Ideal)) (i : S32768x1024.Idx) :
    val_main_v28 (F := Ideal) x0 x1 x2 x3 x4 x5 x6 x7 x8 i
      = Cert.Merge.mergeRow x0 x1 x2 x3 x4 x5 x6 x7 x8
          ⟨0 + (i 0).val, by have h : (i 0).val < 32768 := (i 0).isLt; omega⟩ ⟨(i 1).val, (i 1).isLt⟩ := by
  have h0 : (i 0).val < 32768 := (i 0).isLt
  have h1 : (i 1).val < 1024 := (i 1).isLt
  obtain ⟨r, hr⟩ : ∃ r : Fin 49152, r.val = 0 + (i 0).val := ⟨⟨0 + (i 0).val, by omega⟩, rfl⟩
  obtain ⟨q, hq⟩ : ∃ q : Fin 1024, q.val = (i 1).val := ⟨⟨(i 1).val, h1⟩, rfl⟩
  have e : idx_main_v28 i = ix2 r q := by
    funext a
    apply Fin.ext
    match a with
    | ⟨0, _⟩ => show (i 0).val = r.val; omega
    | ⟨1, _⟩ => exact hq.symm
  have er : (⟨0 + (i 0).val, by omega⟩ : Fin 49152) = r := Fin.ext hr.symm
  have eq : (⟨(i 1).val, h1⟩ : Fin 1024) = q := Fin.ext hq.symm
  rw [val_main_v28_apply, e, er, eq]
  rw [val_main_v27_apply, val_main_v26_apply, Ideal.addf_def]
  unfold Cert.Merge.mergeRow Cert.Merge.mergeAt
  refine congrArg (x0 (ix2 r q) + ·) (Finset.sum_congr rfl fun k _ => ?_)
  have er : ridx_main_v26 (ix2 r q) k = ix2 k q := (eq_ix2 _).trans rfl
  have el : lidx_main_v26 (ix2 r q) k = ix2 r k := (eq_ix2 _).trans rfl
  rw [er, el, val_main_v25_apply, val_main_v19_apply, val_main_v13_apply, val_main_v18_apply, val_main_v24_apply,
    gate0_apply, gate1_apply, gate2_apply, prod0_apply, prod1_apply, prod2_apply]
  simp only [Ideal.addf_def, Ideal.mulf_def]

end Cert.Reference3Ideal.Merged

namespace Cert.Proof.Merge3

/-- The kernel, its idealization and the reference terminate, leave their arguments as they were and their counters at zero. -/
theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing was rewritten in the idealization. -/
theorem preserves : Cert.preserves_Kernel3_Kernel3Ideal := trivial

/-- In exact arithmetic the kernel's result array and the reference's are the same function of the arguments. -/
theorem algebraic : Cert.algebraic_Kernel3Ideal_Reference3Ideal := by
  intro m ρ m' ρ' _ hagree
  refine ⟨fun c => Cert.Kernel3Ideal.Merged.G m c, ?_, ?_⟩
  · exact (θ_run Cert.Kernel3Ideal.defs _ _).mono
      (fun _ h c => ⟨(h c).1.trans (Cert.Kernel3Ideal.Merged.final m c), (h c).2⟩) (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6, h7, h8⟩ := hagree c
    rw [h0, h1, h2, h3, h4, h5, h6, h7, h8]
    funext i
    exact Cert.Reference3Ideal.Merged.res_apply _ _ _ _ _ _ _ _ _ i

end Cert.Proof.Merge3

end
-- ==== Proof.Merge4.lean ====
/-
  The merge call over rows 32768 to 49151: the idealized kernel `Kernel4Ideal` and its reference `Reference4Ideal` read at an
  index as the one function `Cert.Merge.mergeAt` (Proof/MergeSpec.lean), and the claims about the two.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MergeSpec
public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Quiescent

@[expose] public section

noncomputable section

open Idealize.ShloMosaic Idealize.ShloMosaic.TcCoe Idealize.SL.Sem Idealize.ShloMosaic.ValueIdx
open Idealize.ShloMosaic.Pipeline (Dat)

namespace Cert.Kernel4Ideal.Merged

open Cert.Kernel4Ideal Cert.Kernel4Ideal.Gen

/-- Both offsets of a whole two-axis rectangle are zero. -/
theorem hz : (![0, 0] : Fin 2 → Nat) = fun _ => 0 := funext fun a => by fin_cases a <;> rfl

/-- What the body stores, read at row `a` and column `b` of its block: the merge formula of the block's rows. -/
theorem pay_apply (v0 v8 v17 : Vec Ideal S512x1024 .bf16) (v3 v11 v20 : Vec Ideal S512x512 .bf16)
    (v4 v12 v21 : Vec Ideal S512x1024 .bf16) (v26 : Vec Ideal S512x1024 .f32) (v28 : Vec Ideal S1024x1024 .bf16)
    (a : Fin 512) (b : Fin 1024) :
    k0_pay1 (F := Ideal) v0 v3 v4 v8 v11 v12 v17 v20 v21 v26 v28 (ix2 a b)
      = Cert.Merge.mergeAt (fun j => v26 (ix2 a j)) (fun l => v3 (ix2 a l)) (fun l => v11 (ix2 a l)) (fun l => v20 (ix2 a l))
          (fun k => v0 (ix2 a k)) (fun k => v8 (ix2 a k)) (fun k => v17 (ix2 a k))
          (fun l k => v4 (ix2 l k)) (fun l k => v12 (ix2 l k)) (fun l k => v21 (ix2 l k)) (fun k j => v28 (ix2 k j)) b := by
  unfold k0_pay1
  have e1 : dot_S512x512_S512x1024_S512x1024_1_0_0_1_n_n = DotDims.plain 512 512 1024 := rfl
  have e2 : dot_S512x1024_S1024x1024_S512x1024_1_0_0_1_n_n = DotDims.plain 512 1024 1024 := rfl
  simp only [shapeCast_self, e1, e2, matmul, addf_apply]
  rw [Ideal.matmul_plain_apply]
  simp only [truncf_apply, addf_apply, mulf_apply, Ideal.matmul_plain_apply, constant_apply, Ideal.ofBits_zero_f32, zero_add]
  rfl

variable (m : (ℓ : Loc nD τ sig) → Buf (Elt Ideal) ℓ) (ρ : Dev nD → PrngReg)

/-- What the result array is shown to hold: the merge formula at every row and column of the arguments. -/
def G (c : Dev nD) : Buf (Elt Ideal) ((c : Thread nD τ).loc main_v4) := fun i =>
  Cert.Merge.mergeRow (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))
    ⟨32768 + (i 0).val, by have h : (i 0).val < 16384 := (i 0).isLt; omega⟩ ⟨(i 1).val, (i 1).isLt⟩

/-- Where each window's block sits at point `t`. -/
theorem idx0 : ∀ t : Fin cfg0.N, win0_0.index t 0 = 64 + t.val ∧ win0_0.index t 1 = 0 :=
  (by decide +kernel : ∀ t : Fin grid0.N, win0_0.index t 0 = 64 + t.val ∧ win0_0.index t 1 = 0)
theorem idx1 : ∀ t : Fin cfg0.N, win0_1.index t 0 = 64 + t.val ∧ win0_1.index t 1 = 0 :=
  (by decide +kernel : ∀ t : Fin grid0.N, win0_1.index t 0 = 64 + t.val ∧ win0_1.index t 1 = 0)
theorem idx2 : ∀ t : Fin cfg0.N, win0_2.index t 0 = 64 + t.val ∧ win0_2.index t 1 = 0 :=
  (by decide +kernel : ∀ t : Fin grid0.N, win0_2.index t 0 = 64 + t.val ∧ win0_2.index t 1 = 0)
theorem idx3 : ∀ t : Fin cfg0.N, win0_3.index t 0 = 64 + t.val ∧ win0_3.index t 1 = 0 :=
  (by decide +kernel : ∀ t : Fin grid0.N, win0_3.index t 0 = 64 + t.val ∧ win0_3.index t 1 = 0)
theorem idx4 : ∀ t : Fin cfg0.N, win0_4.index t 0 = 64 + t.val ∧ win0_4.index t 1 = 0 :=
  (by decide +kernel : ∀ t : Fin grid0.N, win0_4.index t 0 = 64 + t.val ∧ win0_4.index t 1 = 0)
theorem idx5 : ∀ t : Fin cfg0.N, win0_5.index t 0 = 64 + t.val ∧ win0_5.index t 1 = 1 :=
  (by decide +kernel : ∀ t : Fin grid0.N, win0_5.index t 0 = 64 + t.val ∧ win0_5.index t 1 = 1)
theorem idx6 : ∀ t : Fin cfg0.N, win0_6.index t 0 = 64 + t.val ∧ win0_6.index t 1 = 2 :=
  (by decide +kernel : ∀ t : Fin grid0.N, win0_6.index t 0 = 64 + t.val ∧ win0_6.index t 1 = 2)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)

/-- A point's number is below the number of blocks. -/
theorem t_lt (t : Fin cfg0.N) : t.val < 32 := lt_of_lt_of_eq t.isLt N_0

/-- The array row that row `a` of block `t` is. -/
def row (t : Fin cfg0.N) (a : Fin 512) : Fin 49152 := ⟨(64 + t.val) * 512 + a.val, by have := t_lt t; have := a.isLt; omega⟩

/-- The narrowed weights, as the region finds them, are the weights. -/
theorem V_v0 (c : Dev nD) : (V m c main_v0 : Vec Ideal S512x1024 .bf16) = m ((c : Thread nD τ).loc main_arg5) := by
  unfold V
  after_results_simp <;> rfl
theorem V_v1 (c : Dev nD) : (V m c main_v1 : Vec Ideal S512x1024 .bf16) = m ((c : Thread nD τ).loc main_arg6) := by
  unfold V
  after_results_simp <;> rfl
theorem V_v2 (c : Dev nD) : (V m c main_v2 : Vec Ideal S512x1024 .bf16) = m ((c : Thread nD τ).loc main_arg7) := by
  unfold V
  after_results_simp <;> rfl
theorem V_v3 (c : Dev nD) : (V m c main_v3 : Vec Ideal S1024x1024 .bf16) = m ((c : Thread nD τ).loc main_arg8) := by
  unfold V
  after_results_simp <;> rfl

/-- Window 0's block at point `t`: its argument's rows from `row t 0` on. -/
theorem blk0 (c : Dev nD) (t : Fin cfg0.N) (a : Fin 512) (b : Fin 1024) :
    (iblk m c 0 t : Vec Ideal S512x1024 .f32) (ix2 a b) = (m ((c : Thread nD τ).loc main_arg0) : Vec Ideal S49152x1024 .f32) (ix2 (row t a) b) := by
  show V m c main_arg0 (((cfg0.win 0).blk t).view.emb (ix2 a b)) = _
  rw [V_main_arg0]
  refine congrArg _ (funext fun x => Fin.ext ?_)
  match x with
  | ⟨0, _⟩ => show win0_0.index t 0 * 512 + 1 * a.val = (64 + t.val) * 512 + a.val; rw [(idx0 t).1]; omega
  | ⟨1, _⟩ => show win0_0.index t 1 * 1024 + 1 * b.val = b.val; rw [(idx0 t).2]; omega
/-- Window 1's block at point `t`: its argument's rows from `row t 0` on. -/
theorem blk1 (c : Dev nD) (t : Fin cfg0.N) (a : Fin 512) (b : Fin 512) :
    (iblk m c 1 t : Vec Ideal S512x512 .bf16) (ix2 a b) = (m ((c : Thread nD τ).loc main_arg1) : Vec Ideal S49152x512 .bf16) (ix2 (row t a) b) := by
  show V m c main_arg1 (((cfg0.win 1).blk t).view.emb (ix2 a b)) = _
  rw [V_main_arg1]
  refine congrArg _ (funext fun x => Fin.ext ?_)
  match x with
  | ⟨0, _⟩ => show win0_1.index t 0 * 512 + 1 * a.val = (64 + t.val) * 512 + a.val; rw [(idx1 t).1]; omega
  | ⟨1, _⟩ => show win0_1.index t 1 * 512 + 1 * b.val = b.val; rw [(idx1 t).2]; omega
/-- Window 2's block at point `t`: its argument's rows from `row t 0` on. -/
theorem blk2 (c : Dev nD) (t : Fin cfg0.N) (a : Fin 512) (b : Fin 512) :
    (iblk m c 2 t : Vec Ideal S512x512 .bf16) (ix2 a b) = (m ((c : Thread nD τ).loc main_arg2) : Vec Ideal S49152x512 .bf16) (ix2 (row t a) b) := by
  show V m c main_arg2 (((cfg0.win 2).blk t).view.emb (ix2 a b)) = _
  rw [V_main_arg2]
  refine congrArg _ (funext fun x => Fin.ext ?_)
  match x with
  | ⟨0, _⟩ => show win0_2.index t 0 * 512 + 1 * a.val = (64 + t.val) * 512 + a.val; rw [(idx2 t).1]; omega
  | ⟨1, _⟩ => show win0_2.index t 1 * 512 + 1 * b.val = b.val; rw [(idx2 t).2]; omega
/-- Window 3's block at point `t`: its argument's rows from `row t 0` on. -/
theorem blk3 (c : Dev nD) (t : Fin cfg0.N) (a : Fin 512) (b : Fin 512) :
    (iblk m c 3 t : Vec Ideal S512x512 .bf16) (ix2 a b) = (m ((c : Thread nD τ).loc main_arg3) : Vec Ideal S49152x512 .bf16) (ix2 (row t a) b) := by
  show V m c main_arg3 (((cfg0.win 3).blk t).view.emb (ix2 a b)) = _
  rw [V_main_arg3]
  refine congrArg _ (funext fun x => Fin.ext ?_)
  match x with
  | ⟨0, _⟩ => show win0_3.index t 0 * 512 + 1 * a.val = (64 + t.val) * 512 + a.val; rw [(idx3 t).1]; omega
  | ⟨1, _⟩ => show win0_3.index t 1 * 512 + 1 * b.val = b.val; rw [(idx3 t).2]; omega
/-- Window 4's block at point `t`: the columns of gate 0 of the projection, at the block's rows. -/
theorem blk4 (c : Dev nD) (t : Fin cfg0.N) (a : Fin 512) (b : Fin 1024) :
    (X0_4 m c t : Vec Ideal S512x1024 .bf16) (ix2 a b)
      = (m ((c : Thread nD τ).loc main_arg4) : Vec Ideal S49152x9728 .bf16) (ix2 (row t a) ⟨0 + b.val, by omega⟩) := by
  unfold X0_4 Pipeline.Window.fill
  rw [dif_pos (moved0_4 t _)]
  show V m c main_arg4 (((cfg0.win 4).blk t).view.emb _) = _
  rw [V_main_arg4]
  refine congrArg _ (funext fun x => Fin.ext ?_)
  match x with
  | ⟨0, _⟩ => show win0_4.index t 0 * 512 + 1 * a.val = (64 + t.val) * 512 + a.val; rw [(idx4 t).1]; omega
  | ⟨1, _⟩ => show win0_4.index t 1 * 1024 + 1 * b.val = 0 + b.val; rw [(idx4 t).2]; omega
/-- Window 5's block at point `t`: the columns of gate 1 of the projection, at the block's rows. -/
theorem blk5 (c : Dev nD) (t : Fin cfg0.N) (a : Fin 512) (b : Fin 1024) :
    (X0_5 m c t : Vec Ideal S512x1024 .bf16) (ix2 a b)
      = (m ((c : Thread nD τ).loc main_arg4) : Vec Ideal S49152x9728 .bf16) (ix2 (row t a) ⟨1024 + b.val, by omega⟩) := by
  unfold X0_5 Pipeline.Window.fill
  rw [dif_pos (moved0_5 t _)]
  show V m c main_arg4 (((cfg0.win 5).blk t).view.emb _) = _
  rw [V_main_arg4]
  refine congrArg _ (funext fun x => Fin.ext ?_)
  match x with
  | ⟨0, _⟩ => show win0_5.index t 0 * 512 + 1 * a.val = (64 + t.val) * 512 + a.val; rw [(idx5 t).1]; omega
  | ⟨1, _⟩ => show win0_5.index t 1 * 1024 + 1 * b.val = 1024 + b.val; rw [(idx5 t).2]; omega
/-- Window 6's block at point `t`: the columns of gate 2 of the projection, at the block's rows. -/
theorem blk6 (c : Dev nD) (t : Fin cfg0.N) (a : Fin 512) (b : Fin 1024) :
    (X0_6 m c t : Vec Ideal S512x1024 .bf16) (ix2 a b)
      = (m ((c : Thread nD τ).loc main_arg4) : Vec Ideal S49152x9728 .bf16) (ix2 (row t a) ⟨2048 + b.val, by omega⟩) := by
  unfold X0_6 Pipeline.Window.fill
  rw [dif_pos (moved0_6 t _)]
  show V m c main_arg4 (((cfg0.win 6).blk t).view.emb _) = _
  rw [V_main_arg4]
  refine congrArg _ (funext fun x => Fin.ext ?_)
  match x with
  | ⟨0, _⟩ => show win0_6.index t 0 * 512 + 1 * a.val = (64 + t.val) * 512 + a.val; rw [(idx6 t).1]; omega
  | ⟨1, _⟩ => show win0_6.index t 1 * 1024 + 1 * b.val = 2048 + b.val; rw [(idx6 t).2]; omega
/-- Window 7's block is the whole weight matrix. -/
theorem blk7 (c : Dev nD) (t : Fin cfg0.N) (a : Fin 512) (b : Fin 1024) :
    (iblk m c 7 t : Vec Ideal S512x1024 .bf16) (ix2 a b) = (m ((c : Thread nD τ).loc main_arg5) : Vec Ideal S512x1024 .f32) (ix2 a b) := by
  show (V m c main_v0 : Vec Ideal S512x1024 .bf16) (((cfg0.win 7).blk t).view.emb (ix2 a b)) = _
  rw [V_v0]
  refine congrArg _ (funext fun x => Fin.ext ?_)
  match x with
  | ⟨0, _⟩ => show win0_7.index t 0 * 512 + 1 * a.val = a.val; rw [(idx7 t).1]; omega
  | ⟨1, _⟩ => show win0_7.index t 1 * 1024 + 1 * b.val = b.val; rw [(idx7 t).2]; omega
/-- Window 8's block is the whole weight matrix. -/
theorem blk8 (c : Dev nD) (t : Fin cfg0.N) (a : Fin 512) (b : Fin 1024) :
    (iblk m c 8 t : Vec Ideal S512x1024 .bf16) (ix2 a b) = (m ((c : Thread nD τ).loc main_arg6) : Vec Ideal S512x1024 .f32) (ix2 a b) := by
  show (V m c main_v1 : Vec Ideal S512x1024 .bf16) (((cfg0.win 8).blk t).view.emb (ix2 a b)) = _
  rw [V_v1]
  refine congrArg _ (funext fun x => Fin.ext ?_)
  match x with
  | ⟨0, _⟩ => show win0_8.index t 0 * 512 + 1 * a.val = a.val; rw [(idx8 t).1]; omega
  | ⟨1, _⟩ => show win0_8.index t 1 * 1024 + 1 * b.val = b.val; rw [(idx8 t).2]; omega
/-- Window 9's block is the whole weight matrix. -/
theorem blk9 (c : Dev nD) (t : Fin cfg0.N) (a : Fin 512) (b : Fin 1024) :
    (iblk m c 9 t : Vec Ideal S512x1024 .bf16) (ix2 a b) = (m ((c : Thread nD τ).loc main_arg7) : Vec Ideal S512x1024 .f32) (ix2 a b) := by
  show (V m c main_v2 : Vec Ideal S512x1024 .bf16) (((cfg0.win 9).blk t).view.emb (ix2 a b)) = _
  rw [V_v2]
  refine congrArg _ (funext fun x => Fin.ext ?_)
  match x with
  | ⟨0, _⟩ => show win0_9.index t 0 * 512 + 1 * a.val = a.val; rw [(idx9 t).1]; omega
  | ⟨1, _⟩ => show win0_9.index t 1 * 1024 + 1 * b.val = b.val; rw [(idx9 t).2]; omega
/-- Window 10's block is the whole weight matrix. -/
theorem blk10 (c : Dev nD) (t : Fin cfg0.N) (a : Fin 1024) (b : Fin 1024) :
    (iblk m c 10 t : Vec Ideal S1024x1024 .bf16) (ix2 a b) = (m ((c : Thread nD τ).loc main_arg8) : Vec Ideal S1024x1024 .f32) (ix2 a b) := by
  show (V m c main_v3 : Vec Ideal S1024x1024 .bf16) (((cfg0.win 10).blk t).view.emb (ix2 a b)) = _
  rw [V_v3]
  refine congrArg _ (funext fun x => Fin.ext ?_)
  match x with
  | ⟨0, _⟩ => show win0_10.index t 0 * 1024 + 1 * a.val = a.val; rw [(idx10 t).1]; omega
  | ⟨1, _⟩ => show win0_10.index t 1 * 1024 + 1 * b.val = b.val; rw [(idx10 t).2]; omega

/-- The block the body leaves at point `t` is its one store's value on the point's blocks. -/
theorem outsAt_eq (c : Dev nD) (t : Fin cfg0.N) : outsAt0 m c t
    = k0_pay1 (F := Ideal) (X0_4 m c t) (iblk m c 1 t) (iblk m c 7 t) (X0_5 m c t) (iblk m c 2 t) (iblk m c 8 t)
        (X0_6 m c t) (iblk m c 3 t) (iblk m c 9 t) (iblk m c 0 t) (iblk m c 10 t) := by
  unfold outsAt0 out0_A_11
  rw [View.read_writes_eq_canon _ _ _ (fun y => cover0_A_11 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread]
  repeat rw [View.ld_unit_zero hz]

/-- What point `t` writes back is block `t` of the merge formula. -/
theorem flushed_eq (c : Dev nD) (t : Fin cfg0.N) :
    (dats m 0 c).flushed 11 t = ((cfg0.win 11).blk t).view.read (Elt Ideal) (G m c) := by
  rw [Value.flushed11]
  show outsAt0 m c t = _
  rw [outsAt_eq]
  funext j
  obtain ⟨a, b, rfl⟩ : ∃ (a : Fin 512) (b : Fin 1024), j = ix2 a b := ⟨j 0, j 1, eq_ix2 j⟩
  have e : ((cfg0.win 11).blk t).view.read (Elt Ideal) (G m c) (ix2 a b)
      = Cert.Merge.mergeRow (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (row t a) b := by
    show G m c (((cfg0.win 11).blk t).view.emb (ix2 a b)) = _
    unfold G
    congr 1
    · apply Fin.ext
      show 32768 + (win0_11.index t 0 * 512 + 1 * a.val) = (64 + t.val) * 512 + a.val
      rw [(idx11 t).1]; omega
    · apply Fin.ext
      show win0_11.index t 1 * 1024 + 1 * b.val = b.val
      rw [(idx11 t).2]; omega
  rw [e, pay_apply]
  unfold Cert.Merge.mergeRow
  simp only [blk0, blk1, blk2, blk3, blk4, blk5, blk6, blk7, blk8, blk9, blk10]

/-- The blocks written back fill the result array. -/
theorem cover (i : S16384x1024.Idx) : ∃ t : Fin cfg0.N, (cfg0.win 11).flush t = true ∧ i ∈ ((cfg0.win 11).blk t).view.set := by
  have h0 : (i 0).val < 16384 := (i 0).isLt
  have h1 : (i 1).val < 1024 := (i 1).isLt
  have hN : cfg0.N = 32 := N_0
  obtain ⟨t, ht⟩ : ∃ t : Fin cfg0.N, t.val = (i 0).val / 512 := ⟨⟨(i 0).val / 512, by omega⟩, rfl⟩
  refine ⟨t, flush0_11 _, ?_⟩
  show i ∈ ((View.whole main_v4).slice (win0_11.rect t)).set
  rw [View.set_slice_whole, Rect.mem_set_unit]
  intro a
  match a with
  | ⟨0, _⟩ =>
    show win0_11.index t 0 * 512 ≤ (i 0).val ∧ (i 0).val < win0_11.index t 0 * 512 + 512
    rw [(idx11 t).1]; omega
  | ⟨1, _⟩ =>
    show win0_11.index t 1 * 1024 ≤ (i 1).val ∧ (i 1).val < win0_11.index t 1 * 1024 + 1024
    rw [(idx11 t).2]; omega

/-- So the result array ends holding the merge formula, -/
theorem final (c : Dev nD) : (dats m 0 c).arrAt 11 cfg0.N = G m c :=
  (dats m 0 c).arrAt_eq_of_cover 11 (G m c) (fun t _ => flushed_eq m c t) cover

end Cert.Kernel4Ideal.Merged

namespace Cert.Reference4Ideal.Merged

open Cert.Reference4Ideal Cert.Reference4Ideal.Read

/-- The word of 1. -/
theorem one_word : (FloatOps.ofBits .f32 0x3F800000#32 : Ideal .f32) = (1 : EReal) := by
  rw [Ideal.ofBits_def]; exact Ideal.ofBits_one_f32

/-- The gate of branch `j` at row `r` and column `k`: the logistic function of the projection's column. -/
theorem gate_apply (x4 : (⟨S49152x9728, .bf16⟩ : BufTy).Contents (Elt Ideal)) (r : Fin 49152) (j : Fin 3) (k : Fin 1024) :
    val_main_v8 (F := Ideal) x4 (ix3 r j k) = Ideal.logistic (x4 (ix2 r ⟨1024 * j.val + k.val, by omega⟩)) := by
  rw [val_main_v8_apply, val_main_v7_apply, val_main_cst_0_apply, val_main_v6_apply, val_main_v5_apply, val_main_cst_apply,
    val_main_v4_apply, val_main_v3_apply, val_main_v2_apply, val_main_v1_apply, val_main_v0_apply, one_word]
  simp only [Ideal.hostDivf_def, Ideal.addf_def, Ideal.hostNegf_def, Ideal.extf_def]
  have e : idx_main_v0 (idx_main_v2 (ix3 r j k)) = ix2 r ⟨1024 * j.val + k.val, by omega⟩ := by
    have hr := r.isLt; have hj := j.isLt; have hk := k.isLt
    funext a
    apply Fin.ext
    match a with
    | ⟨0, _⟩ => show ((r.val * 3 + j.val) * 1024 + k.val) / 3072 = r.val; omega
    | ⟨1, _⟩ => show ((r.val * 3 + j.val) * 1024 + k.val) % 3072 = 1024 * j.val + k.val; omega
  rw [e]
  rfl

/-- Gate 0, sliced out and reshaped. -/
theorem gate0_apply (x4 : (⟨S49152x9728, .bf16⟩ : BufTy).Contents (Elt Ideal)) (r : Fin 49152) (k : Fin 1024) :
    val_main_v10 (F := Ideal) x4 (ix2 r k) = Ideal.logistic (x4 (ix2 r ⟨0 + k.val, by omega⟩)) := by
  rw [val_main_v10_apply, val_main_v9_apply]
  have e : idx_main_v9 (idx_main_v10 (ix2 r k)) = ix3 r 0 k := by
    have hr := r.isLt; have hk := k.isLt
    funext a
    apply Fin.ext
    match a with
    | ⟨0, _⟩ => show (r.val * 1024 + k.val) / 1024 = r.val; omega
    | ⟨1, _⟩ => rfl
    | ⟨2, _⟩ => show (r.val * 1024 + k.val) % 1024 = k.val; omega
  rw [e, gate_apply]
  rfl
/-- Branch 0's product with its weights. -/
theorem prod0_apply (x1 : (⟨S49152x512, .bf16⟩ : BufTy).Contents (Elt Ideal)) (x5 : (⟨S512x1024, .f32⟩ : BufTy).Contents (Elt Ideal))
    (r : Fin 49152) (k : Fin 1024) :
    val_main_v12 (F := Ideal) x1 x5 (ix2 r k) = ∑ l : Fin 512, x1 (ix2 r l) * x5 (ix2 l k) := by
  rw [val_main_v12_apply]
  refine Finset.sum_congr rfl fun l _ => ?_
  have er : ridx_main_v12 (ix2 r k) l = ix2 l k := (eq_ix2 _).trans rfl
  have el : lidx_main_v12 (ix2 r k) l = ix2 r l := (eq_ix2 _).trans rfl
  rw [er, el]
  rfl
/-- Gate 1, sliced out and reshaped. -/
theorem gate1_apply (x4 : (⟨S49152x9728, .bf16⟩ : BufTy).Contents (Elt Ideal)) (r : Fin 49152) (k : Fin 1024) :
    val_main_v15 (F := Ideal) x4 (ix2 r k) = Ideal.logistic (x4 (ix2 r ⟨1024 + k.val, by omega⟩)) := by
  rw [val_main_v15_apply, val_main_v14_apply]
  have e : idx_main_v14 (idx_main_v15 (ix2 r k)) = ix3 r 1 k := by
    have hr := r.isLt; have hk := k.isLt
    funext a
    apply Fin.ext
    match a with
    | ⟨0, _⟩ => show (r.val * 1024 + k.val) / 1024 = r.val; omega
    | ⟨1, _⟩ => rfl
    | ⟨2, _⟩ => show (r.val * 1024 + k.val) % 1024 = k.val; omega
  rw [e, gate_apply]
  rfl
/-- Branch 1's product with its weights. -/
theorem prod1_apply (x2 : (⟨S49152x512, .bf16⟩ : BufTy).Contents (Elt Ideal)) (x6 : (⟨S512x1024, .f32⟩ : BufTy).Contents (Elt Ideal))
    (r : Fin 49152) (k : Fin 1024) :
    val_main_v17 (F := Ideal) x2 x6 (ix2 r k) = ∑ l : Fin 512, x2 (ix2 r l) * x6 (ix2 l k) := by
  rw [val_main_v17_apply]
  refine Finset.sum_congr rfl fun l _ => ?_
  have er : ridx_main_v17 (ix2 r k) l = ix2 l k := (eq_ix2 _).trans rfl
  have el : lidx_main_v17 (ix2 r k) l = ix2 r l := (eq_ix2 _).trans rfl
  rw [er, el]
  rfl
/-- Gate 2, sliced out and reshaped. -/
theorem gate2_apply (x4 : (⟨S49152x9728, .bf16⟩ : BufTy).Contents (Elt Ideal)) (r : Fin 49152) (k : Fin 1024) :
    val_main_v21 (F := Ideal) x4 (ix2 r k) = Ideal.logistic (x4 (ix2 r ⟨2048 + k.val, by omega⟩)) := by
  rw [val_main_v21_apply, val_main_v20_apply]
  have e : idx_main_v20 (idx_main_v21 (ix2 r k)) = ix3 r 2 k := by
    have hr := r.isLt; have hk := k.isLt
    funext a
    apply Fin.ext
    match a with
    | ⟨0, _⟩ => show (r.val * 1024 + k.val) / 1024 = r.val; omega
    | ⟨1, _⟩ => rfl
    | ⟨2, _⟩ => show (r.val * 1024 + k.val) % 1024 = k.val; omega
  rw [e, gate_apply]
  rfl
/-- Branch 2's product with its weights. -/
theorem prod2_apply (x3 : (⟨S49152x512, .bf16⟩ : BufTy).Contents (Elt Ideal)) (x7 : (⟨S512x1024, .f32⟩ : BufTy).Contents (Elt Ideal))
    (r : Fin 49152) (k : Fin 1024) :
    val_main_v23 (F := Ideal) x3 x7 (ix2 r k) = ∑ l : Fin 512, x3 (ix2 r l) * x7 (ix2 l k) := by
  rw [val_main_v23_apply]
  refine Finset.sum_congr rfl fun l _ => ?_
  have er : ridx_main_v23 (ix2 r k) l = ix2 l k := (eq_ix2 _).trans rfl
  have el : lidx_main_v23 (ix2 r k) l = ix2 r l := (eq_ix2 _).trans rfl
  rw [er, el]
  rfl

/-- The reference's result at an index: the merge formula. -/
theorem res_apply (x0 : (⟨S49152x1024, .f32⟩ : BufTy).Contents (Elt Ideal)) (x1 x2 x3 : (⟨S49152x512, .bf16⟩ : BufTy).Contents (Elt Ideal))
    (x4 : (⟨S49152x9728, .bf16⟩ : BufTy).Contents (Elt Ideal)) (x5 x6 x7 : (⟨S512x1024, .f32⟩ : BufTy).Contents (Elt Ideal))
    (x8 : (⟨S1024x1024, .f32⟩ : BufTy).Contents (Elt Ideal)) (i : S16384x1024.Idx) :
    val_main_v28 (F := Ideal) x0 x1 x2 x3 x4 x5 x6 x7 x8 i
      = Cert.Merge.mergeRow x0 x1 x2 x3 x4 x5 x6 x7 x8
          ⟨32768 + (i 0).val, by have h : (i 0).val < 16384 := (i 0).isLt; omega⟩ ⟨(i 1).val, (i 1).isLt⟩ := by
  have h0 : (i 0).val < 16384 := (i 0).isLt
  have h1 : (i 1).val < 1024 := (i 1).isLt
  obtain ⟨r, hr⟩ : ∃ r : Fin 49152, r.val = 32768 + (i 0).val := ⟨⟨32768 + (i 0).val, by omega⟩, rfl⟩
  obtain ⟨q, hq⟩ : ∃ q : Fin 1024, q.val = (i 1).val := ⟨⟨(i 1).val, h1⟩, rfl⟩
  have e : idx_main_v28 i = ix2 r q := by
    funext a
    apply Fin.ext
    match a with
    | ⟨0, _⟩ => show 32768 + (i 0).val = r.val; omega
    | ⟨1, _⟩ => exact hq.symm
  have er : (⟨32768 + (i 0).val, by omega⟩ : Fin 49152) = r := Fin.ext hr.symm
  have eq : (⟨(i 1).val, h1⟩ : Fin 1024) = q := Fin.ext hq.symm
  rw [val_main_v28_apply, e, er, eq]
  rw [val_main_v27_apply, val_main_v26_apply, Ideal.addf_def]
  unfold Cert.Merge.mergeRow Cert.Merge.mergeAt
  refine congrArg (x0 (ix2 r q) + ·) (Finset.sum_congr rfl fun k _ => ?_)
  have er : ridx_main_v26 (ix2 r q) k = ix2 k q := (eq_ix2 _).trans rfl
  have el : lidx_main_v26 (ix2 r q) k = ix2 r k := (eq_ix2 _).trans rfl
  rw [er, el, val_main_v25_apply, val_main_v19_apply, val_main_v13_apply, val_main_v18_apply, val_main_v24_apply,
    gate0_apply, gate1_apply, gate2_apply, prod0_apply, prod1_apply, prod2_apply]
  simp only [Ideal.addf_def, Ideal.mulf_def]

end Cert.Reference4Ideal.Merged

namespace Cert.Proof.Merge4

/-- The kernel, its idealization and the reference terminate, leave their arguments as they were and their counters at zero. -/
theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Nothing was rewritten in the idealization. -/
theorem preserves : Cert.preserves_Kernel4_Kernel4Ideal := trivial

/-- In exact arithmetic the kernel's result array and the reference's are the same function of the arguments. -/
theorem algebraic : Cert.algebraic_Kernel4Ideal_Reference4Ideal := by
  intro m ρ m' ρ' _ hagree
  refine ⟨fun c => Cert.Kernel4Ideal.Merged.G m c, ?_, ?_⟩
  · exact (θ_run Cert.Kernel4Ideal.defs _ _).mono
      (fun _ h c => ⟨(h c).1.trans (Cert.Kernel4Ideal.Merged.final m c), (h c).2⟩) (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨h0, h1, h2, h3, h4, h5, h6, h7, h8⟩ := hagree c
    rw [h0, h1, h2, h3, h4, h5, h6, h7, h8]
    funext i
    exact Cert.Reference4Ideal.Merged.res_apply _ _ _ _ _ _ _ _ _ i

end Cert.Proof.Merge4

end
-- ==== Proof.MixerARun.lean ====
/-
  One run of the body of the gated delta rule, for any float values: from its input blocks, whatever its scratch and its output block
  hold, it ends with the input blocks as they were.
-/
module

public import proofs.«01_k».proof.Proof.Gen.Kernel6Ideal.Frame.Runs

@[expose] public section

set_option maxRecDepth 16384

noncomputable section

namespace Cert.Kernel6Ideal.MixerA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple: it runs to the end holding its input blocks unchanged, and its output block and scratch at some
    contents. -/
theorem bodyRun (c : Dev nD) (i : grid0.Coords) (arg2 : Memref sig .tc .smem S2x4 .f32) (harg2 : arg2.IsWhole) (arg3 : Memref sig .tc .smem S2x4 .f32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S5x128 .f32) (harg8 : arg8.IsWhole) (arg9 : Memref sig .tc .vmem S5x128 .f32) (harg9 : arg9.IsWhole) (arg10 : Memref sig .tc .vmem S5x128 .f32) (harg10 : arg10.IsWhole) (arg11 : Memref sig .tc .vmem S1x4096x128 .f32) (harg11 : arg11.IsWhole) (arg12 : Memref sig .tc .vmem S1x16x64x64 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x4096x128 .bf16) (harg16 : arg16.IsWhole) (arg17 : Memref sig .tc .vmem S4112x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S2x4096x128 .f32) (harg21 : arg21.IsWhole) (arg22 : Memref sig .tc .vmem S2x4096x128 .f32) (harg22 : arg22.IsWhole) (arg23 : Memref sig .tc .vmem S2x64x64 .f32) (harg23 : arg23.IsWhole) (arg24 : Memref sig .tc .vmem S2x64x64 .f32) (harg24 : arg24.IsWhole) (arg25 : Memref sig .tc .vmem S2x64x192x128 .bf16) (harg25 : arg25.IsWhole) (arg26 : Memref sig .tc .vmem S2x64x128x128 .bf16) (harg26 : arg26.IsWhole) (arg27 : Memref sig .tc .vmem S2x64x128 .f32) (harg27 : arg27.IsWhole) (arg28 : Memref sig .tc .vmem S4096x128 .f32) (harg28 : arg28.IsWhole) (arg29 : Memref sig .tc .vmem S4096x128 .f32) (harg29 : arg29.IsWhole)
    (x0 : Vec F S2x4 .f32) (x1 : Vec F S2x4 .f32) (x2 : Vec F S1x4096x128 .bf16) (x3 : Vec F S1x4096x128 .bf16) (x4 : Vec F S1x4096x128 .bf16) (x5 : Vec F S1x4096x128 .bf16) (x6 : Vec F S5x128 .f32) (x7 : Vec F S5x128 .f32) (x8 : Vec F S5x128 .f32) (x9 : Vec F S1x4096x128 .f32) (x10 : Vec F S1x16x64x64 .f32) (x11 : Vec F S1x128 .f32) (x12 : Vec F S1x128 .f32) (x13 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_gdn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0_gdn_eq_skeleton]; unfold cc0_gdn_skel
    simp only [k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    iexists _, _; isplitr; swap; · iexact HS12
    ipureintro; rfl

end Cert.Kernel6Ideal.MixerA

end
-- ==== Proof.MixerAFrame.lean ====
/-
  The frame of the gated delta rule, for any float values, from the run of its body.
-/
module

public import proofs.«01_k».proof.Proof.MixerARun
public import Idealize.ShloMosaic.Lib.Claim

@[expose] public section

set_option maxRecDepth 16384

noncomputable section

namespace Cert.Kernel6Ideal.MixerA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one output, of whose block nothing is said. -/
def forgets0 : Fin 15 → Bool := fun w => w.val == 14

/-- The frame from what the launch says of its arrays. -/
theorem frame_of_launch (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 5 rfl).trans ((hA c 5).trans (V_main_arg0 m c)),
      (Pipeline.RDat.FramePost.arr_in h c 9 rfl).trans ((hA c 9).trans (V_main_arg1 m c)),
      (Pipeline.RDat.FramePost.arr_in h c 8 rfl).trans ((hA c 8).trans (V_main_arg2 m c)),
      (Pipeline.RDat.FramePost.arr_in h c 0 rfl).trans ((hA c 0).trans (V_main_arg3 m c)),
      (Pipeline.RDat.FramePost.arr_in h c 1 rfl).trans ((hA c 1).trans (V_main_arg4 m c)),
      ((h c).2 main_arg5 (Pipeline.mem_restRefs_of main_arg5 (by decide) (by decide))).trans (V_main_arg5 m c)⟩) h

/-- The arrays as the region finds them, each input block unchanged by the body, and nothing said of the output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q w := Pipeline.shareOf spec0 w
  owed _ := 0

/-- The arrays are those that the region finds. -/
theorem A_eq (c : Dev nD) (w : Fin cfg0.W) : (dats m 0 c).A w = V m c (Pipeline.arrRef spec0 w) := by
  dsimp only [dats]

/-- The body leaves each input block as it was. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input block is, before the body, its block of the array. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d))

/-- What the body ends with at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d))

set_option maxHeartbeats 2800000 in
/-- From the one, at every point, the body ends with the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  iintro ⟨H0, H1, H2, H3, H4, H5, H6, H7, H8, H9, H10, H11, H12, H13, H14, HS0, HS1, HS2, HS3, HS4, HS5, HS6, HS7, HS8, HS9, HS10, HS11, HS12⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The table's entry is the body. -/
theorem defs₀_row (t : Fin cfg0.N) :
    defs₀ (F := F) .tc cfg0.body (cfg0.bodyArgs t (cfg0.slots t)) = bodyAt0 t := by
  unfold defs₀; rw [Defs.onTc_tc]

/-- So the body does at every point what the launch asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch ends, with every array unchanged but the output, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_launch m ρ (fun c => (dats m 0 c).toRForget forgets0) (A_eq m) (run_main m ρ)

/-- The frame, for any float values: the program ends, its arguments are as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel6Ideal.MixerA

end
-- ==== Proof.MixerBRun.lean ====
/-
  One run of the body of HGRN2, for any float values: from its input blocks, whatever its scratch and its output block
  hold, it ends with the input blocks as they were.
-/
module

public import proofs.«01_k».proof.Proof.Gen.Kernel5Ideal.Frame.Runs

@[expose] public section

set_option maxRecDepth 16384

noncomputable section

namespace Cert.Kernel5Ideal.MixerB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple: it runs to the end holding its input blocks unchanged, and its output block and scratch at some
    contents. -/
theorem bodyRun (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S2x128 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S4096x128 .f32) (harg10 : arg10.IsWhole) (arg11 : Memref sig .tc .vmem S2x4096x128 .f32) (harg11 : arg11.IsWhole) (arg12 : Memref sig .tc .vmem S2x4096x128 .f32) (harg12 : arg12.IsWhole) (arg13 : Memref sig .tc .vmem S2x4096x128 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S4096x128 .f32) (harg16 : arg16.IsWhole) (arg17 : Memref sig .tc .vmem S4096x128 .f32) (harg17 : arg17.IsWhole) (arg18 : Memref sig .tc .vmem S4096x128 .f32) (harg18 : arg18.IsWhole)
    (x0 : Vec F S1x4096x128 .bf16) (x1 : Vec F S1x4096x128 .bf16) (x2 : Vec F S1x4096x128 .bf16) (x3 : Vec F S1x4096x128 .bf16) (x4 : Vec F S1x4096x128 .bf16) (x5 : Vec F S2x128 .f32) (x6 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_hgrn_eq_skeleton]; unfold cc0_hgrn_skel
    simp only [k0_part253_eq_skeleton, k0_part254_eq_skeleton, k0_part255_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Kernel5Ideal.MixerB

end
-- ==== Proof.MixerBFrame.lean ====
/-
  The frame of HGRN2, for any float values, from the run of its body.
-/
module

public import proofs.«01_k».proof.Proof.MixerBRun
public import Idealize.ShloMosaic.Lib.Claim

@[expose] public section

set_option maxRecDepth 16384

noncomputable section

namespace Cert.Kernel5Ideal.MixerB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one output, of whose block nothing is said. -/
def forgets0 : Fin 8 → Bool := fun w => w.val == 7

/-- The frame from what the launch says of its arrays. -/
theorem frame_of_launch (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 4 rfl).trans ((hA c 4).trans (V_main_arg0 m c)),
      (Pipeline.RDat.FramePost.arr_in h c 5 rfl).trans ((hA c 5).trans (V_main_arg1 m c)),
      ((h c).2 main_arg2 (Pipeline.mem_restRefs_of main_arg2 (by decide) (by decide))).trans (V_main_arg2 m c)⟩) h

/-- The arrays as the region finds them, each input block unchanged by the body, and nothing said of the output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

/-- The arrays are those that the region finds. -/
theorem A_eq (c : Dev nD) (w : Fin cfg0.W) : (dats m 0 c).A w = V m c (Pipeline.arrRef spec0 w) := by
  dsimp only [dats]

/-- The body leaves each input block as it was. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input block is, before the body, its block of the array. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What the body ends with at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 1600000 in
/-- From the one, at every point, the body ends with the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The table's entry is the body. -/
theorem defs₀_row (t : Fin cfg0.N) :
    defs₀ (F := F) .tc cfg0.body (cfg0.bodyArgs t (cfg0.slots t)) = bodyAt0 t := by
  unfold defs₀; rw [Defs.onTc_tc]

/-- So the body does at every point what the launch asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch ends, with every array unchanged but the output, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_launch m ρ (fun c => (dats m 0 c).toRForget forgets0) (A_eq m) (run_main m ρ)

/-- The frame, for any float values: the program ends, its arguments are as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.MixerB

end
-- ==== Proof.MixerFrames.lean ====
/-
  The frames of HGRN2 and of the gated delta rule: each program and its idealization, which has the same text.
-/
module

public import proofs.«01_k».proof.Defs
public import proofs.«01_k».proof.Proof.MixerAFrame
public import proofs.«01_k».proof.Proof.MixerBFrame
public import proofs.«01_k».proof.Proof.Gen.Kernel5
public import proofs.«01_k».proof.Proof.Gen.Kernel6

@[expose] public section

noncomputable section

open Idealize.ShloMosaic Idealize.ShloMosaic.TcCoe Idealize.SL.Sem

namespace Cert.Proof.MixerFrames

/-- The two HGRN2 programs' tables of kernel functions agree: each has one entry, and the two functions have one text. -/
theorem defs₀_eq_b : Cert.Kernel5.defs₀ (F := Bits) = Cert.Kernel5Ideal.defs₀ (F := Bits) :=
  congrArg (Defs.onTc (Λ := Cert.Kernel5.Λ₀)) (funext fun l => match l with | ⟨0, _⟩ => funext fun ⟨_, _⟩ => rfl)
/-- So their tables of all functions agree. -/
theorem defs_eq_b : Cert.Kernel5.defs (F := Bits) = Cert.Kernel5Ideal.defs (F := Bits) :=
  congrArg (Pipeline.defs Cert.Kernel5.pcfgs) defs₀_eq_b

/-- HGRN2 terminates, leaves its arguments as they were and its counters at zero: the run is proved for any float values, and the
    two programs have one text. -/
theorem frame_p_b : Cert.quiescent_Kernel5 := fun m ρ _ => by
  rw [defs_eq_b]
  exact Cert.Kernel5Ideal.MixerB.frame (F := Bits) m ρ
/-- So does its idealization. -/
theorem frame_pi_b : Cert.quiescent_Kernel5Ideal := fun m ρ _ => Cert.Kernel5Ideal.MixerB.frame m ρ
/-- The idealization of HGRN2 rewrites nothing. -/
theorem preserves_b : Cert.preserves_Kernel5_Kernel5Ideal := trivial

/-- The two delta rule programs' tables of kernel functions agree. -/
theorem defs₀_eq_a : Cert.Kernel6.defs₀ (F := Bits) = Cert.Kernel6Ideal.defs₀ (F := Bits) :=
  congrArg (Defs.onTc (Λ := Cert.Kernel6.Λ₀)) (funext fun l => match l with | ⟨0, _⟩ => funext fun ⟨_, _⟩ => rfl)
/-- So their tables of all functions agree. -/
theorem defs_eq_a : Cert.Kernel6.defs (F := Bits) = Cert.Kernel6Ideal.defs (F := Bits) :=
  congrArg (Pipeline.defs Cert.Kernel6.pcfgs) defs₀_eq_a

set_option maxHeartbeats 4000000 in
/-- The delta rule terminates, leaves its arguments as they were and its counters at zero. -/
theorem frame_p_a : Cert.quiescent_Kernel6 := fun m ρ _ => by
  rw [defs_eq_a]
  exact Cert.Kernel6Ideal.MixerA.frame (F := Bits) m ρ
/-- So does its idealization. -/
theorem frame_pi_a : Cert.quiescent_Kernel6Ideal := fun m ρ _ => Cert.Kernel6Ideal.MixerA.frame m ρ
/-- The idealization of the delta rule rewrites nothing. -/
theorem preserves_a : Cert.preserves_Kernel6_Kernel6Ideal := trivial

end Cert.Proof.MixerFrames

end
-- ==== Proof.lean ====
/-
  The certificate's claims, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5Ideal
public import proofs.«01_k».proof.Proof.Gen.Kernel5Ideal.Frame.Runs
public import proofs.«01_k».proof.Proof.Gen.Kernel6
public import proofs.«01_k».proof.Proof.Gen.Kernel6Ideal
public import proofs.«01_k».proof.Proof.Gen.Kernel6Ideal.Frame.Runs
public import proofs.«01_k».proof.Proof.Gen.Pre_finite_inputs
public import proofs.«01_k».proof.Proof.Frames
public import proofs.«01_k».proof.Proof.Attn
public import proofs.«01_k».proof.Proof.InprojFrames
public import proofs.«01_k».proof.Proof.Inproj
public import proofs.«01_k».proof.Proof.Merge3
public import proofs.«01_k».proof.Proof.Merge4
public import proofs.«01_k».proof.Proof.MixerFrames
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Kernel6.Gen.facts, Cert.Kernel6Ideal.Gen.facts, Cert.Pre_finite_inputs.Gen.facts,
  Frames.frame_p, Frames.frame_pi, Attn.frame_pi_pre, Frames.frame_ri, Attn.frame_ri_pre,
  InprojFrames.frame_p, InprojFrames.frame_pi, InprojFrames.frame_ri,
  Merge3.frame_p, Merge3.frame_pi, Merge3.frame_ri, Merge4.frame_p, Merge4.frame_pi, Merge4.frame_ri,
  MixerFrames.frame_p_b, MixerFrames.frame_pi_b, MixerFrames.frame_p_a, MixerFrames.frame_pi_a,
  Frames.preserves, Attn.algebraic, Inproj.preserves, Inproj.algebraic,
  Merge3.preserves, Merge3.algebraic, Merge4.preserves, Merge4.algebraic, MixerFrames.preserves_b, MixerFrames.preserves_a⟩

end Cert.Proof

end
